-- ==== Defs.lean ====
def Pre_Kernel [hPre_drawn : Cert.Pre_drawn.Facts] (m : (ℓ : Loc Cert.Kernel.nD Cert.Kernel.τ Cert.Kernel.sig) → Buf (Elt Bits) ℓ) : Prop :=
  ∀ c : Dev Cert.Kernel.nD,
    (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_drawn : Cert.Pre_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "qs" .f32 0x3E0293EE#32 (((11863283 / 134217728) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_drawn : Cert.Pre_drawn.Facts) (hPre_finite : Cert.Pre_finite.Facts),
    quiescent_Kernel (hKernel := hKernel) (hPre_drawn := hPre_drawn)
    ∧ quiescent_KernelIdeal (hKernelIdeal := hKernelIdeal) (hPre_drawn := hPre_drawn)
    ∧ quiescent_KernelIdeal_pre_finite (hKernelIdeal := hKernelIdeal) (hPre_finite := hPre_finite)
    ∧ quiescent_ReferenceIdeal (hReferenceIdeal := hReferenceIdeal) (hPre_drawn := hPre_drawn)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_drawn.lean ====
abbrev S32x1x8x128 : Shape := ⟨4, ![32, 1, 8, 128]⟩
abbrev S2x2560x128x8x128 : Shape := ⟨5, ![2, 2560, 128, 8, 128]⟩
abbrev S32x1x256 : Shape := ⟨3, ![32, 1, 256]⟩
abbrev S32x64 : Shape := ⟨2, ![32, 64]⟩
abbrev S_ : Shape := ⟨0, ![]⟩

class Facts : Prop where
  bcast_S_S32x1x256 : S_.BroadcastsInDim S32x1x256 (![] : Fin 0 → Fin S32x1x256.rank)
  reducesTo_S32x1x256_S_d0_1_2 : S32x1x256.ReducesTo [0, 1, 2] S_
  h_S_ : 0 < S_.numel
  bcast_S_S32x64 : S_.BroadcastsInDim S32x64 (![] : Fin 0 → Fin S32x64.rank)
  reducesTo_S32x64_S_d0_1 : S32x64.ReducesTo [0, 1] S_

variable [Facts]

def fn {F : FTy → Type} [FloatOps F] (main_arg0 : FVec F S32x1x8x128 .f32) (main_arg1 : FVec F S32x1x8x128 .f32) (main_arg2 : FVec F S32x1x8x128 .f32) (main_arg3 : FVec F S2x2560x128x8x128 .f32) (main_arg4 : FVec F S2x2560x128x8x128 .f32) (main_arg5 : IVec S32x1x256 32) (main_arg6 : IVec S32x64 32) : IVec S_ 1 :=
  let main_c : IVec S_ 32 := constantI S_ 32 0#32
  let main_v0 : IVec S32x1x256 32 := broadcastInDim S32x1x256 ![] bcast_S_S32x1x256 main_c
  let main_v1 : IVec S32x1x256 1 := cmpi .sge main_arg5 main_v0
  let main_c_0 : IVec S_ 1 := constantI S_ 1 1#1
  let main_v2 : IVec S_ 1 := (fun x v => Host.reduce IntOp.andi x v reducesTo_S32x1x256_S_d0_1_2 h_S_) main_v1 main_c_0
  let main_c_1 : IVec S_ 32 := constantI S_ 32 8192#32
  let main_v3 : IVec S32x1x256 32 := broadcastInDim S32x1x256 ![] bcast_S_S32x1x256 main_c_1
  let main_v4 : IVec S32x1x256 1 := cmpi .sle main_arg5 main_v3
  let main_c_2 : IVec S_ 1 := constantI S_ 1 1#1
  let main_v5 : IVec S_ 1 := (fun x v => Host.reduce IntOp.andi x v reducesTo_S32x1x256_S_d0_1_2 h_S_) main_v4 main_c_2
  let main_v6 : IVec S_ 1 := andi main_v2 main_v5
  let main_c_3 : IVec S_ 32 := constantI S_ 32 0#32
  let main_v7 : IVec S32x64 32 := broadcastInDim S32x64 ![] bcast_S_S32x64 main_c_3
  let main_v8 : IVec S32x64 1 := cmpi .sge main_arg6 main_v7
  let main_c_4 : IVec S_ 1 := constantI S_ 1 1#1
  let main_v9 : IVec S_ 1 := (fun x v => Host.reduce IntOp.andi x v reducesTo_S32x64_S_d0_1 h_S_) main_v8 main_c_4
  let main_c_5 : IVec S_ 32 := constantI S_ 32 2560#32
  let main_v10 : IVec S32x64 32 := broadcastInDim S32x64 ![] bcast_S_S32x64 main_c_5
  let main_v11 : IVec S32x64 1 := cmpi .slt main_arg6 main_v10
  let main_c_6 : IVec S_ 1 := constantI S_ 1 1#1
  let main_v12 : IVec S_ 1 := (fun x v => Host.reduce IntOp.andi x v reducesTo_S32x64_S_d0_1 h_S_) main_v11 main_c_6
  let main_v13 : IVec S_ 1 := andi main_v9 main_v12
  let main_v14 : IVec S_ 1 := andi main_v6 main_v13
  main_v14
-- ==== Pre_finite.lean ====
abbrev S32x1x8x128 : Shape := ⟨4, ![32, 1, 8, 128]⟩
abbrev S2x2560x128x8x128 : Shape := ⟨5, ![2, 2560, 128, 8, 128]⟩
abbrev S32x1x256 : Shape := ⟨3, ![32, 1, 256]⟩
abbrev S32x64 : Shape := ⟨2, ![32, 64]⟩
abbrev S_ : Shape := ⟨0, ![]⟩

class Facts : Prop where
  bcast_S_S32x1x256 : S_.BroadcastsInDim S32x1x256 (![] : Fin 0 → Fin S32x1x256.rank)
  reducesTo_S32x1x256_S_d0_1_2 : S32x1x256.ReducesTo [0, 1, 2] S_
  h_S_ : 0 < S_.numel
  bcast_S_S32x64 : S_.BroadcastsInDim S32x64 (![] : Fin 0 → Fin S32x64.rank)
  reducesTo_S32x64_S_d0_1 : S32x64.ReducesTo [0, 1] S_
  bcast_S_S32x1x8x128 : S_.BroadcastsInDim S32x1x8x128 (![] : Fin 0 → Fin S32x1x8x128.rank)
  reducesTo_S32x1x8x128_S_d0_1_2_3 : S32x1x8x128.ReducesTo [0, 1, 2, 3] S_
  bcast_S_S2x2560x128x8x128 : S_.BroadcastsInDim S2x2560x128x8x128 (![] : Fin 0 → Fin S2x2560x128x8x128.rank)
  reducesTo_S2x2560x128x8x128_S_d0_1_2_3_4 : S2x2560x128x8x128.ReducesTo [0, 1, 2, 3, 4] S_

variable [Facts]

def fn_part1 {F : FTy → Type} [FloatOps F] (main_arg1 : FVec F S32x1x8x128 .f32) (main_arg3 : FVec F S2x2560x128x8x128 .f32) (main_v14 : IVec S_ 1) (main_v15 : FVec F S32x1x8x128 .f32) : IVec S_ 1 :=
  let main_cst : FVec F S_ .f32 := constant S_ .f32 0x7F800000#32
  let main_v16 : FVec F S32x1x8x128 .f32 := broadcastInDim S32x1x8x128 ![] bcast_S_S32x1x8x128 main_cst
  let main_v17 : IVec S32x1x8x128 1 := cmpf .olt main_v15 main_v16
  let main_c_7 : IVec S_ 1 := constantI S_ 1 1#1
  let main_v18 : IVec S_ 1 := (fun x v => Host.reduce IntOp.andi x v reducesTo_S32x1x8x128_S_d0_1_2_3 h_S_) main_v17 main_c_7
  let main_v19 : FVec F S32x1x8x128 .f32 := Host.absf main_arg1
  let main_cst_8 : FVec F S_ .f32 := constant S_ .f32 0x7F800000#32
  let main_v20 : FVec F S32x1x8x128 .f32 := broadcastInDim S32x1x8x128 ![] bcast_S_S32x1x8x128 main_cst_8
  let main_v21 : IVec S32x1x8x128 1 := cmpf .olt main_v19 main_v20
  let main_c_9 : IVec S_ 1 := constantI S_ 1 1#1
  let main_v22 : IVec S_ 1 := (fun x v => Host.reduce IntOp.andi x v reducesTo_S32x1x8x128_S_d0_1_2_3 h_S_) main_v21 main_c_9
  let main_v23 : IVec S_ 1 := andi main_v18 main_v22
  let main_v24 : FVec F S2x2560x128x8x128 .f32 := Host.absf main_arg3
  let main_cst_10 : FVec F S_ .f32 := constant S_ .f32 0x7F800000#32
  let main_v25 : FVec F S2x2560x128x8x128 .f32 := broadcastInDim S2x2560x128x8x128 ![] bcast_S_S2x2560x128x8x128 main_cst_10
  let main_v26 : IVec S2x2560x128x8x128 1 := cmpf .olt main_v24 main_v25
  let main_c_11 : IVec S_ 1 := constantI S_ 1 1#1
  let main_v27 : IVec S_ 1 := (fun x v => Host.reduce IntOp.andi x v reducesTo_S2x2560x128x8x128_S_d0_1_2_3_4 h_S_) main_v26 main_c_11
  let main_v28 : IVec S_ 1 := andi main_v23 main_v27
  let main_v29 : IVec S_ 1 := andi main_v14 main_v28
  main_v29

def fn {F : FTy → Type} [FloatOps F] (main_arg0 : FVec F S32x1x8x128 .f32) (main_arg1 : FVec F S32x1x8x128 .f32) (main_arg2 : FVec F S32x1x8x128 .f32) (main_arg3 : FVec F S2x2560x128x8x128 .f32) (main_arg4 : FVec F S2x2560x128x8x128 .f32) (main_arg5 : IVec S32x1x256 32) (main_arg6 : IVec S32x64 32) : IVec S_ 1 :=
  let main_c : IVec S_ 32 := constantI S_ 32 0#32
  let main_v0 : IVec S32x1x256 32 := broadcastInDim S32x1x256 ![] bcast_S_S32x1x256 main_c
  let main_v1 : IVec S32x1x256 1 := cmpi .sge main_arg5 main_v0
  let main_c_0 : IVec S_ 1 := constantI S_ 1 1#1
  let main_v2 : IVec S_ 1 := (fun x v => Host.reduce IntOp.andi x v reducesTo_S32x1x256_S_d0_1_2 h_S_) main_v1 main_c_0
  let main_c_1 : IVec S_ 32 := constantI S_ 32 8192#32
  let main_v3 : IVec S32x1x256 32 := broadcastInDim S32x1x256 ![] bcast_S_S32x1x256 main_c_1
  let main_v4 : IVec S32x1x256 1 := cmpi .sle main_arg5 main_v3
  let main_c_2 : IVec S_ 1 := constantI S_ 1 1#1
  let main_v5 : IVec S_ 1 := (fun x v => Host.reduce IntOp.andi x v reducesTo_S32x1x256_S_d0_1_2 h_S_) main_v4 main_c_2
  let main_v6 : IVec S_ 1 := andi main_v2 main_v5
  let main_c_3 : IVec S_ 32 := constantI S_ 32 0#32
  let main_v7 : IVec S32x64 32 := broadcastInDim S32x64 ![] bcast_S_S32x64 main_c_3
  let main_v8 : IVec S32x64 1 := cmpi .sge main_arg6 main_v7
  let main_c_4 : IVec S_ 1 := constantI S_ 1 1#1
  let main_v9 : IVec S_ 1 := (fun x v => Host.reduce IntOp.andi x v reducesTo_S32x64_S_d0_1 h_S_) main_v8 main_c_4
  let main_c_5 : IVec S_ 32 := constantI S_ 32 2560#32
  let main_v10 : IVec S32x64 32 := broadcastInDim S32x64 ![] bcast_S_S32x64 main_c_5
  let main_v11 : IVec S32x64 1 := cmpi .slt main_arg6 main_v10
  let main_c_6 : IVec S_ 1 := constantI S_ 1 1#1
  let main_v12 : IVec S_ 1 := (fun x v => Host.reduce IntOp.andi x v reducesTo_S32x64_S_d0_1 h_S_) main_v11 main_c_6
  let main_v13 : IVec S_ 1 := andi main_v9 main_v12
  let main_v14 : IVec S_ 1 := andi main_v6 main_v13
  let main_v15 : FVec F S32x1x8x128 .f32 := Host.absf main_arg0
  fn_part1 (F := F) main_arg1 main_arg3 main_v14 main_v15
-- ==== Kernel.lean ====
abbrev S32x1x8x128 : Shape := ⟨4, ![32, 1, 8, 128]⟩
abbrev S2x2560x128x8x128 : Shape := ⟨5, ![2, 2560, 128, 8, 128]⟩
abbrev S32x1x256 : Shape := ⟨3, ![32, 1, 256]⟩
abbrev S32x64 : Shape := ⟨2, ![32, 64]⟩
abbrev S32x8x128 : Shape := ⟨3, ![32, 8, 128]⟩
abbrev S8192 : Shape := ⟨1, ![8192]⟩
abbrev S2048 : Shape := ⟨1, ![2048]⟩
abbrev S1x8x128 : Shape := ⟨3, ![1, 8, 128]⟩
abbrev S2048x128 : Shape := ⟨2, ![2048, 128]⟩
abbrev S2 : Shape := ⟨1, ![2]⟩
abbrev S1 : Shape := ⟨1, ![1]⟩
abbrev S_ : Shape := ⟨0, ![]⟩
abbrev S8x128 : Shape := ⟨2, ![8, 128]⟩
abbrev S1x1x1x8x128 : Shape := ⟨5, ![1, 1, 1, 8, 128]⟩
abbrev S8x2048 : Shape := ⟨2, ![8, 2048]⟩
abbrev S8 : Shape := ⟨1, ![8]⟩
abbrev S8x1 : Shape := ⟨2, ![8, 1]⟩

abbrev nBuf : Space → Nat
  | .hbm => 11
  | .vmem => 10
  | .smem => 2
  | _ => 0

abbrev bufTy : (tb : Table) → Fin (tcTables nBuf tb) → BufTy
  | .hbm, ⟨0, _⟩ => ⟨S32x1x8x128, .f32⟩
  | .hbm, ⟨1, _⟩ => ⟨S32x1x8x128, .f32⟩
  | .hbm, ⟨2, _⟩ => ⟨S32x1x8x128, .f32⟩
  | .hbm, ⟨3, _⟩ => ⟨S2x2560x128x8x128, .f32⟩
  | .hbm, ⟨4, _⟩ => ⟨S2x2560x128x8x128, .f32⟩
  | .hbm, ⟨5, _⟩ => ⟨S32x1x256, .i32⟩
  | .hbm, ⟨6, _⟩ => ⟨S32x64, .i32⟩
  | .hbm, ⟨7, _⟩ => ⟨S32x8x128, .f32⟩
  | .hbm, ⟨8, _⟩ => ⟨S32x8x128, .f32⟩
  | .hbm, ⟨9, _⟩ => ⟨S32x8x128, .f32⟩
  | .hbm, ⟨10, _⟩ => ⟨S32x8x128, .bf16⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .bf16⟩
  | .local _ .vmem, ⟨7, _⟩ => ⟨S1x8x128, .bf16⟩
  | .local _ .vmem, ⟨8, _⟩ => ⟨S2048x128, .f32⟩
  | .local _ .vmem, ⟨9, _⟩ => ⟨S2048x128, .f32⟩
  | .local _ .smem, ⟨0, _⟩ => ⟨S8192, .i32⟩
  | .local _ .smem, ⟨1, _⟩ => ⟨S2048, .i32⟩
  | _, _ => ⟨S32x1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v5 : Ref sig .tc := ⟨.hbm, 10, rfl⟩
abbrev main_v3 : Ref sig .tc := ⟨.smem, 0, rfl⟩
abbrev main_v4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_v3.idx, main_v4.idx], fun | 0 => main_v3.names | 1 => main_v4.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (i : grid0.Coords) (k0_t1 : Fin k0_t1_loop.trips) : Fin 1 → Nat :=
  let arg0 : BitVec 32 := BitVec.ofNat 32 (i 0).val
  let c256_i32_19 : BitVec 32 := 256#32
  let v34 : BitVec 32 := Scalar.muli arg0 c256_i32_19
  let c0_i32 : BitVec 32 := 0#32
  let c1_i32 : BitVec 32 := 1#32
  let arg12 : BitVec 32 := Scf.iv c0_i32 c1_i32 k0_t1
  let v35 : BitVec 32 := Scalar.addi v34 arg12
  let v36 : Index := Scalar.indexCast v35
  ![v36.toNat]
def k0_off2 (i : grid0.Coords) (v37 : BitVec 32) : Fin 1 → Nat :=
  let arg0 : BitVec 32 := BitVec.ofNat 32 (i 0).val
  let c64_i32 : BitVec 32 := 64#32
  let v39 : BitVec 32 := Scalar.muli arg0 c64_i32
  let c8191_i32 : BitVec 32 := 8191#32
  let v38 : BitVec 32 := Scalar.minsi v37 c8191_i32
  let c0_i32_20 : BitVec 32 := 0#32
  let v41 : BitVec 1 := Scalar.cmpi .sgt v38 c0_i32_20
  let v42 : BitVec 32 := Scalar.extui v41
  let c0_i32_21 : BitVec 32 := 0#32
  let v43 : BitVec 1 := Scalar.cmpi .slt v38 c0_i32_21
  let v44 : BitVec 32 := Scalar.extui v43
  let v45 : BitVec 32 := Scalar.subi v42 v44
  let c128_i32 : BitVec 32 := 128#32
  let c0_i32_22 : BitVec 32 := 0#32
  let v46 : BitVec 1 := Scalar.cmpi .sgt c128_i32 c0_i32_22
  let v47 : BitVec 32 := Scalar.extui v46
  let c0_i32_23 : BitVec 32 := 0#32
  let v48 : BitVec 1 := Scalar.cmpi .slt c128_i32 c0_i32_23
  let v49 : BitVec 32 := Scalar.extui v48
  let v50 : BitVec 32 := Scalar.subi v47 v49
  let v51 : BitVec 1 := Scalar.cmpi .ne v45 v50
  let v52 : BitVec 32 := Scalar.remsi v38 c128_i32
  let c0_i32_24 : BitVec 32 := 0#32
  let v53 : BitVec 1 := Scalar.cmpi .ne v52 c0_i32_24
  let v54 : BitVec 1 := Scalar.andi v51 v53
  let v40 : BitVec 32 := Scalar.divsi v38 c128_i32
  let c1_i32_25 : BitVec 32 := 1#32
  let v55 : BitVec 32 := Scalar.subi v40 c1_i32_25
  let v56 : BitVec 32 := Scalar.select v54 v55 v40
  let v57 : BitVec 32 := Scalar.addi v39 v56
  let v58 : Index := Scalar.indexCast v57
  ![v58.toNat]

def k0_chk1 (i : grid0.Coords) (v37 : BitVec 32) : Prop :=
  (∀ a, (k0_off2 i v37) a + S1.size a ≤ S2048.size a)
theorem k0_off2_inb : ∀ (i : grid0.Coords) (v37 : BitVec 32) (k0_hw1 : k0_chk1 i v37), ∀ a, (k0_off2 i v37) a + S1.size a ≤ S2048.size a := fun i v37 k0_hw1 => k0_hw1

def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v70 : BitVec 32 := Scalar.muli arg12 c8_i32
  v70
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v70 : BitVec 32 := Scalar.muli arg12 c8_i32
  let v71 : BitVec 32 := v70
  let c0_i32_38 : BitVec 32 := 0#32
  ![v71.toNat, 0]
def k0_off4 (v37 : BitVec 32) (v59 : BitVec 32) : Fin 5 → Nat :=
  let c0_i32_32 : BitVec 32 := 0#32
  let c8191_i32 : BitVec 32 := 8191#32
  let v38 : BitVec 32 := Scalar.minsi v37 c8191_i32
  let c128_i32_26 : BitVec 32 := 128#32
  let c0_i32_27 : BitVec 32 := 0#32
  let v60 : BitVec 1 := Scalar.cmpi .eq c128_i32_26 c0_i32_27
  let c1_i32_28 : BitVec 32 := 1#32
  let v61 : BitVec 32 := Scalar.select v60 c1_i32_28 c128_i32_26
  let v62 : BitVec 32 := Scalar.remsi v38 v61
  let c0_i32_30 : BitVec 32 := 0#32
  let v64 : BitVec 1 := Scalar.cmpi .slt v62 c0_i32_30
  let c0_i32_31 : BitVec 32 := 0#32
  let v65 : BitVec 1 := Scalar.cmpi .slt v61 c0_i32_31
  let v66 : BitVec 1 := Scalar.xori v64 v65
  let c0_i32_29 : BitVec 32 := 0#32
  let v63 : BitVec 1 := Scalar.cmpi .ne v62 c0_i32_29
  let v67 : BitVec 1 := Scalar.andi v66 v63
  let v68 : BitVec 32 := Scalar.addi v62 v61
  let v69 : BitVec 32 := Scalar.select v67 v68 v62
  let c0_i32_39 : BitVec 32 := 0#32
  let c0_i32_40 : BitVec 32 := 0#32
  ![0, v59.toNat, v69.toNat, 0, 0]
def k0_cond1 (v37 : BitVec 32) : BitVec 1 :=
  let c8192_i32 : BitVec 32 := 8192#32
  let v72 : BitVec 1 := Scalar.cmpi .slt v37 c8192_i32
  let v73 : BitVec 32 := Scalar.extui v72
  let c0_i32_36 : BitVec 32 := 0#32
  let v74 : BitVec 1 := Scalar.cmpi .ne v73 c0_i32_36
  v74

def k0_chk2 (v37 : BitVec 32) (v59 : BitVec 32) : Prop :=
  (∀ (k0_h1 : k0_cond1 v37 = 1#1), ∀ a, (k0_off4 v37 v59) a + S1x1x1x8x128.size a ≤ S2x2560x128x8x128.size a)
theorem k0_off4_inb : ∀ (v37 : BitVec 32) (v59 : BitVec 32) (k0_hw2 : k0_chk2 v37 v59), ∀ (k0_h1 : k0_cond1 v37 = 1#1), ∀ a, (k0_off4 v37 v59) a + S1x1x1x8x128.size a ≤ S2x2560x128x8x128.size a := fun v37 v59 k0_hw2 k0_h1 => k0_hw2 k0_h1

def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v70 : BitVec 32 := Scalar.muli arg12 c8_i32
  let v71 : BitVec 32 := v70
  let c0_i32_41 : BitVec 32 := 0#32
  ![v71.toNat, 0]
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v70 : BitVec 32 := Scalar.muli arg12 c8_i32
  let v71 : BitVec 32 := v70
  let v80 : Index := Scalar.indexCast v71
  let c0_41 : Index := 0#32
  ![v80.toNat, 0]
@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off7 (i : grid0.Coords) (k0_t2 : Fin k0_t2_loop.trips) : Fin 1 → Nat :=
  let arg0 : BitVec 32 := BitVec.ofNat 32 (i 0).val
  let c256_i32_19 : BitVec 32 := 256#32
  let v34 : BitVec 32 := Scalar.muli arg0 c256_i32_19
  let c0_i32_1 : BitVec 32 := 0#32
  let c1_i32_3 : BitVec 32 := 1#32
  let arg12 : BitVec 32 := Scf.iv c0_i32_1 c1_i32_3 k0_t2
  let v35 : BitVec 32 := Scalar.addi v34 arg12
  let v36 : Index := Scalar.indexCast v35
  ![v36.toNat]
def k0_off8 (i : grid0.Coords) (v37 : BitVec 32) : Fin 1 → Nat :=
  let arg0 : BitVec 32 := BitVec.ofNat 32 (i 0).val
  let c64_i32 : BitVec 32 := 64#32
  let v39 : BitVec 32 := Scalar.muli arg0 c64_i32
  let c8191_i32 : BitVec 32 := 8191#32
  let v38 : BitVec 32 := Scalar.minsi v37 c8191_i32
  let c0_i32_20 : BitVec 32 := 0#32
  let v41 : BitVec 1 := Scalar.cmpi .sgt v38 c0_i32_20
  let v42 : BitVec 32 := Scalar.extui v41
  let c0_i32_21 : BitVec 32 := 0#32
  let v43 : BitVec 1 := Scalar.cmpi .slt v38 c0_i32_21
  let v44 : BitVec 32 := Scalar.extui v43
  let v45 : BitVec 32 := Scalar.subi v42 v44
  let c128_i32 : BitVec 32 := 128#32
  let c0_i32_22 : BitVec 32 := 0#32
  let v46 : BitVec 1 := Scalar.cmpi .sgt c128_i32 c0_i32_22
  let v47 : BitVec 32 := Scalar.extui v46
  let c0_i32_23 : BitVec 32 := 0#32
  let v48 : BitVec 1 := Scalar.cmpi .slt c128_i32 c0_i32_23
  let v49 : BitVec 32 := Scalar.extui v48
  let v50 : BitVec 32 := Scalar.subi v47 v49
  let v51 : BitVec 1 := Scalar.cmpi .ne v45 v50
  let v52 : BitVec 32 := Scalar.remsi v38 c128_i32
  let c0_i32_24 : BitVec 32 := 0#32
  let v53 : BitVec 1 := Scalar.cmpi .ne v52 c0_i32_24
  let v54 : BitVec 1 := Scalar.andi v51 v53
  let v40 : BitVec 32 := Scalar.divsi v38 c128_i32
  let c1_i32_25 : BitVec 32 := 1#32
  let v55 : BitVec 32 := Scalar.subi v40 c1_i32_25
  let v56 : BitVec 32 := Scalar.select v54 v55 v40
  let v57 : BitVec 32 := Scalar.addi v39 v56
  let v58 : Index := Scalar.indexCast v57
  ![v58.toNat]

def k0_chk3 (i : grid0.Coords) (v37 : BitVec 32) : Prop :=
  (∀ a, (k0_off8 i v37) a + S1.size a ≤ S2048.size a)
theorem k0_off8_inb : ∀ (i : grid0.Coords) (v37 : BitVec 32) (k0_hw3 : k0_chk3 i v37), ∀ a, (k0_off8 i v37) a + S1.size a ≤ S2048.size a := fun i v37 k0_hw3 => k0_hw3

def k0_mult2 (k0_t2 : Fin k0_t2_loop.trips) : BitVec 32 :=
  let c0_i32_1 : BitVec 32 := 0#32
  let c1_i32_3 : BitVec 32 := 1#32
  let arg12 : BitVec 32 := Scf.iv c0_i32_1 c1_i32_3 k0_t2
  let c8_i32 : BitVec 32 := 8#32
  let v70 : BitVec 32 := Scalar.muli arg12 c8_i32
  v70
def k0_off9 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c8_i32 : BitVec 32 := 8#32
  let v70 : BitVec 32 := Scalar.muli arg12 c8_i32
  let v71 : BitVec 32 := v70
  let c0_i32_37 : BitVec 32 := 0#32
  ![v71.toNat, 0]
def k0_off10 (v37 : BitVec 32) (v59 : BitVec 32) : Fin 5 → Nat :=
  let c0_i32_32 : BitVec 32 := 0#32
  let c8191_i32 : BitVec 32 := 8191#32
  let v38 : BitVec 32 := Scalar.minsi v37 c8191_i32
  let c128_i32_26 : BitVec 32 := 128#32
  let c0_i32_27 : BitVec 32 := 0#32
  let v60 : BitVec 1 := Scalar.cmpi .eq c128_i32_26 c0_i32_27
  let c1_i32_28 : BitVec 32 := 1#32
  let v61 : BitVec 32 := Scalar.select v60 c1_i32_28 c128_i32_26
  let v62 : BitVec 32 := Scalar.remsi v38 v61
  let c0_i32_30 : BitVec 32 := 0#32
  let v64 : BitVec 1 := Scalar.cmpi .slt v62 c0_i32_30
  let c0_i32_31 : BitVec 32 := 0#32
  let v65 : BitVec 1 := Scalar.cmpi .slt v61 c0_i32_31
  let v66 : BitVec 1 := Scalar.xori v64 v65
  let c0_i32_29 : BitVec 32 := 0#32
  let v63 : BitVec 1 := Scalar.cmpi .ne v62 c0_i32_29
  let v67 : BitVec 1 := Scalar.andi v66 v63
  let v68 : BitVec 32 := Scalar.addi v62 v61
  let v69 : BitVec 32 := Scalar.select v67 v68 v62
  let c0_i32_38 : BitVec 32 := 0#32
  let c0_i32_39 : BitVec 32 := 0#32
  ![0, v59.toNat, v69.toNat, 0, 0]
def k0_cond3 (v37 : BitVec 32) : BitVec 1 :=
  let c8192_i32 : BitVec 32 := 8192#32
  let v72 : BitVec 1 := Scalar.cmpi .slt v37 c8192_i32
  let v73 : BitVec 32 := Scalar.extui v72
  let c0_i32_36 : BitVec 32 := 0#32
  let v74 : BitVec 1 := Scalar.cmpi .ne v73 c0_i32_36
  v74

def k0_chk4 (v37 : BitVec 32) (v59 : BitVec 32) : Prop :=
  (∀ (k0_h3 : k0_cond3 v37 = 1#1), ∀ a, (k0_off10 v37 v59) a + S1x1x1x8x128.size a ≤ S2x2560x128x8x128.size a)
theorem k0_off10_inb : ∀ (v37 : BitVec 32) (v59 : BitVec 32) (k0_hw4 : k0_chk4 v37 v59), ∀ (k0_h3 : k0_cond3 v37 = 1#1), ∀ a, (k0_off10 v37 v59) a + S1x1x1x8x128.size a ≤ S2x2560x128x8x128.size a := fun v37 v59 k0_hw4 k0_h3 => k0_hw4 k0_h3

def k0_off11 (k0_t2 : Fin k0_t2_loop.trips) : Fin 2 → Nat :=
  let c0_i32_1 : BitVec 32 := 0#32
  let c1_i32_3 : BitVec 32 := 1#32
  let arg12 : BitVec 32 := Scf.iv c0_i32_1 c1_i32_3 k0_t2
  let c8_i32 : BitVec 32 := 8#32
  let v70 : BitVec 32 := Scalar.muli arg12 c8_i32
  let v71 : BitVec 32 := v70
  let c0_i32_40 : BitVec 32 := 0#32
  ![v71.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "mask" => some ⊥
  | "qs" => some (((11863283 / 134217728) * (Real.log 2)⁻¹ : ℝ) : EReal)
  | _ => none
-- ==== ReferenceIdeal.lean ====
abbrev S32x1x8x128 : Shape := ⟨4, ![32, 1, 8, 128]⟩
abbrev S2x2560x128x8x128 : Shape := ⟨5, ![2, 2560, 128, 8, 128]⟩
abbrev S32x1x256 : Shape := ⟨3, ![32, 1, 256]⟩
abbrev S32x64 : Shape := ⟨2, ![32, 64]⟩
abbrev S1 : Shape := ⟨1, ![1]⟩
abbrev S_ : Shape := ⟨0, ![]⟩
abbrev S32x1x256x1x1 : Shape := ⟨5, ![32, 1, 256, 1, 1]⟩
abbrev S32x1x256x1 : Shape := ⟨4, ![32, 1, 256, 1]⟩
abbrev S32x1x256x3 : Shape := ⟨4, ![32, 1, 256, 3]⟩
abbrev S32x1x256x8x128 : Shape := ⟨5, ![32, 1, 256, 8, 128]⟩
abbrev S1x1x1 : Shape := ⟨3, ![1, 1, 1]⟩
abbrev S32x1x8x256 : Shape := ⟨4, ![32, 1, 8, 256]⟩
abbrev S32x1x1x256 : Shape := ⟨4, ![32, 1, 1, 256]⟩
abbrev S32x1x8 : Shape := ⟨3, ![32, 1, 8]⟩
abbrev S32x1x8x1 : Shape := ⟨4, ![32, 1, 8, 1]⟩
abbrev S32x8x128 : Shape := ⟨3, ![32, 8, 128]⟩

abbrev nBuf : Space → Nat
  | .hbm => 174
  | .vmem => 0
  | .smem => 0
  | _ => 0

abbrev hbmTy0_0 (i : Nat) : BufTy := match i % 128 with
  | 0 => ⟨S32x1x8x128, .f32⟩
  | 1 => ⟨S32x1x8x128, .f32⟩
  | 2 => ⟨S32x1x8x128, .f32⟩
  | 3 => ⟨S2x2560x128x8x128, .f32⟩
  | 4 => ⟨S2x2560x128x8x128, .f32⟩
  | 5 => ⟨S32x1x256, .i32⟩
  | 6 => ⟨S32x64, .i32⟩
  | 7 => ⟨S1, .i32⟩
  | 8 => ⟨S_, .i32⟩
  | 9 => ⟨S1, .i32⟩
  | 10 => ⟨S1, .i32⟩
  | 11 => ⟨S_, .i32⟩
  | 12 => ⟨S32x1x256, .i32⟩
  | 13 => ⟨S32x1x256, .i1⟩
  | 14 => ⟨S32x1x256x1x1, .i1⟩
  | 15 => ⟨S_, .i32⟩
  | 16 => ⟨S_, .i32⟩
  | 17 => ⟨S32x1x256, .i32⟩
  | 18 => ⟨S32x1x256, .i32⟩
  | 19 => ⟨S32x1x256, .i32⟩
  | 20 => ⟨S_, .i32⟩
  | 21 => ⟨S32x1x256, .i32⟩
  | 22 => ⟨S32x1x256, .i1⟩
  | 23 => ⟨S32x1x256, .i32⟩
  | 24 => ⟨S32x1x256, .i32⟩
  | 25 => ⟨S_, .i32⟩
  | 26 => ⟨S32x1x256, .i32⟩
  | 27 => ⟨S32x1x256, .i1⟩
  | 28 => ⟨S32x1x256, .i1⟩
  | 29 => ⟨S_, .i32⟩
  | 30 => ⟨S32x1x256, .i32⟩
  | 31 => ⟨S32x1x256, .i32⟩
  | 32 => ⟨S32x1x256, .i32⟩
  | 33 => ⟨S_, .i32⟩
  | 34 => ⟨S32x1x256, .i32⟩
  | 35 => ⟨S32x1x256, .i32⟩
  | 36 => ⟨S_, .i32⟩
  | 37 => ⟨S32x1x256, .i32⟩
  | 38 => ⟨S32x1x256, .i1⟩
  | 39 => ⟨S_, .i32⟩
  | 40 => ⟨S32x1x256, .i32⟩
  | 41 => ⟨S32x1x256, .i32⟩
  | 42 => ⟨S32x1x256, .i32⟩
  | 43 => ⟨S32x1x256x1, .i32⟩
  | 44 => ⟨S32x1x256, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S32x1x256, .i32⟩
  | 52 => ⟨S32x1x256, .i32⟩
  | 53 => ⟨S_, .i32⟩
  | 54 => ⟨S32x1x256, .i32⟩
  | 55 => ⟨S32x1x256, .i1⟩
  | 56 => ⟨S_, .i32⟩
  | 57 => ⟨S32x1x256, .i32⟩
  | 58 => ⟨S32x1x256, .i1⟩
  | 59 => ⟨S_, .i32⟩
  | 60 => ⟨S_, .i1⟩
  | 61 => ⟨S32x1x256, .i1⟩
  | 62 => ⟨S32x1x256, .i1⟩
  | 63 => ⟨S32x1x256, .i1⟩
  | 64 => ⟨S32x1x256, .i32⟩
  | 65 => ⟨S32x1x256, .i32⟩
  | 66 => ⟨S32x1x256, .i32⟩
  | 67 => ⟨S_, .i32⟩
  | 68 => ⟨S32x1x256, .i32⟩
  | 69 => ⟨S32x1x256, .i32⟩
  | 70 => ⟨S_, .i32⟩
  | 71 => ⟨S_, .i32⟩
  | 72 => ⟨S_, .i32⟩
  | 73 => ⟨S32x1x256, .i32⟩
  | 74 => ⟨S32x1x256, .i32⟩
  | 75 => ⟨S_, .i32⟩
  | 76 => ⟨S32x1x256, .i32⟩
  | 77 => ⟨S32x1x256, .i32⟩
  | 78 => ⟨S_, .i32⟩
  | 79 => ⟨S32x1x256, .i32⟩
  | 80 => ⟨S32x1x256, .i1⟩
  | 81 => ⟨S_, .i32⟩
  | 82 => ⟨S32x1x256, .i32⟩
  | 83 => ⟨S32x1x256, .i32⟩
  | 84 => ⟨S32x1x256, .i32⟩
  | 85 => ⟨S_, .i32⟩
  | 86 => ⟨S32x1x256, .i32⟩
  | 87 => ⟨S32x1x256, .i1⟩
  | 88 => ⟨S_, .i32⟩
  | 89 => ⟨S32x1x256, .i32⟩
  | 90 => ⟨S32x1x256, .i32⟩
  | 91 => ⟨S32x1x256, .i32⟩
  | 92 => ⟨S_, .i32⟩
  | 93 => ⟨S32x1x256, .i32⟩
  | 94 => ⟨S32x1x256, .i32⟩
  | 95 => ⟨S32x1x256x1, .i32⟩
  | 96 => ⟨S32x1x256x1, .i32⟩
  | 97 => ⟨S32x1x256x1, .i32⟩
  | 98 => ⟨S32x1x256x3, .i32⟩
  | 99 => ⟨S32x1x256x8x128, .f32⟩
  | 100 => ⟨S_, .i32⟩
  | 101 => ⟨S32x1x256, .i32⟩
  | 102 => ⟨S32x1x256, .i1⟩
  | 103 => ⟨S_, .i32⟩
  | 104 => ⟨S32x1x256, .i32⟩
  | 105 => ⟨S32x1x256, .i32⟩
  | 106 => ⟨S32x1x256, .i32⟩
  | 107 => ⟨S32x1x256x1, .i32⟩
  | 108 => ⟨S32x1x256x8x128, .f32⟩
  | 109 => ⟨S32x1x256x8x128, .i1⟩
  | 110 => ⟨S32x1x256x8x128, .f32⟩
  | 111 => ⟨S_, .i32⟩
  | 112 => ⟨S32x1x256, .i32⟩
  | 113 => ⟨S32x1x256, .i1⟩
  | 114 => ⟨S_, .i32⟩
  | 115 => ⟨S32x1x256, .i32⟩
  | 116 => ⟨S32x1x256, .i32⟩
  | 117 => ⟨S32x1x256, .i32⟩
  | 118 => ⟨S_, .i32⟩
  | 119 => ⟨S32x1x256, .i32⟩
  | 120 => ⟨S32x1x256, .i1⟩
  | 121 => ⟨S_, .i32⟩
  | 122 => ⟨S32x1x256, .i32⟩
  | 123 => ⟨S32x1x256, .i32⟩
  | 124 => ⟨S32x1x256, .i32⟩
  | 125 => ⟨S_, .i32⟩
  | 126 => ⟨S32x1x256, .i32⟩
  | 127 => ⟨S32x1x256, .i32⟩
  | _ => ⟨S32x1x8x128, .f32⟩

abbrev hbmTy0_1 (i : Nat) : BufTy := match i % 128 with
  | 0 => ⟨S32x1x256x1, .i32⟩
  | 1 => ⟨S32x1x256x1, .i32⟩
  | 2 => ⟨S32x1x256x1, .i32⟩
  | 3 => ⟨S32x1x256x3, .i32⟩
  | 4 => ⟨S32x1x256x8x128, .f32⟩
  | 5 => ⟨S_, .i32⟩
  | 6 => ⟨S32x1x256, .i32⟩
  | 7 => ⟨S32x1x256, .i1⟩
  | 8 => ⟨S_, .i32⟩
  | 9 => ⟨S32x1x256, .i32⟩
  | 10 => ⟨S32x1x256, .i32⟩
  | 11 => ⟨S32x1x256, .i32⟩
  | 12 => ⟨S32x1x256x1, .i32⟩
  | 13 => ⟨S32x1x256x8x128, .f32⟩
  | 14 => ⟨S32x1x256x8x128, .i1⟩
  | 15 => ⟨S32x1x256x8x128, .f32⟩
  | 16 => ⟨S1x1x1, .i32⟩
  | 17 => ⟨S32x1x256, .i32⟩
  | 18 => ⟨S32x1x256, .i1⟩
  | 19 => ⟨S32x1x8x256, .f32⟩
  | 20 => ⟨S_, .f32⟩
  | 21 => ⟨S32x1x8x256, .f32⟩
  | 22 => ⟨S32x1x8x256, .f32⟩
  | 23 => ⟨S32x1x1x256, .i1⟩
  | 24 => ⟨S_, .f32⟩
  | 25 => ⟨S_, .f32⟩
  | 26 => ⟨S32x1x8x256, .i1⟩
  | 27 => ⟨S32x1x8x256, .f32⟩
  | 28 => ⟨S32x1x8x256, .f32⟩
  | 29 => ⟨S_, .f32⟩
  | 30 => ⟨S32x1x8, .f32⟩
  | 31 => ⟨S_, .f32⟩
  | 32 => ⟨S32x1x8, .f32⟩
  | 33 => ⟨S32x1x8, .f32⟩
  | 34 => ⟨S32x1x8x1, .f32⟩
  | 35 => ⟨S32x1x8x256, .f32⟩
  | 36 => ⟨S32x1x8x256, .f32⟩
  | 37 => ⟨S32x1x8x256, .f32⟩
  | 38 => ⟨S_, .f32⟩
  | 39 => ⟨S32x1x8, .f32⟩
  | 40 => ⟨S32x1x8x1, .f32⟩
  | 41 => ⟨S32x1x8x256, .f32⟩
  | 42 => ⟨S32x1x8x256, .f32⟩
  | 43 => ⟨S32x1x8x128, .f32⟩
  | 44 => ⟨S32x8x128, .f32⟩
  | 45 => ⟨S32x8x128, .bf16⟩
  | _ => ⟨S32x1x8x128, .f32⟩

abbrev hbmTy (i : Nat) : BufTy := match i / 128 with
  | 0 => hbmTy0_0 i
  | 1 => hbmTy0_1 i
  | _ => ⟨S32x1x8x128, .f32⟩

abbrev bufTy : (tb : Table) → Fin (tcTables nBuf tb) → BufTy
  | .hbm, ⟨i, _⟩ => hbmTy i
  | _, _ => ⟨S32x1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v6 : Ref sig .tc := ⟨.hbm, 32, rfl⟩
abbrev main_c_2 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_c_4 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_5 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v16 : Ref sig .tc := ⟨.hbm, 66, rfl⟩
abbrev main_c_6 : Ref sig .tc := ⟨.hbm, 67, rfl⟩
abbrev main_v17 : Ref sig .tc := ⟨.hbm, 68, rfl⟩
abbrev main_v18 : Ref sig .tc := ⟨.hbm, 69, rfl⟩
abbrev main_c_7 : Ref sig .tc := ⟨.hbm, 70, rfl⟩
abbrev main_c_8 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v19 : Ref sig .tc := ⟨.hbm, 77, rfl⟩
abbrev main_c_9 : Ref sig .tc := ⟨.hbm, 78, rfl⟩
abbrev main_v20 : Ref sig .tc := ⟨.hbm, 79, rfl⟩
abbrev main_v21 : Ref sig .tc := ⟨.hbm, 80, rfl⟩
abbrev main_c_10 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_c_11 : Ref sig .tc := ⟨.hbm, 85, rfl⟩
abbrev main_v25 : Ref sig .tc := ⟨.hbm, 86, rfl⟩
abbrev main_v26 : Ref sig .tc := ⟨.hbm, 87, rfl⟩
abbrev main_c_12 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_c_13 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_c_14 : Ref sig .tc := ⟨.hbm, 100, rfl⟩
abbrev main_v37 : Ref sig .tc := ⟨.hbm, 101, rfl⟩
abbrev main_v38 : Ref sig .tc := ⟨.hbm, 102, rfl⟩
abbrev main_c_15 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_call3_v0 : Ref sig .tc := ⟨.hbm, 109, rfl⟩
abbrev main_v44 : Ref sig .tc := ⟨.hbm, 110, rfl⟩
abbrev main_c_16 : Ref sig .tc := ⟨.hbm, 111, rfl⟩
abbrev main_v45 : Ref sig .tc := ⟨.hbm, 112, rfl⟩
abbrev main_v46 : Ref sig .tc := ⟨.hbm, 113, rfl⟩
abbrev main_c_17 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_c_18 : Ref sig .tc := ⟨.hbm, 118, rfl⟩
abbrev main_v50 : Ref sig .tc := ⟨.hbm, 119, rfl⟩
abbrev main_v51 : Ref sig .tc := ⟨.hbm, 120, rfl⟩
abbrev main_c_19 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_c_20 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_c_21 : Ref sig .tc := ⟨.hbm, 133, rfl⟩
abbrev main_v62 : Ref sig .tc := ⟨.hbm, 134, rfl⟩
abbrev main_v63 : Ref sig .tc := ⟨.hbm, 135, rfl⟩
abbrev main_c_22 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_call4_v0 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_cst : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_cst_23 : Ref sig .tc := ⟨.hbm, 152, rfl⟩
abbrev main_call5_v0 : Ref sig .tc := ⟨.hbm, 153, rfl⟩
abbrev main_call5_v1 : Ref sig .tc := ⟨.hbm, 154, rfl⟩
abbrev main_call5_v2 : Ref sig .tc := ⟨.hbm, 155, rfl⟩
abbrev main_v77 : Ref sig .tc := ⟨.hbm, 156, rfl⟩
abbrev main_cst_24 : Ref sig .tc := ⟨.hbm, 157, rfl⟩
abbrev main_v78 : Ref sig .tc := ⟨.hbm, 158, rfl⟩
abbrev main_cst_25 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_cst_26 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S1024x1024, .bf16⟩
  | .hbm, ⟨11, _⟩ => ⟨S1024x4096, .bf16⟩
  | .hbm, ⟨12, _⟩ => ⟨S4096x1024, .bf16⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel2Ideal.lean ====
abbrev S2x8192x1024 : Shape := ⟨3, ![2, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S1024x1024, .bf16⟩
  | .hbm, ⟨11, _⟩ => ⟨S1024x4096, .bf16⟩
  | .hbm, ⟨12, _⟩ => ⟨S4096x1024, .bf16⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S2x8192x1024 : Shape := ⟨3, ![2, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S16384x1024 : Shape := ⟨2, ![16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x8192x4096, .f32⟩
  | .hbm, ⟨26, _⟩ => ⟨S_, .f32⟩
  | .hbm, ⟨27, _⟩ => ⟨S2x8192x4096, .f32⟩
  | .hbm, ⟨28, _⟩ => ⟨S2x8192x4096, .f32⟩
  | .hbm, ⟨29, _⟩ => ⟨S2x8192x4096, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x8192, .f32⟩
  | .hbm, ⟨35, _⟩ => ⟨S2x8192x1, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S2x8192x1, .f32⟩
  | .hbm, ⟨43, _⟩ => ⟨S2x8192x1024, .f32⟩
  | .hbm, ⟨44, _⟩ => ⟨S2x8192x1024, .f32⟩
  | .hbm, ⟨45, _⟩ => ⟨S1x1x1024, .f32⟩
  | .hbm, ⟨46, _⟩ => ⟨S2x8192x1024, .f32⟩
  | .hbm, ⟨47, _⟩ => ⟨S2x8192x1024, .f32⟩
  | .hbm, ⟨48, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S1024x1024, .bf16⟩
  | .hbm, ⟨11, _⟩ => ⟨S1024x4096, .bf16⟩
  | .hbm, ⟨12, _⟩ => ⟨S4096x1024, .bf16⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S2x8192x1024 : Shape := ⟨3, ![2, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x8192x4096, .f32⟩
  | .hbm, ⟨26, _⟩ => ⟨S_, .f32⟩
  | .hbm, ⟨27, _⟩ => ⟨S2x8192x4096, .f32⟩
  | .hbm, ⟨28, _⟩ => ⟨S2x8192x4096, .f32⟩
  | .hbm, ⟨29, _⟩ => ⟨S2x8192x4096, .f32⟩
  | .hbm, ⟨30, _⟩ => ⟨S2x8192x1024, .f32⟩
  | .hbm, ⟨31, _⟩ => ⟨S2x8192x1024, .f32⟩
  | .hbm, ⟨32, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Kernel4.lean ====
abbrev S32x1x1024 : Shape := ⟨3, ![32, 1, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32x1024 : Shape := ⟨2, ![32, 1024]⟩
abbrev S1x1024 : Shape := ⟨2, ![1, 1024]⟩
abbrev S32 : Shape := ⟨1, ![32]⟩
abbrev S32x1 : Shape := ⟨2, ![32, 1]⟩

abbrev nBuf : Space → Nat
  | .hbm => 16
  | .vmem => 13
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S32x1024, .f32⟩
  | .hbm, ⟨8, _⟩ => ⟨S32x1024, .f32⟩
  | .hbm, ⟨9, _⟩ => ⟨S32x1024, .bf16⟩
  | .hbm, ⟨10, _⟩ => ⟨S1024x1024, .bf16⟩
  | .hbm, ⟨11, _⟩ => ⟨S1024x4096, .bf16⟩
  | .hbm, ⟨12, _⟩ => ⟨S4096x1024, .bf16⟩
  | .hbm, ⟨13, _⟩ => ⟨S1x1024, .f32⟩
  | .hbm, ⟨14, _⟩ => ⟨S1x1024, .f32⟩
  | .hbm, ⟨15, _⟩ => ⟨S32x1024, .f32⟩
  | .local _ .vmem, ⟨0, _⟩ => ⟨S32x1024, .f32⟩
  | .local _ .vmem, ⟨1, _⟩ => ⟨S32x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .bf16⟩
  | .local _ .vmem, ⟨12, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference4Ideal.lean ====
abbrev S32x1x1024 : Shape := ⟨3, ![32, 1, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x4096 : Shape := ⟨3, ![32, 1, 4096]⟩
abbrev S32x1024 : Shape := ⟨2, ![32, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S_, .f32⟩
  | .hbm, ⟨11, _⟩ => ⟨S32x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S_, .f32⟩
  | .hbm, ⟨17, _⟩ => ⟨S32x1x1, .f32⟩
  | .hbm, ⟨18, _⟩ => ⟨S32x1x1, .f32⟩
  | .hbm, ⟨19, _⟩ => ⟨S32x1x1, .f32⟩
  | .hbm, ⟨20, _⟩ => ⟨S32x1x1024, .f32⟩
  | .hbm, ⟨21, _⟩ => ⟨S32x1x1024, .f32⟩
  | .hbm, ⟨22, _⟩ => ⟨S1x1x1024, .f32⟩
  | .hbm, ⟨23, _⟩ => ⟨S32x1x1024, .f32⟩
  | .hbm, ⟨24, _⟩ => ⟨S32x1x1024, .f32⟩
  | .hbm, ⟨25, _⟩ => ⟨S32x1x4096, .f32⟩
  | .hbm, ⟨26, _⟩ => ⟨S_, .f32⟩
  | .hbm, ⟨27, _⟩ => ⟨S32x1x4096, .f32⟩
  | .hbm, ⟨28, _⟩ => ⟨S32x1x4096, .f32⟩
  | .hbm, ⟨29, _⟩ => ⟨S32x1x4096, .f32⟩
  | .hbm, ⟨30, _⟩ => ⟨S32x1x1024, .f32⟩
  | .hbm, ⟨31, _⟩ => ⟨S32x1x1024, .f32⟩
  | .hbm, ⟨32, _⟩ => ⟨S32x1x1024, .f32⟩
  | .hbm, ⟨33, _⟩ => ⟨S_, .f32⟩
  | .hbm, ⟨34, _⟩ => ⟨S32x1, .f32⟩
  | .hbm, ⟨35, _⟩ => ⟨S32x1x1, .f32⟩
  | .hbm, ⟨36, _⟩ => ⟨S_, .f32⟩
  | .hbm, ⟨37, _⟩ => ⟨S32x1x1, .f32⟩
  | .hbm, ⟨38, _⟩ => ⟨S32x1x1, .f32⟩
  | .hbm, ⟨39, _⟩ => ⟨S_, .f32⟩
  | .hbm, ⟨40, _⟩ => ⟨S32x1x1, .f32⟩
  | .hbm, ⟨41, _⟩ => ⟨S32x1x1, .f32⟩
  | .hbm, ⟨42, _⟩ => ⟨S32x1x1, .f32⟩
  | .hbm, ⟨43, _⟩ => ⟨S32x1x1024, .f32⟩
  | .hbm, ⟨44, _⟩ => ⟨S32x1x1024, .f32⟩
  | .hbm, ⟨45, _⟩ => ⟨S1x1x1024, .f32⟩
  | .hbm, ⟨46, _⟩ => ⟨S32x1x1024, .f32⟩
  | .hbm, ⟨47, _⟩ => ⟨S32x1x1024, .f32⟩
  | .hbm, ⟨48, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.Body.lean ====
/- The gather of `sample_attn`: one loop that starts a transfer for each cached row (or stores the new token's row) and
   one loop that waits for the transfers. Each of the two semaphores carries one batch, whose transfers are the live
   rows in order. -/
module

public import proofs.«01_k».proof.Defs
public import proofs.«01_k».proof.Proof.Gen.KernelIdeal
public import proofs.«01_k».proof.Proof.Gen.KernelIdeal.Skeleton
public import Idealize.ShloMosaic.Lib.Pipeline.Routed
public import Idealize.ShloMosaic.Lib.Batch
public import Idealize.ShloMosaic.Lib.Ring
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F] [Named F]

local notation "𝕄" => MT nD τ sig Unit (Elt F) ℕ (UD sig nD τ) ℕ

/-- A memref's buffer on core `c`: its type of contents, and the buffer whole at share `q`. -/
abbrev Bf (c : Dev nD) {sp : Space} {S : Shape} {e : EltTy} (M : Memref sig .tc sp S e) : Type := Buf (Elt F) (M.view.loc (c : Thread nD τ))
abbrev ptq (c : Dev nD) {sp : Space} {S : Shape} {e : EltTy} (M : Memref sig .tc sp S e) (q : PosShare TreeShare) (f : Bf (F := F) c M) : sProp 𝕄 :=
  M.view.loc (c : Thread nD τ) ↦{q} f

theorem trips1 : k0_t1_loop.trips = 256 := by decide
theorem trips2 : k0_t2_loop.trips = 256 := by decide

/-! ## The words -/

abbrev i0 : S1.Idx := Shape.Idx.first (s := S1) (by decide)

section Words

variable (c : Dev nD) (i : grid0.Coords) (f1 : Bf (F := F) c (Memref.whole main_v3)) (f2 : Bf (F := F) c (Memref.whole main_v4))

/-- The token index of row `k` in this grid step. -/
abbrev wd (k : Fin k0_t1_loop.trips) : BitVec 32 :=
  View.readAt (Elt F) (View.whole main_v3) (Rect.unit (s := S8192) (k0_off1 i k) S1.size (k0_off1_inb i k)).toLoadRect f1 i0
/-- The physical page of a token index. -/
abbrev pw (w : BitVec 32) (h : k0_chk1 i w) : BitVec 32 :=
  View.readAt (Elt F) (View.whole main_v4) (Rect.unit (s := S2048) (k0_off2 i w) S1.size (k0_off2_inb i w h)).toLoadRect f2 i0

/-- What the loops ask of the words they read. -/
structure Good : Prop where
  c1 : ∀ k, k0_chk1 i (wd c i f1 k)
  c2 : ∀ k, k0_chk2 (wd c i f1 k) (pw c i f2 (wd c i f1 k) (c1 k))

/-- Row `r` comes from the cache. -/
def live (r : ℕ) : Bool := if h : r < k0_t1_loop.trips then decide (k0_cond1 (wd c i f1 ⟨r, h⟩) = 1#1) else false

/-- The cached rows below `r`. -/
abbrev cnt (r : ℕ) : ℕ := Nat.count (fun r => live c i f1 r = true) r

theorem live_iff (k : Fin k0_t1_loop.trips) : live c i f1 k.val = true ↔ k0_cond1 (wd c i f1 k) = 1#1 := by
  unfold live; rw [dif_pos k.isLt]; exact decide_eq_true_iff

theorem cnt_succ_pos (k : Fin k0_t1_loop.trips) (h : k0_cond1 (wd c i f1 k) = 1#1) : cnt c i f1 (k.val + 1) = cnt c i f1 k.val + 1 := by
  unfold cnt; rw [Nat.count_succ, if_pos ((live_iff c i f1 k).2 h)]
theorem cnt_succ_neg (k : Fin k0_t1_loop.trips) (h : ¬ k0_cond1 (wd c i f1 k) = 1#1) : cnt c i f1 (k.val + 1) = cnt c i f1 k.val := by
  unfold cnt; rw [Nat.count_succ, if_neg (fun hh => h ((live_iff c i f1 k).1 hh)), Nat.add_zero]
/-- The row of transfer `t`. -/
def rowOf (t : ℕ) : ℕ := Nat.findGreatest (fun r => cnt c i f1 r ≤ t) 255
theorem rowOf_cnt (k : Fin k0_t1_loop.trips) (h : k0_cond1 (wd c i f1 k) = 1#1) : rowOf c i f1 (cnt c i f1 k.val) = k.val := by
  have hk := k.isLt; have h256 := trips1
  unfold rowOf
  rw [Nat.findGreatest_eq_iff]
  refine ⟨by omega, fun _ => le_rfl, fun n hn _ => ?_⟩
  have h1 := cnt_succ_pos c i f1 k h
  have h2 : cnt c i f1 (k.val + 1) ≤ cnt c i f1 n := Nat.count_monotone _ (by omega)
  omega
theorem cnt_le (k : Fin k0_t1_loop.trips) : cnt c i f1 (k.val + 1) ≤ cnt c i f1 256 := by
  have := k.isLt; have h256 := trips1
  exact Nat.count_monotone _ (by omega)

end Words

/-! ## The two ends of a row's transfers -/

/-- Row `k`'s page of the key buffer and of the value buffer. -/
def pgK (k : Fin k0_t1_loop.trips) : Memref sig .tc .vmem S8x128 .f32 :=
  (Memref.whole cc0_scratch0).slice (Rect.unit (s := S2048x128) (k0_off3 k) S8x128.size (k0_off3_inb k)) (fun _ => rfl)
def pgV (k : Fin k0_t1_loop.trips) : Memref sig .tc .vmem S8x128 .f32 :=
  (Memref.whole cc0_scratch1).slice (Rect.unit (s := S2048x128) (k0_off5 k) S8x128.size (k0_off5_inb k)) (fun _ => rfl)

/-- The row of a cache at a token index and a physical page. -/
def srK (v w : BitVec 32) (h2 : k0_chk2 v w) (hl : k0_cond1 v = 1#1) : Memref sig .tc .hbm S8x128 .f32 :=
  ((Memref.whole main_arg3).slice (Rect.unit (s := S2x2560x128x8x128) (k0_off4 v w) S1x1x1x8x128.size (k0_off4_inb v w h2 hl)) (fun _ => rfl)).squeeze S8x128 squeezes_S1x1x1x8x128_S8x128
def srV (v w : BitVec 32) (h2 : k0_chk2 v w) (hl : k0_cond1 v = 1#1) : Memref sig .tc .hbm S8x128 .f32 :=
  ((Memref.whole main_arg4).slice (Rect.unit (s := S2x2560x128x8x128) (k0_off4 v w) S1x1x1x8x128.size (k0_off4_inb v w h2 hl)) (fun _ => rfl)).squeeze S8x128 squeezes_S1x1x1x8x128_S8x128

abbrev semK : SemLoc sig := .dma ((cc0_scratch2.slice (Rect.unit (s := S2) ![0] S1.size inb_S2_S1_0)).squeeze S_ squeezes_S1_S_).sem
abbrev semV : SemLoc sig := .dma ((cc0_scratch2.slice (Rect.unit (s := S2) ![1] S1.size inb_S2_S1_1)).squeeze S_ squeezes_S1_S_).sem

/-- One row's credit. -/
abbrev NN : ℕ := 128

section Rows

variable (c : Dev nD) (i : grid0.Coords) (f1 : Bf (F := F) c (Memref.whole main_v3)) (f2 : Bf (F := F) c (Memref.whole main_v4))
  (hg : Good c i f1 f2)
  (fK : Bf (F := F) c (Memref.whole main_arg3)) (fV : Bf (F := F) c (Memref.whole main_arg4))
  (f9 : Bf (F := F) c (Memref.whole cc0_scratch0)) (f10 : Bf (F := F) c (Memref.whole cc0_scratch1))

abbrev tok (r : ℕ) : PosShare TreeShare := Transfers.shareTokN fullShare r

/-- Row `k`'s cache row, for a row from the cache. -/
abbrev sK (k : Fin k0_t1_loop.trips) (hl : k0_cond1 (wd c i f1 k) = 1#1) : Memref sig .tc .hbm S8x128 .f32 := srK (wd c i f1 k) (pw c i f2 _ (hg.c1 k)) (hg.c2 k) hl
abbrev sV (k : Fin k0_t1_loop.trips) (hl : k0_cond1 (wd c i f1 k) = 1#1) : Memref sig .tc .hbm S8x128 .f32 := srV (wd c i f1 k) (pw c i f2 _ (hg.c1 k)) (hg.c2 k) hl

abbrev fKAt (k : Fin k0_t1_loop.trips) (hl : k0_cond1 (wd c i f1 k) = 1#1) : Buf (Elt F) ((sK c i f1 f2 hg k hl).view.loc (c : Thread nD τ)) := fK
abbrev fVAt (k : Fin k0_t1_loop.trips) (hl : k0_cond1 (wd c i f1 k) = 1#1) : Buf (Elt F) ((sV c i f1 f2 hg k hl).view.loc (c : Thread nD τ)) := fV
abbrev f9At (k : Fin k0_t1_loop.trips) : Buf (Elt F) ((pgK k).view.loc (c : Thread nD τ)) := f9
abbrev f10At (k : Fin k0_t1_loop.trips) : Buf (Elt F) ((pgV k).view.loc (c : Thread nD τ)) := f10

/-- What a transfer of row `k` hands back: the page landed, and the cache row's token. -/
abbrev dlK (k : Fin k0_t1_loop.trips) (hl : k0_cond1 (wd c i f1 k) = 1#1) : sProp 𝕄 :=
  iprop(((pgK k).view.loc (c : Thread nD τ) ↦[(pgK k).view.set]{fullShare} (pgK k).view.writes (Elt F) (f9At c f9 k) [⟨Rect.whole S8x128, ReadAs.same.apply ((sK c i f1 f2 hg k hl).view.read (Elt F) (fKAt c i f1 f2 hg fK k hl))⟩])
    ∗ ((sK c i f1 f2 hg k hl).view.loc (c : Thread nD τ) ↦[(sK c i f1 f2 hg k hl).view.set]{tok k.val} fKAt c i f1 f2 hg fK k hl))
abbrev dlV (k : Fin k0_t1_loop.trips) (hl : k0_cond1 (wd c i f1 k) = 1#1) : sProp 𝕄 :=
  iprop(((pgV k).view.loc (c : Thread nD τ) ↦[(pgV k).view.set]{fullShare} (pgV k).view.writes (Elt F) (f10At c f10 k) [⟨Rect.whole S8x128, ReadAs.same.apply ((sV c i f1 f2 hg k hl).view.read (Elt F) (fVAt c i f1 f2 hg fV k hl))⟩])
    ∗ ((sV c i f1 f2 hg k hl).view.loc (c : Thread nD τ) ↦[(sV c i f1 f2 hg k hl).view.set]{tok k.val} fVAt c i f1 f2 hg fV k hl))

/-- The same by the row's number, for every number. -/
def drK (r : ℕ) : sProp 𝕄 :=
  if h : ∃ hr : r < k0_t1_loop.trips, k0_cond1 (wd c i f1 ⟨r, hr⟩) = 1#1 then dlK c i f1 f2 hg fK f9 ⟨r, h.1⟩ h.2 else iprop(emp)
def drV (r : ℕ) : sProp 𝕄 :=
  if h : ∃ hr : r < k0_t1_loop.trips, k0_cond1 (wd c i f1 ⟨r, hr⟩) = 1#1 then dlV c i f1 f2 hg fV f10 ⟨r, h.1⟩ h.2 else iprop(emp)

theorem drK_pos (k : Fin k0_t1_loop.trips) (hl : k0_cond1 (wd c i f1 k) = 1#1) : drK c i f1 f2 hg fK f9 k.val = dlK c i f1 f2 hg fK f9 k hl := by
  unfold drK; rw [dif_pos ⟨k.isLt, hl⟩]
theorem drV_pos (k : Fin k0_t1_loop.trips) (hl : k0_cond1 (wd c i f1 k) = 1#1) : drV c i f1 f2 hg fV f10 k.val = dlV c i f1 f2 hg fV f10 k hl := by
  unfold drV; rw [dif_pos ⟨k.isLt, hl⟩]

instance drK_storable (r : ℕ) : BI.Storable (upEmb : UEmb _ 𝕄) (drK c i f1 f2 hg fK f9 r) := by
  unfold drK; split <;> infer_instance
instance drV_storable (r : ℕ) : BI.Storable (upEmb : UEmb _ 𝕄) (drV c i f1 f2 hg fV f10 r) := by
  unfold drV; split <;> infer_instance

/-- Transfer `t` is the `t`-th row from the cache. -/
def DK (t : Fin (cnt c i f1 256)) : sProp 𝕄 := drK c i f1 f2 hg fK f9 (rowOf c i f1 t.val)
def DV (t : Fin (cnt c i f1 256)) : sProp 𝕄 := drV c i f1 f2 hg fV f10 (rowOf c i f1 t.val)

instance DK_storable (t : Fin (cnt c i f1 256)) : BI.Storable (upEmb : UEmb _ 𝕄) (DK c i f1 f2 hg fK f9 t) := by
  unfold DK; infer_instance
instance DV_storable (t : Fin (cnt c i f1 256)) : BI.Storable (upEmb : UEmb _ 𝕄) (DV c i f1 f2 hg fV f10 t) := by
  unfold DV; infer_instance

theorem DK_split (k : Fin k0_t1_loop.trips) (hl : k0_cond1 (wd c i f1 k) = 1#1) :
    DK c i f1 f2 hg fK f9 = fun t => if t.val = cnt c i f1 k.val then dlK c i f1 f2 hg fK f9 k hl else DK c i f1 f2 hg fK f9 t := by
  funext t
  by_cases h : t.val = cnt c i f1 k.val
  · rw [if_pos h]; unfold DK; rw [h, rowOf_cnt c i f1 k hl]
    exact drK_pos c i f1 f2 hg fK f9 k hl
  · rw [if_neg h]
theorem DV_split (k : Fin k0_t1_loop.trips) (hl : k0_cond1 (wd c i f1 k) = 1#1) :
    DV c i f1 f2 hg fV f10 = fun t => if t.val = cnt c i f1 k.val then dlV c i f1 f2 hg fV f10 k hl else DV c i f1 f2 hg fV f10 t := by
  funext t
  by_cases h : t.val = cnt c i f1 k.val
  · rw [if_pos h]; unfold DV; rw [h, rowOf_cnt c i f1 k hl]
    exact drV_pos c i f1 f2 hg fV f10 k hl
  · rw [if_neg h]

abbrev batK (D : Fin (cnt c i f1 256) → sProp 𝕄) (j u : ℕ) : sProp 𝕄 := Transfers.Batch countersEmb (c : Thread nD τ) semK () NN D j u
abbrev batV (D : Fin (cnt c i f1 256) → sProp 𝕄) (j u : ℕ) : sProp 𝕄 := Transfers.Batch countersEmb (c : Thread nD τ) semV () NN D j u

/-- What row `k`'s trip takes. -/
abbrev pend (k : Fin k0_t1_loop.trips) : sProp 𝕄 :=
  iprop(((pgK k).view.loc (c : Thread nD τ) ↦[(pgK k).view.set]{fullShare} f9At c f9 k)
    ∗ ((pgV k).view.loc (c : Thread nD τ) ↦[(pgV k).view.set]{fullShare} f10At c f10 k)
    ∗ ptq c (Memref.whole main_arg3) (tok k.val) fK ∗ ptq c (Memref.whole main_arg4) (tok k.val) fV)

variable (M4 : Memref sig .tc .vmem S1x8x128 .f32) (f4 : Bf (F := F) c M4) (M5 : Memref sig .tc .vmem S1x8x128 .f32) (f5 : Bf (F := F) c M5)

abbrev full3 : Rect S1x8x128 := Rect.unit (s := S1x8x128) ![0, 0, 0] S1x8x128.size inb_S1x8x128_S1x8x128_0_0_0
/-- The new token's key row and value row. -/
abbrev newK : FVec F S8x128 .f32 := k0_pay2 (M4.view.readAt (Elt F) full3.toLoadRect f4)
abbrev newV : FVec F S8x128 .f32 := k0_pay3 (M5.view.readAt (Elt F) full3.toLoadRect f5)

/-- The key and value buffers after the new token's row is stored at row `k`. -/
abbrev stK (f9 : Bf (F := F) c (Memref.whole cc0_scratch0)) (k : Fin k0_t1_loop.trips) : Buf (Elt F) ((pgK k).view.loc (c : Thread nD τ)) :=
  View.write (Elt F) ((Memref.whole cc0_scratch0).access (Rect.unit (s := S2048x128) (k0_off6 k) S8x128.size (k0_off6_inb k))) f9 (newK c M4 f4) Finset.univ
abbrev stV (f10 : Bf (F := F) c (Memref.whole cc0_scratch1)) (k : Fin k0_t1_loop.trips) : Buf (Elt F) ((pgV k).view.loc (c : Thread nD τ)) :=
  View.write (Elt F) ((Memref.whole cc0_scratch1).access (Rect.unit (s := S2048x128) (k0_off6 k) S8x128.size (k0_off6_inb k))) f10 (newV c M5 f5) Finset.univ

/-- What row `k`'s trip leaves beside the batches. -/
def done (k : Fin k0_t1_loop.trips) : sProp 𝕄 :=
  if hl : k0_cond1 (wd c i f1 k) = 1#1 then
    iprop((((Memref.whole main_arg3).view.loc (c : Thread nD τ)) ↦[Finset.univ \ (sK c i f1 f2 hg k hl).view.set]{tok k.val} fK)
      ∗ (((Memref.whole main_arg4).view.loc (c : Thread nD τ)) ↦[Finset.univ \ (sV c i f1 f2 hg k hl).view.set]{tok k.val} fV))
  else
    iprop(((pgK k).view.loc (c : Thread nD τ) ↦[(pgK k).view.set]{fullShare} stK c M4 f4 f9 k)
      ∗ ((pgV k).view.loc (c : Thread nD τ) ↦[(pgV k).view.set]{fullShare} stV c M5 f5 f10 k)
      ∗ ptq c (Memref.whole main_arg3) (tok k.val) fK ∗ ptq c (Memref.whole main_arg4) (tok k.val) fV)

variable (q1 q2 : PosShare TreeShare)

/-- Before trip `k` of the first loop. -/
def issueAt (k : ℕ) (_ : Unit) : sProp 𝕄 :=
  iprop(batK c i f1 (DK c i f1 f2 hg fK f9) (cnt c i f1 k) 0 ∗ batV c i f1 (DV c i f1 f2 hg fV f10) (cnt c i f1 k) 0
    ∗ ptq c (Memref.whole main_v3) q1 f1 ∗ ptq c (Memref.whole main_v4) q2 f2 ∗ ptq c M4 fullShare f4 ∗ ptq c M5 fullShare f5
    ∗ bigSep (Ring.rangeSet k0_t1_loop.trips k k0_t1_loop.trips) (pend c fK fV f9 f10)
    ∗ bigSep (Ring.rangeSet k0_t1_loop.trips 0 k) (done c i f1 f2 hg fK fV f9 f10 M4 f4 M5 f5))

end Rows

/-! ## One trip of the first loop -/

/-- The second branch is the first one's opposite. -/
theorem cond_opp (v : BitVec 32) :
    Scalar.cmpi .ne (Scalar.extui (Scalar.xori (Scalar.cmpi .slt v 8192#32) 1#1) : BitVec 32) 0#32 = 1#1 ↔ ¬ k0_cond1 v = 1#1 := by
  show _ ↔ ¬ Scalar.cmpi .ne (Scalar.extui (Scalar.cmpi .slt v 8192#32) : BitVec 32) 0#32 = 1#1
  generalize Scalar.cmpi .slt v 8192#32 = b
  revert b; decide

section Trip

variable (c : Dev nD) (i : grid0.Coords) (f1 : Bf (F := F) c (Memref.whole main_v3)) (f2 : Bf (F := F) c (Memref.whole main_v4))
  (fK : Bf (F := F) c (Memref.whole main_arg3)) (fV : Bf (F := F) c (Memref.whole main_arg4))
  (f9 : Bf (F := F) c (Memref.whole cc0_scratch0)) (f10 : Bf (F := F) c (Memref.whole cc0_scratch1))
  (M3 : Memref sig .tc .vmem S1x8x128 .f32) (h3 : M3.IsWhole)
  (M4 : Memref sig .tc .vmem S1x8x128 .f32) (h4 : M4.IsWhole) (f4 : Bf (F := F) c M4)
  (M5 : Memref sig .tc .vmem S1x8x128 .f32) (h5 : M5.IsWhole) (f5 : Bf (F := F) c M5)
  (M8 : Memref sig .tc .vmem S1x8x128 .bf16) (h8 : M8.IsWhole)
  (q1 q2 : PosShare TreeShare)

/-- The words of trip `k`, with the tables kept. -/
theorem part1_run [∀ e, Nonempty (Elt F e)] (k : Fin k0_t1_loop.trips) (h1 : k0_chk1 i (wd c i f1 k)) (h2 : k0_chk2 (wd c i f1 k) (pw c i f2 _ h1)) :
    iprop(ptq c (Memref.whole main_v3) q1 f1 ∗ ptq c (Memref.whole main_v4) q2 f2)
      ⊢ wp frame (wpE (defs₀ (F := F)) Variants.none c none) Set.univ
          (k0_part1 (F := F) i (Memref.whole main_v3) (Memref.isWhole_whole _) (Memref.whole main_v4) (Memref.isWhole_whole _) M3 h3 M4 h4 M5 h5 (Memref.whole main_arg3) (Memref.isWhole_whole _) (Memref.whole main_arg4) (Memref.isWhole_whole _) M8 h8 (Memref.whole cc0_scratch0) (Memref.isWhole_whole _) (Memref.whole cc0_scratch1) (Memref.isWhole_whole _) cc0_scratch2 (BitVec.ofNat 32 (i 0).val) 0#32 1#32 k)
          (fun r => iprop(⌜∃ v71, r = ⟨wd c i f1 k, pw c i f2 _ h1, h2, v71, Scalar.cmpi .slt (wd c i f1 k) 8192#32⟩⌝
            ∗ ptq c (Memref.whole main_v3) q1 f1 ∗ ptq c (Memref.whole main_v4) q2 f2)) := by
  iintro ⟨H1, H2⟩
  rw [k0_part1_eq_skeleton]
  unfold k0_part1_skel
  sl_exec (disch := first | exact h1 | exact h2)
  sl_step
  isplitr
  · ipureintro
    exact ⟨_, rfl⟩
  isplitl [H1]; · iexact H1
  iexact H2

/-- The outcome of trip `k`'s first part. -/
abbrev partSpec (k : Fin k0_t1_loop.trips) (v w : BitVec 32) (h2 : k0_chk2 v w) : Prop :=
  iprop(ptq c (Memref.whole main_v3) q1 f1 ∗ ptq c (Memref.whole main_v4) q2 f2)
      ⊢ wp frame (wpE (defs₀ (F := F)) Variants.none c none) Set.univ
          (k0_part1 (F := F) i (Memref.whole main_v3) (Memref.isWhole_whole _) (Memref.whole main_v4) (Memref.isWhole_whole _) M3 h3 M4 h4 M5 h5 (Memref.whole main_arg3) (Memref.isWhole_whole _) (Memref.whole main_arg4) (Memref.isWhole_whole _) M8 h8 (Memref.whole cc0_scratch0) (Memref.isWhole_whole _) (Memref.whole cc0_scratch1) (Memref.isWhole_whole _) cc0_scratch2 (BitVec.ofNat 32 (i 0).val) 0#32 1#32 k)
          (fun r => iprop(⌜∃ v71, r = ⟨v, w, h2, v71, Scalar.cmpi .slt v 8192#32⟩⌝
            ∗ ptq c (Memref.whole main_v3) q1 f1 ∗ ptq c (Memref.whole main_v4) q2 f2))

set_option maxHeartbeats 4000000 in
set_option maxRecDepth 16384 in
theorem live_trip [∀ e, Nonempty (Elt F e)] (k : Fin k0_t1_loop.trips) (acc : Unit) (v w : BitVec 32) (h2 : k0_chk2 v w) (hl : k0_cond1 v = 1#1)
    (hp : partSpec c i f1 f2 M3 h3 M4 h4 M5 h5 M8 h8 q1 q2 k v w h2) {n : ℕ} (D1 D2 : Fin n → sProp 𝕄) (j : ℕ) (hj : j + 1 ≤ n) :
    iprop(Transfers.Batch countersEmb (c : Thread nD τ) semK () NN (fun t : Fin n => if t.val = j then
        iprop(((pgK k).view.loc (c : Thread nD τ) ↦[(pgK k).view.set]{fullShare} (pgK k).view.writes (Elt F) f9 [⟨Rect.whole S8x128, ReadAs.same.apply ((srK v w h2 hl).view.read (Elt F) fK)⟩])
          ∗ ((srK v w h2 hl).view.loc (c : Thread nD τ) ↦[(srK v w h2 hl).view.set]{tok k.val} fK)) else D1 t) j 0
      ∗ Transfers.Batch countersEmb (c : Thread nD τ) semV () NN (fun t : Fin n => if t.val = j then
        iprop(((pgV k).view.loc (c : Thread nD τ) ↦[(pgV k).view.set]{fullShare} (pgV k).view.writes (Elt F) f10 [⟨Rect.whole S8x128, ReadAs.same.apply ((srV v w h2 hl).view.read (Elt F) fV)⟩])
          ∗ ((srV v w h2 hl).view.loc (c : Thread nD τ) ↦[(srV v w h2 hl).view.set]{tok k.val} fV)) else D2 t) j 0
      ∗ ptq c (Memref.whole main_v3) q1 f1 ∗ ptq c (Memref.whole main_v4) q2 f2
      ∗ ((pgK k).view.loc (c : Thread nD τ) ↦[(pgK k).view.set]{fullShare} f9)
      ∗ ((pgV k).view.loc (c : Thread nD τ) ↦[(pgV k).view.set]{fullShare} f10)
      ∗ ((srK v w h2 hl).view.loc (c : Thread nD τ) ↦[(srK v w h2 hl).view.set]{tok k.val} fK)
      ∗ ((srV v w h2 hl).view.loc (c : Thread nD τ) ↦[(srV v w h2 hl).view.set]{tok k.val} fV))
      ⊢ wp frame (wpE (defs₀ (F := F)) Variants.none c none) Set.univ
          (k0_t1_body (F := F) i (Memref.whole main_v3) (Memref.isWhole_whole _) (Memref.whole main_v4) (Memref.isWhole_whole _) M3 h3 M4 h4 M5 h5 (Memref.whole main_arg3) (Memref.isWhole_whole _) (Memref.whole main_arg4) (Memref.isWhole_whole _) M8 h8 (Memref.whole cc0_scratch0) (Memref.isWhole_whole _) (Memref.whole cc0_scratch1) (Memref.isWhole_whole _) cc0_scratch2 (BitVec.ofNat 32 (i 0).val) k acc)
          (fun _ => iprop(Transfers.Batch countersEmb (c : Thread nD τ) semK () NN (fun t : Fin n => if t.val = j then
        iprop(((pgK k).view.loc (c : Thread nD τ) ↦[(pgK k).view.set]{fullShare} (pgK k).view.writes (Elt F) f9 [⟨Rect.whole S8x128, ReadAs.same.apply ((srK v w h2 hl).view.read (Elt F) fK)⟩])
          ∗ ((srK v w h2 hl).view.loc (c : Thread nD τ) ↦[(srK v w h2 hl).view.set]{tok k.val} fK)) else D1 t) (j + 1) 0
      ∗ Transfers.Batch countersEmb (c : Thread nD τ) semV () NN (fun t : Fin n => if t.val = j then
        iprop(((pgV k).view.loc (c : Thread nD τ) ↦[(pgV k).view.set]{fullShare} (pgV k).view.writes (Elt F) f10 [⟨Rect.whole S8x128, ReadAs.same.apply ((srV v w h2 hl).view.read (Elt F) fV)⟩])
          ∗ ((srV v w h2 hl).view.loc (c : Thread nD τ) ↦[(srV v w h2 hl).view.set]{tok k.val} fV)) else D2 t) (j + 1) 0
      ∗ ptq c (Memref.whole main_v3) q1 f1 ∗ ptq c (Memref.whole main_v4) q2 f2)) := by
  iintro ⟨HB1, HB2, H1, H2, HPK, HPV, HSK, HSV⟩
  dsimp only [k0_t1_body]
  rw [wp_bind]
  iapply (wp_wand frame (wpE (defs₀ (F := F)) Variants.none c none) Set.univ) $$ [H1 H2]
  · iapply hp
    isplitl [H1]; · iexact H1
    iexact H2
  iintro %r ⟨%hr, H1, H2⟩
  obtain ⟨v71, rfl⟩ := hr
  have hx : ¬ Scalar.cmpi .ne (Scalar.extui (Scalar.xori (Scalar.cmpi .slt v 8192#32) 1#1) : BitVec 32) 0#32 = 1#1 := fun h => (cond_opp v).1 h hl
  dsimp only
  sl_exec (disch := first | exact hl | exact hx)
  sl_step
  isplitl [HB1]; · iexact HB1
  isplitl [HB2]; · iexact HB2
  isplitl [H1]; · iexact H1
  iexact H2

set_option maxHeartbeats 4000000 in
set_option maxRecDepth 16384 in
theorem new_trip [∀ e, Nonempty (Elt F e)] (k : Fin k0_t1_loop.trips) (acc : Unit) (v w : BitVec 32) (h2 : k0_chk2 v w) (hl : ¬ k0_cond1 v = 1#1)
    (hp : partSpec c i f1 f2 M3 h3 M4 h4 M5 h5 M8 h8 q1 q2 k v w h2) :
    iprop(ptq c (Memref.whole main_v3) q1 f1 ∗ ptq c (Memref.whole main_v4) q2 f2 ∗ ptq c M4 fullShare f4 ∗ ptq c M5 fullShare f5
      ∗ ((pgK k).view.loc (c : Thread nD τ) ↦[(pgK k).view.set]{fullShare} f9)
      ∗ ((pgV k).view.loc (c : Thread nD τ) ↦[(pgV k).view.set]{fullShare} f10))
      ⊢ wp frame (wpE (defs₀ (F := F)) Variants.none c none) Set.univ
          (k0_t1_body (F := F) i (Memref.whole main_v3) (Memref.isWhole_whole _) (Memref.whole main_v4) (Memref.isWhole_whole _) M3 h3 M4 h4 M5 h5 (Memref.whole main_arg3) (Memref.isWhole_whole _) (Memref.whole main_arg4) (Memref.isWhole_whole _) M8 h8 (Memref.whole cc0_scratch0) (Memref.isWhole_whole _) (Memref.whole cc0_scratch1) (Memref.isWhole_whole _) cc0_scratch2 (BitVec.ofNat 32 (i 0).val) k acc)
          (fun _ => iprop(ptq c (Memref.whole main_v3) q1 f1 ∗ ptq c (Memref.whole main_v4) q2 f2 ∗ ptq c M4 fullShare f4 ∗ ptq c M5 fullShare f5
      ∗ ((pgK k).view.loc (c : Thread nD τ) ↦[(pgK k).view.set]{fullShare} stK c M4 f4 f9 k)
      ∗ ((pgV k).view.loc (c : Thread nD τ) ↦[(pgV k).view.set]{fullShare} stV c M5 f5 f10 k))) := by
  iintro ⟨H1, H2, H4, H5, HPK, HPV⟩
  dsimp only [k0_t1_body]
  rw [wp_bind]
  iapply (wp_wand frame (wpE (defs₀ (F := F)) Variants.none c none) Set.univ) $$ [H1 H2]
  · iapply hp
    isplitl [H1]; · iexact H1
    iexact H2
  iintro %r ⟨%hr, H1, H2⟩
  obtain ⟨v71, rfl⟩ := hr
  have hx : Scalar.cmpi .ne (Scalar.extui (Scalar.xori (Scalar.cmpi .slt v 8192#32) 1#1) : BitVec 32) 0#32 = 1#1 := (cond_opp v).2 hl
  dsimp only
  sl_exec (disch := first | exact hl | exact hx)
  sl_step
  sl_unfold_run_names
  isplitl [H1]; · iexact H1
  isplitl [H2]; · iexact H2
  isplitl [H4]; · iexact H4
  isplitl [H5]; · iexact H5
  isplitl [HPK]; · iexact HPK
  iexact HPV

variable (hg : Good c i f1 f2)

set_option maxHeartbeats 4000000 in
set_option maxRecDepth 16384 in
theorem issue_step [∀ e, Nonempty (Elt F e)] (k : Fin k0_t1_loop.trips) (acc : Unit) :
    issueAt c i f1 f2 hg fK fV f9 f10 M4 f4 M5 f5 q1 q2 k acc
      ⊢ wp frame (wpE (defs₀ (F := F)) Variants.none c none) Set.univ
          (k0_t1_body (F := F) i (Memref.whole main_v3) (Memref.isWhole_whole _) (Memref.whole main_v4) (Memref.isWhole_whole _) M3 h3 M4 h4 M5 h5 (Memref.whole main_arg3) (Memref.isWhole_whole _) (Memref.whole main_arg4) (Memref.isWhole_whole _) M8 h8 (Memref.whole cc0_scratch0) (Memref.isWhole_whole _) (Memref.whole cc0_scratch1) (Memref.isWhole_whole _) cc0_scratch2 (BitVec.ofNat 32 (i 0).val) k acc)
          (issueAt c i f1 f2 hg fK fV f9 f10 M4 f4 M5 f5 q1 q2 (k.val + 1)) := by
  have hk := k.isLt
  have hle := cnt_le c i f1 k
  have hp := part1_run c i f1 f2 M3 h3 M4 h4 M5 h5 M8 h8 q1 q2 k (hg.c1 k) (hg.c2 k)
  unfold issueAt
  rw [Ring.bigSep_rangeSet_head (Φ := pend c fK fV f9 f10) hk hk,
    Ring.bigSep_rangeSet_last (lo := 0) (hi := k.val + 1) (by omega) (by omega)]
  simp only [Nat.add_sub_cancel, Fin.eta]
  iintro ⟨HB1, HB2, H1, H2, H4, H5, ⟨⟨HPK, HPV, HSK, HSV⟩, HPs⟩, Hd⟩
  by_cases hl : k0_cond1 (wd c i f1 k) = 1#1
  · have hs := cnt_succ_pos c i f1 k hl
    rw [hs] at hle ⊢
    rw [DK_split c i f1 f2 hg fK f9 k hl, DV_split c i f1 f2 hg fV f10 k hl]
    ihave HSK' := (pointsTo_split_subset (Finset.subset_univ (sK c i f1 f2 hg k hl).view.set)).1 $$ HSK
    ihave HSV' := (pointsTo_split_subset (Finset.subset_univ (sV c i f1 f2 hg k hl).view.set)).1 $$ HSV
    icases HSK' with ⟨HSK, HRK⟩
    icases HSV' with ⟨HSV, HRV⟩
    iapply (wp_wand frame (wpE (defs₀ (F := F)) Variants.none c none) Set.univ) $$ [HB1 HB2 H1 H2 HPK HPV HSK HSV]
    · iapply (live_trip c i f1 f2 fK fV f9 f10 M3 h3 M4 h4 M5 h5 M8 h8 q1 q2 k acc _ _ (hg.c2 k) hl hp (DK c i f1 f2 hg fK f9) (DV c i f1 f2 hg fV f10) (cnt c i f1 k.val) hle)
      isplitl [HB1]; · iexact HB1
      isplitl [HB2]; · iexact HB2
      isplitl [H1]; · iexact H1
      isplitl [H2]; · iexact H2
      isplitl [HPK]; · iexact HPK
      isplitl [HPV]; · iexact HPV
      isplitl [HSK]; · iexact HSK
      iexact HSV
    iintro %r ⟨HB1, HB2, H1, H2⟩
    isplitl [HB1]; · iexact HB1
    isplitl [HB2]; · iexact HB2
    isplitl [H1]; · iexact H1
    isplitl [H2]; · iexact H2
    isplitl [H4]; · iexact H4
    isplitl [H5]; · iexact H5
    isplitl [HPs]; · iexact HPs
    isplitr [Hd]
    · unfold done
      rw [dif_pos hl]
      isplitl [HRK]; · iexact HRK
      iexact HRV
    · iexact Hd
  · have hs := cnt_succ_neg c i f1 k hl
    rw [hs]
    iapply (wp_wand frame (wpE (defs₀ (F := F)) Variants.none c none) Set.univ) $$ [H1 H2 H4 H5 HPK HPV]
    · iapply (new_trip c i f1 f2 f9 f10 M3 h3 M4 h4 f4 M5 h5 f5 M8 h8 q1 q2 k acc _ _ (hg.c2 k) hl hp)
      isplitl [H1]; · iexact H1
      isplitl [H2]; · iexact H2
      isplitl [H4]; · iexact H4
      isplitl [H5]; · iexact H5
      isplitl [HPK]; · iexact HPK
      iexact HPV
    iintro %r ⟨H1, H2, H4, H5, HPK, HPV⟩
    isplitl [HB1]; · iexact HB1
    isplitl [HB2]; · iexact HB2
    isplitl [H1]; · iexact H1
    isplitl [H2]; · iexact H2
    isplitl [H4]; · iexact H4
    isplitl [H5]; · iexact H5
    isplitl [HPs]; · iexact HPs
    isplitr [Hd]
    · unfold done
      rw [dif_neg hl]
      isplitl [HPK]; · iexact HPK
      isplitl [HPV]; · iexact HPV
      isplitl [HSK]; · iexact HSK
      iexact HSV
    · iexact Hd

/-! ## One trip of the second loop -/

/-- The trip of the first loop with the same number. -/
abbrev up (k : Fin k0_t2_loop.trips) : Fin k0_t1_loop.trips := ⟨k.val, k.isLt.trans_eq (trips2.trans trips1.symm)⟩

/-- The second loop's words, as it reads them. -/
abbrev wd2 (k : Fin k0_t2_loop.trips) : BitVec 32 :=
  View.readAt (Elt F) (View.whole main_v3) (Rect.unit (s := S8192) (k0_off7 i k) S1.size (k0_off7_inb i k)).toLoadRect f1 i0
abbrev pw2 (w : BitVec 32) (h : k0_chk3 i w) : BitVec 32 :=
  View.readAt (Elt F) (View.whole main_v4) (Rect.unit (s := S2048) (k0_off8 i w) S1.size (k0_off8_inb i w h)).toLoadRect f2 i0

theorem read_off1 {o o' : Fin 1 → ℕ} (e : o = o') (h : ∀ a, o a + S1.size a ≤ S8192.size a) (h' : ∀ a, o' a + S1.size a ≤ S8192.size a) :
    View.readAt (Elt F) (View.whole main_v3) (Rect.unit (s := S8192) o S1.size h).toLoadRect f1 i0
      = View.readAt (Elt F) (View.whole main_v3) (Rect.unit (s := S8192) o' S1.size h').toLoadRect f1 i0 := by subst e; rfl
theorem read_off2 {o o' : Fin 1 → ℕ} (e : o = o') (h : ∀ a, o a + S1.size a ≤ S2048.size a) (h' : ∀ a, o' a + S1.size a ≤ S2048.size a) :
    View.readAt (Elt F) (View.whole main_v4) (Rect.unit (s := S2048) o S1.size h).toLoadRect f2 i0
      = View.readAt (Elt F) (View.whole main_v4) (Rect.unit (s := S2048) o' S1.size h').toLoadRect f2 i0 := by subst e; rfl

theorem wd2_eq (k : Fin k0_t2_loop.trips) : wd2 c i f1 k = wd c i f1 (up k) :=
  read_off1 c f1 (by rw [k0_off7_eq, k0_off1_eq]) _ _
theorem off8_eq (w : BitVec 32) : k0_off8 i w = k0_off2 i w := rfl
theorem off10_eq (v w : BitVec 32) : k0_off10 v w = k0_off4 v w := rfl
theorem cond3_eq (v : BitVec 32) : k0_cond3 v = k0_cond1 v := rfl
theorem chk3_of {w : BitVec 32} (h : k0_chk1 i w) : k0_chk3 i w := by
  unfold k0_chk3; unfold k0_chk1 at h; rw [off8_eq]; exact h
theorem chk4_of {v w : BitVec 32} (h : k0_chk2 v w) : k0_chk4 v w := by
  unfold k0_chk4; unfold k0_chk2 at h; rw [off10_eq, cond3_eq]; exact h
theorem pw2_eq (w : BitVec 32) (h : k0_chk1 i w) : pw2 c i f2 w (chk3_of i h) = pw c i f2 w h := read_off2 c f2 (off8_eq i w) _ _

theorem part2_run [∀ e, Nonempty (Elt F e)] (k : Fin k0_t2_loop.trips) (h1 : k0_chk3 i (wd2 c i f1 k)) (h2 : k0_chk4 (wd2 c i f1 k) (pw2 c i f2 _ h1)) :
    iprop(ptq c (Memref.whole main_v3) q1 f1 ∗ ptq c (Memref.whole main_v4) q2 f2)
      ⊢ wp frame (wpE (defs₀ (F := F)) Variants.none c none) Set.univ
          (k0_part2 (F := F) i (Memref.whole main_v3) (Memref.isWhole_whole _) (Memref.whole main_v4) (Memref.isWhole_whole _) M3 h3 M4 h4 M5 h5 (Memref.whole main_arg3) (Memref.isWhole_whole _) (Memref.whole main_arg4) (Memref.isWhole_whole _) M8 h8 (Memref.whole cc0_scratch0) (Memref.isWhole_whole _) (Memref.whole cc0_scratch1) (Memref.isWhole_whole _) cc0_scratch2 (BitVec.ofNat 32 (i 0).val) 0#32 1#32 k)
          (fun r => iprop(⌜∃ x, r = ⟨wd2 c i f1 k, pw2 c i f2 _ h1, h2, x⟩⌝
            ∗ ptq c (Memref.whole main_v3) q1 f1 ∗ ptq c (Memref.whole main_v4) q2 f2)) := by
  iintro ⟨H1, H2⟩
  rw [k0_part2_eq_skeleton]
  unfold k0_part2_skel
  sl_exec (disch := first | exact h1 | exact h2)
  sl_step
  isplitr
  · ipureintro
    exact ⟨_, rfl⟩
  isplitl [H1]; · iexact H1
  iexact H2

abbrev partSpec2 (k : Fin k0_t2_loop.trips) (v w : BitVec 32) (h2 : k0_chk4 v w) : Prop :=
  iprop(ptq c (Memref.whole main_v3) q1 f1 ∗ ptq c (Memref.whole main_v4) q2 f2)
      ⊢ wp frame (wpE (defs₀ (F := F)) Variants.none c none) Set.univ
          (k0_part2 (F := F) i (Memref.whole main_v3) (Memref.isWhole_whole _) (Memref.whole main_v4) (Memref.isWhole_whole _) M3 h3 M4 h4 M5 h5 (Memref.whole main_arg3) (Memref.isWhole_whole _) (Memref.whole main_arg4) (Memref.isWhole_whole _) M8 h8 (Memref.whole cc0_scratch0) (Memref.isWhole_whole _) (Memref.whole cc0_scratch1) (Memref.isWhole_whole _) cc0_scratch2 (BitVec.ofNat 32 (i 0).val) 0#32 1#32 k)
          (fun r => iprop(⌜∃ x, r = ⟨v, w, h2, x⟩⌝
            ∗ ptq c (Memref.whole main_v3) q1 f1 ∗ ptq c (Memref.whole main_v4) q2 f2))

theorem spec2 [∀ e, Nonempty (Elt F e)] (k : Fin k0_t2_loop.trips) (v w : BitVec 32) (h4' : k0_chk4 v w) (hv : wd2 c i f1 k = v) (h3' : k0_chk3 i v)
    (hw : pw2 c i f2 v h3' = w) : partSpec2 c i f1 f2 M3 h3 M4 h4 M5 h5 M8 h8 q1 q2 k v w h4' := by
  subst hv; subst hw
  exact part2_run c i f1 f2 M3 h3 M4 h4 M5 h5 M8 h8 q1 q2 k h3' h4'

set_option maxHeartbeats 4000000 in
set_option maxRecDepth 16384 in
theorem wait_trip [∀ e, Nonempty (Elt F e)] (k : Fin k0_t2_loop.trips) (acc : Unit) (v w : BitVec 32) (h2 : k0_chk4 v w) (hl : k0_cond3 v = 1#1)
    (hp : partSpec2 c i f1 f2 M3 h3 M4 h4 M5 h5 M8 h8 q1 q2 k v w h2) {n : ℕ} (D1 D2 : Fin n → sProp 𝕄) (u : ℕ) (hu : u + NN ≤ NN * n)
    (p1 : Transfers.InterleavedWaits (c : Thread nD τ) semK) (p2 : Transfers.InterleavedWaits (c : Thread nD τ) semV) :
    iprop(Transfers.Batch countersEmb (c : Thread nD τ) semK () NN D1 n u ∗ Transfers.Batch countersEmb (c : Thread nD τ) semV () NN D2 n u
      ∗ ptq c (Memref.whole main_v3) q1 f1 ∗ ptq c (Memref.whole main_v4) q2 f2 ∗ (∃ W, owes (c : Thread nD τ) 0 W))
      ⊢ wp frame (wpE (defs₀ (F := F)) Variants.none c none) Set.univ
          (k0_t2_body (F := F) i (Memref.whole main_v3) (Memref.isWhole_whole _) (Memref.whole main_v4) (Memref.isWhole_whole _) M3 h3 M4 h4 M5 h5 (Memref.whole main_arg3) (Memref.isWhole_whole _) (Memref.whole main_arg4) (Memref.isWhole_whole _) M8 h8 (Memref.whole cc0_scratch0) (Memref.isWhole_whole _) (Memref.whole cc0_scratch1) (Memref.isWhole_whole _) cc0_scratch2 (BitVec.ofNat 32 (i 0).val) k acc)
          (fun _ => iprop(Transfers.Batch countersEmb (c : Thread nD τ) semK () NN D1 n (u + NN) ∗ Transfers.Batch countersEmb (c : Thread nD τ) semV () NN D2 n (u + NN)
      ∗ ptq c (Memref.whole main_v3) q1 f1 ∗ ptq c (Memref.whole main_v4) q2 f2 ∗ (∃ W, owes (c : Thread nD τ) 0 W))) := by
  simp only [NN] at hu
  iintro ⟨HB1, HB2, H1, H2, ⟨%W, HO⟩⟩
  dsimp only [k0_t2_body]
  rw [wp_bind]
  iapply (wp_wand frame (wpE (defs₀ (F := F)) Variants.none c none) Set.univ) $$ [H1 H2]
  · iapply hp
    isplitl [H1]; · iexact H1
    iexact H2
  iintro %r ⟨%hr, H1, H2⟩
  obtain ⟨x, rfl⟩ := hr
  dsimp only
  sl_exec (disch := first | exact hl)
  sl_step
  isplitl [HB1]; · iexact HB1
  isplitl [HB2]; · iexact HB2
  isplitl [H1]; · iexact H1
  isplitl [H2]; · iexact H2
  iexists _; iexact HO

set_option maxHeartbeats 4000000 in
set_option maxRecDepth 16384 in
theorem idle_trip [∀ e, Nonempty (Elt F e)] (k : Fin k0_t2_loop.trips) (acc : Unit) (v w : BitVec 32) (h2 : k0_chk4 v w) (hl : ¬ k0_cond3 v = 1#1)
    (hp : partSpec2 c i f1 f2 M3 h3 M4 h4 M5 h5 M8 h8 q1 q2 k v w h2) :
    iprop(ptq c (Memref.whole main_v3) q1 f1 ∗ ptq c (Memref.whole main_v4) q2 f2)
      ⊢ wp frame (wpE (defs₀ (F := F)) Variants.none c none) Set.univ
          (k0_t2_body (F := F) i (Memref.whole main_v3) (Memref.isWhole_whole _) (Memref.whole main_v4) (Memref.isWhole_whole _) M3 h3 M4 h4 M5 h5 (Memref.whole main_arg3) (Memref.isWhole_whole _) (Memref.whole main_arg4) (Memref.isWhole_whole _) M8 h8 (Memref.whole cc0_scratch0) (Memref.isWhole_whole _) (Memref.whole cc0_scratch1) (Memref.isWhole_whole _) cc0_scratch2 (BitVec.ofNat 32 (i 0).val) k acc)
          (fun _ => iprop(ptq c (Memref.whole main_v3) q1 f1 ∗ ptq c (Memref.whole main_v4) q2 f2)) := by
  iintro ⟨H1, H2⟩
  dsimp only [k0_t2_body]
  rw [wp_bind]
  iapply (wp_wand frame (wpE (defs₀ (F := F)) Variants.none c none) Set.univ) $$ [H1 H2]
  · iapply hp
    isplitl [H1]; · iexact H1
    iexact H2
  iintro %r ⟨%hr, H1, H2⟩
  obtain ⟨x, rfl⟩ := hr
  dsimp only
  sl_exec (disch := first | exact hl)
  sl_step
  isplitl [H1]; · iexact H1
  iexact H2

/-- Before trip `k` of the second loop. -/
def drainAt (k : ℕ) (_ : Unit) : sProp 𝕄 :=
  iprop(batK c i f1 (DK c i f1 f2 hg fK f9) (cnt c i f1 256) (cnt c i f1 k * NN) ∗ batV c i f1 (DV c i f1 f2 hg fV f10) (cnt c i f1 256) (cnt c i f1 k * NN)
    ∗ ptq c (Memref.whole main_v3) q1 f1 ∗ ptq c (Memref.whole main_v4) q2 f2 ∗ (∃ W, owes (c : Thread nD τ) 0 W))

set_option maxHeartbeats 4000000 in
set_option maxRecDepth 16384 in
theorem drain_step [∀ e, Nonempty (Elt F e)] (k : Fin k0_t2_loop.trips) (acc : Unit)
    (p1 : Transfers.InterleavedWaits (c : Thread nD τ) semK) (p2 : Transfers.InterleavedWaits (c : Thread nD τ) semV) :
    drainAt c i f1 f2 fK fV f9 f10 q1 q2 hg k acc
      ⊢ wp frame (wpE (defs₀ (F := F)) Variants.none c none) Set.univ
          (k0_t2_body (F := F) i (Memref.whole main_v3) (Memref.isWhole_whole _) (Memref.whole main_v4) (Memref.isWhole_whole _) M3 h3 M4 h4 M5 h5 (Memref.whole main_arg3) (Memref.isWhole_whole _) (Memref.whole main_arg4) (Memref.isWhole_whole _) M8 h8 (Memref.whole cc0_scratch0) (Memref.isWhole_whole _) (Memref.whole cc0_scratch1) (Memref.isWhole_whole _) cc0_scratch2 (BitVec.ofNat 32 (i 0).val) k acc)
          (drainAt c i f1 f2 fK fV f9 f10 q1 q2 hg (k.val + 1)) := by
  have hle := cnt_le c i f1 (up k)
  have e := wd2_eq c i f1 k
  obtain ⟨h4', hp⟩ : ∃ (h4' : k0_chk4 (wd c i f1 (up k)) (pw c i f2 _ (hg.c1 (up k)))),
      partSpec2 c i f1 f2 M3 h3 M4 h4 M5 h5 M8 h8 q1 q2 k _ _ h4' := by
    refine ⟨chk4_of (hg.c2 (up k)), ?_⟩
    exact spec2 c i f1 f2 M3 h3 M4 h4 M5 h5 M8 h8 q1 q2 k _ _ (chk4_of (hg.c2 (up k))) e (chk3_of i (hg.c1 (up k))) (pw2_eq c i f2 _ (hg.c1 (up k)))
  unfold drainAt
  by_cases hl : k0_cond1 (wd c i f1 (up k)) = 1#1
  · have hs := cnt_succ_pos c i f1 (up k) hl
    simp only [up] at hs hle
    rw [hs] at hle ⊢
    rw [show (cnt c i f1 k.val + 1) * NN = cnt c i f1 k.val * NN + NN from Nat.succ_mul _ _]
    exact wait_trip c i f1 f2 M3 h3 M4 h4 M5 h5 M8 h8 q1 q2 k acc _ _ h4' hl hp _ _ _ (by simp only [NN]; omega) p1 p2
  · have hs := cnt_succ_neg c i f1 (up k) hl
    simp only [up] at hs
    rw [hs]
    iintro ⟨HB1, HB2, H1, H2, HO⟩
    iapply (wp_wand frame (wpE (defs₀ (F := F)) Variants.none c none) Set.univ) $$ [H1 H2]
    · iapply (idle_trip c i f1 f2 M3 h3 M4 h4 M5 h5 M8 h8 q1 q2 k acc _ _ h4' hl hp)
      isplitl [H1]; · iexact H1
      iexact H2
    iintro %r ⟨H1, H2⟩
    isplitl [HB1]; · iexact HB1
    isplitl [HB2]; · iexact HB2
    isplitl [H1]; · iexact H1
    isplitl [H2]; · iexact H2
    iexact HO

end Trip

end Cert.Proof.KernelIdeal

end
-- ==== Proof.Run.lean ====
/- The whole body of `sample_attn` at one grid step. -/
module

public import proofs.«01_k».proof.Proof.Body

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F] [Named F]

local notation "𝕄" => MT nD τ sig Unit (Elt F) ℕ (UD sig nD τ) ℕ

/-! ## A buffer by pages -/

theorem pgK_set (k : Fin k0_t1_loop.trips) : (pgK k).view.set = (Rect.unit (s := S2048x128) (k0_off3 k) S8x128.size (k0_off3_inb k)).set := by
  unfold pgK; exact View.set_slice_whole _ _
theorem pgV_set (k : Fin k0_t1_loop.trips) : (pgV k).view.set = (Rect.unit (s := S2048x128) (k0_off5 k) S8x128.size (k0_off5_inb k)).set := by
  unfold pgV; exact View.set_slice_whole _ _

/-- The row a scratch index lies in. -/
def rowIx (y : S2048x128.Idx) : Fin k0_t1_loop.trips :=
  ⟨(y 0).val / 8, by have h : (y 0).val < 2048 := (y 0).isLt; rw [trips1]; omega⟩

theorem mem_page {o : Fin 2 → ℕ} (k : Fin k0_t1_loop.trips) (e : o = ![8 * k.val, 0]) (h : ∀ a, o a + S8x128.size a ≤ S2048x128.size a) (y : S2048x128.Idx) :
    y ∈ (Rect.unit (s := S2048x128) o S8x128.size h).set ↔ rowIx y = k := by
  subst e
  rw [Rect.mem_set_unit, Fin.ext_iff]
  have b1 : (y 1).val < 128 := (y 1).isLt
  show _ ↔ (y 0).val / 8 = k.val
  constructor
  · intro H; have a0 : 8 * k.val ≤ (y 0).val ∧ (y 0).val < 8 * k.val + 8 := H 0; omega
  · intro H a; fin_cases a
    · show 8 * k.val ≤ (y 0).val ∧ (y 0).val < 8 * k.val + 8; omega
    · show 0 ≤ (y 1).val ∧ (y 1).val < 0 + 128; omega

theorem mem_pgK (k : Fin k0_t1_loop.trips) (y : S2048x128.Idx) : y ∈ (pgK k).view.set ↔ rowIx y = k := by
  rw [pgK_set]; exact mem_page k (k0_off3_eq k) _ y
theorem mem_pgV (k : Fin k0_t1_loop.trips) (y : S2048x128.Idx) : y ∈ (pgV k).view.set ↔ rowIx y = k := by
  rw [pgV_set]; exact mem_page k (k0_off5_eq k) _ y

/-- A buffer whole is its pieces, for pieces that are the fibres of a map. -/
theorem by_fibres {ℓ : Loc nD τ sig} {T : Type} [Fintype T] [DecidableEq T] (K : T → Finset (Idx ℓ)) (r : Idx ℓ → T) (hK : ∀ t y, y ∈ K t ↔ r y = t)
    (g : T → Buf (Elt F) ℓ) :
    (bigSep (Finset.univ : Finset T) (fun t => ℓ ↦[K t]{fullShare} g t) : sProp 𝕄) = (ℓ ↦{fullShare} (fun y => g (r y) y) : sProp 𝕄) := by
  have e : (Finset.univ : Finset T).biUnion K = Finset.univ := by
    ext y; simp only [Finset.mem_biUnion, Finset.mem_univ, true_and, iff_true]; exact ⟨r y, (hK _ _).2 rfl⟩
  have h1 : (bigSep (Finset.univ : Finset T) (fun t => ℓ ↦[K t]{fullShare} g t) : sProp 𝕄)
      = bigSep (Finset.univ : Finset T) (fun t => ℓ ↦[K t]{fullShare} (fun y => g (r y) y)) :=
    bigSep_congr fun t _ => pointsTo_congr fun y hy => by rw [(hK t y).1 hy]
  rw [h1, ← pointsTo_biUnion _ _ (fun t _ t' _ hne => Finset.disjoint_left.2 fun y hy hy' => hne (((hK t y).1 hy).symm.trans ((hK t' y).1 hy'))), e]

section Run

variable (c : Dev nD) (i : grid0.Coords) (f1 : Bf (F := F) c (Memref.whole main_v3)) (f2 : Bf (F := F) c (Memref.whole main_v4))
  (hg : Good c i f1 f2)
  (fK : Bf (F := F) c (Memref.whole main_arg3)) (fV : Bf (F := F) c (Memref.whole main_arg4))
  (f9 : Bf (F := F) c (Memref.whole cc0_scratch0)) (f10 : Bf (F := F) c (Memref.whole cc0_scratch1))
  (M3 : Memref sig .tc .vmem S1x8x128 .f32) (h3 : M3.IsWhole) (f3 : Bf (F := F) c M3)
  (M4 : Memref sig .tc .vmem S1x8x128 .f32) (h4 : M4.IsWhole) (f4 : Bf (F := F) c M4)
  (M5 : Memref sig .tc .vmem S1x8x128 .f32) (h5 : M5.IsWhole) (f5 : Bf (F := F) c M5)
  (M8 : Memref sig .tc .vmem S1x8x128 .bf16) (h8 : M8.IsWhole) (f8 : Bf (F := F) c M8)
  (q1 q2 : PosShare TreeShare)

/-- Row `k`'s page of the two buffers after the gather. -/
def endK (k : Fin k0_t1_loop.trips) : Bf (F := F) c (Memref.whole cc0_scratch0) :=
  if hl : k0_cond1 (wd c i f1 k) = 1#1 then
    (pgK k).view.writes (Elt F) (f9At c f9 k) [⟨Rect.whole S8x128, ReadAs.same.apply ((sK c i f1 f2 hg k hl).view.read (Elt F) (fKAt c i f1 f2 hg fK k hl))⟩]
  else stK c M4 f4 f9 k
def endV (k : Fin k0_t1_loop.trips) : Bf (F := F) c (Memref.whole cc0_scratch1) :=
  if hl : k0_cond1 (wd c i f1 k) = 1#1 then
    (pgV k).view.writes (Elt F) (f10At c f10 k) [⟨Rect.whole S8x128, ReadAs.same.apply ((sV c i f1 f2 hg k hl).view.read (Elt F) (fVAt c i f1 f2 hg fV k hl))⟩]
  else stV c M5 f5 f10 k

/-- The two buffers after the gather. -/
def gathK : Bf (F := F) c (Memref.whole cc0_scratch0) := fun y => endK c i f1 f2 hg fK f9 M4 f4 (rowIx y) y
def gathV : Bf (F := F) c (Memref.whole cc0_scratch1) := fun y => endV c i f1 f2 hg fV f10 M5 f5 (rowIx y) y

/-- Every delivery, by the row's number. -/
theorem byRow (P : ℕ → sProp 𝕄) (hP : ∀ k : Fin k0_t1_loop.trips, ¬ k0_cond1 (wd c i f1 k) = 1#1 → P k.val = iprop(emp)) :
    bigSep (Finset.univ : Finset (Fin (cnt c i f1 256))) (fun t => P (rowOf c i f1 t.val))
      = bigSep (Finset.univ : Finset (Fin k0_t1_loop.trips)) (fun k => P k.val) := by
  rw [Ring.bigSep_fin_eq_range _ _ (fun t => P (rowOf c i f1 t)) (fun t h => rfl),
    Ring.bigSep_fin_eq_range _ _ P (fun t h => rfl)]
  have key : ∀ m, m ≤ k0_t1_loop.trips → bigSep (Finset.range (cnt c i f1 m)) (fun t => P (rowOf c i f1 t)) = bigSep (Finset.range m) P := by
    intro m
    induction m with
    | zero => intro _; rfl
    | succ m ih =>
      intro hm
      have ih' := ih (by omega)
      rw [Finset.range_add_one, bigSep_insert Finset.notMem_range_self]
      by_cases hl : k0_cond1 (wd c i f1 ⟨m, hm⟩) = 1#1
      · have hs : cnt c i f1 (m + 1) = cnt c i f1 m + 1 := cnt_succ_pos c i f1 ⟨m, hm⟩ hl
        rw [hs, Finset.range_add_one, bigSep_insert Finset.notMem_range_self, ih', show rowOf c i f1 (cnt c i f1 m) = m from rowOf_cnt c i f1 ⟨m, hm⟩ hl]
      · have hs : cnt c i f1 (m + 1) = cnt c i f1 m := cnt_succ_neg c i f1 ⟨m, hm⟩ hl
        rw [hs, ih', hP ⟨m, hm⟩ hl]
        exact (BI.equiv_iff.mp ⟨BI.emp_sep.1, BI.emp_sep.2⟩).symm
  have := key 256 (by rw [trips1])
  rw [this, trips1]

theorem drK_neg (k : Fin k0_t1_loop.trips) (hl : ¬ k0_cond1 (wd c i f1 k) = 1#1) : drK c i f1 f2 hg fK f9 k.val = iprop(emp) := by
  unfold drK; rw [dif_neg]; rintro ⟨_, h⟩; exact hl h
theorem drV_neg (k : Fin k0_t1_loop.trips) (hl : ¬ k0_cond1 (wd c i f1 k) = 1#1) : drV c i f1 f2 hg fV f10 k.val = iprop(emp) := by
  unfold drV; rw [dif_neg]; rintro ⟨_, h⟩; exact hl h

/-- One row after both loops. -/
abbrev fin (k : Fin k0_t1_loop.trips) : sProp 𝕄 :=
  iprop((((Memref.whole cc0_scratch0).view.loc (c : Thread nD τ)) ↦[(pgK k).view.set]{fullShare} endK c i f1 f2 hg fK f9 M4 f4 k)
    ∗ (((Memref.whole cc0_scratch1).view.loc (c : Thread nD τ)) ↦[(pgV k).view.set]{fullShare} endV c i f1 f2 hg fV f10 M5 f5 k)
    ∗ ptq c (Memref.whole main_arg3) (tok k.val) fK ∗ ptq c (Memref.whole main_arg4) (tok k.val) fV)

theorem endK_pos (k : Fin k0_t1_loop.trips) (hl : k0_cond1 (wd c i f1 k) = 1#1) : endK c i f1 f2 hg fK f9 M4 f4 k
    = (pgK k).view.writes (Elt F) (f9At c f9 k) [⟨Rect.whole S8x128, ReadAs.same.apply ((sK c i f1 f2 hg k hl).view.read (Elt F) (fKAt c i f1 f2 hg fK k hl))⟩] := dif_pos hl
theorem endK_neg (k : Fin k0_t1_loop.trips) (hl : ¬ k0_cond1 (wd c i f1 k) = 1#1) : endK c i f1 f2 hg fK f9 M4 f4 k = stK c M4 f4 f9 k := dif_neg hl
theorem endV_pos (k : Fin k0_t1_loop.trips) (hl : k0_cond1 (wd c i f1 k) = 1#1) : endV c i f1 f2 hg fV f10 M5 f5 k
    = (pgV k).view.writes (Elt F) (f10At c f10 k) [⟨Rect.whole S8x128, ReadAs.same.apply ((sV c i f1 f2 hg k hl).view.read (Elt F) (fVAt c i f1 f2 hg fV k hl))⟩] := dif_pos hl
theorem endV_neg (k : Fin k0_t1_loop.trips) (hl : ¬ k0_cond1 (wd c i f1 k) = 1#1) : endV c i f1 f2 hg fV f10 M5 f5 k = stV c M5 f5 f10 k := dif_neg hl

/-- A family of pairs is a pair of families. -/
theorem big_sep (Φ Ψ : Fin k0_t1_loop.trips → sProp 𝕄) :
    bigSep (Finset.univ : Finset (Fin k0_t1_loop.trips)) (fun k => iprop(Φ k ∗ Ψ k)) = iprop(bigSep Finset.univ Φ ∗ bigSep Finset.univ Ψ) := bigSep_sep _ _ _

abbrev pageK (k : Fin k0_t1_loop.trips) (g : Bf (F := F) c (Memref.whole cc0_scratch0)) : sProp 𝕄 :=
  ((Memref.whole cc0_scratch0).view.loc (c : Thread nD τ)) ↦[(pgK k).view.set]{fullShare} g
abbrev pageV (k : Fin k0_t1_loop.trips) (g : Bf (F := F) c (Memref.whole cc0_scratch1)) : sProp 𝕄 :=
  ((Memref.whole cc0_scratch1).view.loc (c : Thread nD τ)) ↦[(pgV k).view.set]{fullShare} g

theorem row_end (k : Fin k0_t1_loop.trips) :
    iprop((drK c i f1 f2 hg fK f9 k.val ∗ drV c i f1 f2 hg fV f10 k.val) ∗ done c i f1 f2 hg fK fV f9 f10 M4 f4 M5 f5 k)
      ⊢ fin c i f1 f2 hg fK fV f9 f10 M4 f4 M5 f5 k := by
  unfold fin done
  by_cases hl : k0_cond1 (wd c i f1 k) = 1#1
  · rw [drK_pos c i f1 f2 hg fK f9 k hl, drV_pos c i f1 f2 hg fV f10 k hl, dif_pos hl]
    have eK := congrArg (pageK c k) (endK_pos c i f1 f2 hg fK f9 M4 f4 k hl)
    have eV := congrArg (pageV c k) (endV_pos c i f1 f2 hg fV f10 M5 f5 k hl)
    iintro ⟨⟨⟨HPK, HSK⟩, ⟨HPV, HSV⟩⟩, ⟨HRK, HRV⟩⟩
    isplitl [HPK]; · iapply (Entails.of_eq eK.symm); iexact HPK
    isplitl [HPV]; · iapply (Entails.of_eq eV.symm); iexact HPV
    isplitl [HSK HRK]
    · iapply (pointsTo_split_subset (Finset.subset_univ (sK c i f1 f2 hg k hl).view.set)).2
      isplitl [HSK]; · iexact HSK
      iexact HRK
    · iapply (pointsTo_split_subset (Finset.subset_univ (sV c i f1 f2 hg k hl).view.set)).2
      isplitl [HSV]; · iexact HSV
      iexact HRV
  · rw [drK_neg c i f1 f2 hg fK f9 k hl, drV_neg c i f1 f2 hg fV f10 k hl, dif_neg hl]
    have eK := congrArg (pageK c k) (endK_neg c i f1 f2 hg fK f9 M4 f4 k hl)
    have eV := congrArg (pageV c k) (endV_neg c i f1 f2 hg fV f10 M5 f5 k hl)
    iintro ⟨-, ⟨HPK, HPV, HSK, HSV⟩⟩
    isplitl [HPK]; · iapply (Entails.of_eq eK.symm); iexact HPK
    isplitl [HPV]; · iapply (Entails.of_eq eV.symm); iexact HPV
    isplitl [HSK]; · iexact HSK
    iexact HSV

theorem toks_out (ℓ : Loc nD τ sig) (f : Buf (Elt F) ℓ) :
    (ℓ ↦{fullShare} f : sProp 𝕄) ⊣⊢ iprop((ℓ ↦[Finset.univ]{Transfers.shareDrop fullShare k0_t1_loop.trips} f)
      ∗ bigSep (Finset.univ : Finset (Fin k0_t1_loop.trips)) (fun k => ℓ ↦{tok k.val} f)) := by
  rw [Ring.bigSep_fin_eq_range k0_t1_loop.trips _ (fun t => (ℓ ↦[Finset.univ]{tok t} f : sProp 𝕄)) (fun t h => rfl)]
  exact Transfers.pointsTo_toks_range fullShare k0_t1_loop.trips

/-- What the loops start from, row by row. -/
theorem rows_in :
    iprop(ptq c (Memref.whole main_arg3) fullShare fK ∗ ptq c (Memref.whole main_arg4) fullShare fV
        ∗ ptq c (Memref.whole cc0_scratch0) fullShare f9 ∗ ptq c (Memref.whole cc0_scratch1) fullShare f10)
      ⊢ iprop(((Memref.whole main_arg3).view.loc (c : Thread nD τ) ↦[Finset.univ]{Transfers.shareDrop fullShare k0_t1_loop.trips} fK)
        ∗ ((Memref.whole main_arg4).view.loc (c : Thread nD τ) ↦[Finset.univ]{Transfers.shareDrop fullShare k0_t1_loop.trips} fV)
        ∗ bigSep (Finset.univ : Finset (Fin k0_t1_loop.trips)) (pend c fK fV f9 f10)) := by
  have e1 := by_fibres (F := F) (ℓ := (Memref.whole cc0_scratch0).view.loc (c : Thread nD τ)) (fun k => (pgK k).view.set) rowIx (fun k y => mem_pgK k y) (fun _ => f9)
  have e2 := by_fibres (F := F) (ℓ := (Memref.whole cc0_scratch1).view.loc (c : Thread nD τ)) (fun k => (pgV k).view.set) rowIx (fun k y => mem_pgV k y) (fun _ => f10)
  iintro ⟨HK, HV, H9, H10⟩
  ihave HK' := (toks_out (F := F) _ fK).1 $$ HK
  ihave HV' := (toks_out (F := F) _ fV).1 $$ HV
  icases HK' with ⟨HK, HKt⟩
  icases HV' with ⟨HV, HVt⟩
  ihave H9' := (Entails.of_eq e1.symm) $$ H9
  ihave H10' := (Entails.of_eq e2.symm) $$ H10
  isplitl [HK]; · iexact HK
  isplitl [HV]; · iexact HV
  unfold pend
  iapply (Entails.of_eq (big_sep _ _).symm)
  isplitl [H9']; · iexact H9'
  iapply (Entails.of_eq (big_sep _ _).symm)
  isplitl [H10']; · iexact H10'
  iapply (Entails.of_eq (big_sep _ _).symm)
  isplitl [HKt]; · iexact HKt
  iexact HVt

/-- What they leave, whole. -/
theorem rows_out :
    iprop(((Memref.whole main_arg3).view.loc (c : Thread nD τ) ↦[Finset.univ]{Transfers.shareDrop fullShare k0_t1_loop.trips} fK)
        ∗ ((Memref.whole main_arg4).view.loc (c : Thread nD τ) ↦[Finset.univ]{Transfers.shareDrop fullShare k0_t1_loop.trips} fV)
        ∗ bigSep Finset.univ (DK c i f1 f2 hg fK f9) ∗ bigSep Finset.univ (DV c i f1 f2 hg fV f10)
        ∗ bigSep (Finset.univ : Finset (Fin k0_t1_loop.trips)) (done c i f1 f2 hg fK fV f9 f10 M4 f4 M5 f5))
      ⊢ iprop(ptq c (Memref.whole main_arg3) fullShare fK ∗ ptq c (Memref.whole main_arg4) fullShare fV
        ∗ ptq c (Memref.whole cc0_scratch0) fullShare (gathK c i f1 f2 hg fK f9 M4 f4) ∗ ptq c (Memref.whole cc0_scratch1) fullShare (gathV c i f1 f2 hg fV f10 M5 f5)) := by
  have e1 := by_fibres (F := F) (ℓ := (Memref.whole cc0_scratch0).view.loc (c : Thread nD τ)) (fun k => (pgK k).view.set) rowIx (fun k y => mem_pgK k y) (endK c i f1 f2 hg fK f9 M4 f4)
  have e2 := by_fibres (F := F) (ℓ := (Memref.whole cc0_scratch1).view.loc (c : Thread nD τ)) (fun k => (pgV k).view.set) rowIx (fun k y => mem_pgV k y) (endV c i f1 f2 hg fV f10 M5 f5)
  have d1 : bigSep Finset.univ (DK c i f1 f2 hg fK f9) = _ := byRow c i f1 (drK c i f1 f2 hg fK f9) (drK_neg c i f1 f2 hg fK f9)
  have d2 : bigSep Finset.univ (DV c i f1 f2 hg fV f10) = _ := byRow c i f1 (drV c i f1 f2 hg fV f10) (drV_neg c i f1 f2 hg fV f10)
  rw [d1, d2]
  have hrow := (Entails.of_eq (big_sep (fun k => iprop(drK c i f1 f2 hg fK f9 k.val ∗ drV c i f1 f2 hg fV f10 k.val))
    (done c i f1 f2 hg fK fV f9 f10 M4 f4 M5 f5)).symm).trans (bigSep_mono fun k _ => row_end c i f1 f2 hg fK fV f9 f10 M4 f4 M5 f5 k)
  iintro ⟨HK, HV, HD1, HD2, HD⟩
  ihave H := hrow $$ [HD1 HD2 HD]
  · isplitl [HD1 HD2]
    · iapply (Entails.of_eq (big_sep _ _).symm)
      isplitl [HD1]; · iexact HD1
      iexact HD2
    · iexact HD
  unfold fin
  ihave H1 := (Entails.of_eq (big_sep _ _)) $$ H
  icases H1 with ⟨H9, H⟩
  ihave H1 := (Entails.of_eq (big_sep _ _)) $$ H
  icases H1 with ⟨H10, H⟩
  ihave H1 := (Entails.of_eq (big_sep _ _)) $$ H
  icases H1 with ⟨HKt, HVt⟩
  isplitl [HK HKt]
  · iapply (toks_out (F := F) _ fK).2
    isplitl [HK]; · iexact HK
    iexact HKt
  isplitl [HV HVt]
  · iapply (toks_out (F := F) _ fV).2
    isplitl [HV]; · iexact HV
    iexact HVt
  isplitl [H9]
  · iapply (Entails.of_eq e1); iexact H9
  · iapply (Entails.of_eq e2); iexact H10

end Run

end Cert.Proof.KernelIdeal

end
-- ==== Proof.Tail.lean ====
/- The whole body of `sample_attn` at one grid step, run to its end. -/
module

public import proofs.«01_k».proof.Proof.Run

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F] [Named F]

local notation "𝕄" => MT nD τ sig Unit (Elt F) ℕ (UD sig nD τ) ℕ

section Run

variable (c : Dev nD) (i : grid0.Coords) (f1 : Bf (F := F) c (Memref.whole main_v3)) (f2 : Bf (F := F) c (Memref.whole main_v4))
  (hg : Good c i f1 f2)
  (fK : Bf (F := F) c (Memref.whole main_arg3)) (fV : Bf (F := F) c (Memref.whole main_arg4))
  (f9 : Bf (F := F) c (Memref.whole cc0_scratch0)) (f10 : Bf (F := F) c (Memref.whole cc0_scratch1))
  (M3 : Memref sig .tc .vmem S1x8x128 .f32) (h3 : M3.IsWhole) (f3 : Bf (F := F) c M3)
  (M4 : Memref sig .tc .vmem S1x8x128 .f32) (h4 : M4.IsWhole) (f4 : Bf (F := F) c M4)
  (M5 : Memref sig .tc .vmem S1x8x128 .f32) (h5 : M5.IsWhole) (f5 : Bf (F := F) c M5)
  (M8 : Memref sig .tc .vmem S1x8x128 .bf16) (h8 : M8.IsWhole) (f8 : Bf (F := F) c M8)
  (q1 q2 : PosShare TreeShare)

/-- What the body stores. -/
abbrev outPay (x3 : Vec F S1x8x128 .f32) (gK gV : Vec F S2048x128 .f32) : FVec F S1x8x128 .bf16 :=
  k0_pay1 (k0_pay4 x3 gK gV)

/-- The whole of a scratch buffer as a rectangle. -/
abbrev full2 : Rect S2048x128 := Rect.unit (s := S2048x128) ![0, 0] S2048x128.size inb_S2048x128_S2048x128_0_0

set_option maxHeartbeats 4000000 in
set_option maxRecDepth 16384 in
theorem tailRun [∀ e, Nonempty (Elt F e)] (Q : PUnit → sProp 𝕄) :
    iprop(ptq c M3 fullShare f3 ∗ ptq c M8 fullShare f8
      ∗ ptq c (Memref.whole cc0_scratch0) fullShare f9 ∗ ptq c (Memref.whole cc0_scratch1) fullShare f10
      ∗ (iprop(ptq c M3 fullShare f3
          ∗ ptq c M8 fullShare (M8.view.writes (Elt F) f8 [⟨full3, outPay (M3.view.readAt (Elt F) full3.toLoadRect f3)
              ((Memref.whole cc0_scratch0).view.readAt (Elt F) full2.toLoadRect f9)
              ((Memref.whole cc0_scratch1).view.readAt (Elt F) full2.toLoadRect f10)⟩])
          ∗ ptq c (Memref.whole cc0_scratch0) fullShare f9 ∗ ptq c (Memref.whole cc0_scratch1) fullShare f10) -∗ Q ⟨⟩))
      ⊢ wp frame (wpE (defs₀ (F := F)) Variants.none c none) Set.univ
        (do
          let v7 : Vec F S1x8x128 .f32 ← Prog.lift (.load M3 (Rect.unit (s := S1x8x128) ![0, 0, 0] S1x8x128.size inb_S1x8x128_S1x8x128_0_0_0).toLoadRect (View.loadsAt_vmem h_S1x8x128))
          let v12 : Vec F S2048x128 .f32 ← Prog.lift (.load (Memref.whole cc0_scratch0) (Rect.unit (s := S2048x128) ![0, 0] S2048x128.size inb_S2048x128_S2048x128_0_0).toLoadRect (View.loadsAt_vmem h_S2048x128))
          let v25 : Vec F S2048x128 .f32 ← Prog.lift (.load (Memref.whole cc0_scratch1) (Rect.unit (s := S2048x128) ![0, 0] S2048x128.size inb_S2048x128_S2048x128_0_0).toLoadRect (View.loadsAt_vmem h_S2048x128))
          let v31 : Vec F S1x8x128 .bf16 ← Prog.lift (.load M8 (Rect.unit (s := S1x8x128) ![0, 0, 0] S1x8x128.size inb_S1x8x128_S1x8x128_0_0_0).toLoadRect (View.loadsAt_vmem h_S1x8x128))
          Prog.lift (.store M8 (Rect.unit (s := S1x8x128) ![0, 0, 0] S1x8x128.size inb_S1x8x128_S1x8x128_0_0_0) (k0_pay1 (k0_pay4 v7 v12 v25)) Finset.univ (View.stores_vmem h_S1x8x128 (h8.storeExact_slice rfl _ packedbf16_S1x8x128_S1x8x128_0_0_0) (fun _ => rfl)) (.inl rfl))
          pure ⟨⟩ : Prog (TpuEff nD τ sig (Elt F) Λ₀ .tc) PUnit) Q := by
  iintro ⟨H3, H8, H9, H10, HQ⟩
  sl_exec
  sl_step
  iapply HQ
  isplitl [H3]; · iexact H3
  isplitl [H8]; · sl_unfold_run_names; iexact H8
  isplitl [H9]; · iexact H9
  iexact H10

end Run

end Cert.Proof.KernelIdeal

end
-- ==== Proof.Whole.lean ====
/- The whole body of `sample_attn` at one grid step, run to its end. -/
module

public import proofs.«01_k».proof.Proof.Tail

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F] [Named F]

local notation "𝕄" => MT nD τ sig Unit (Elt F) ℕ (UD sig nD τ) ℕ

section Run

variable (c : Dev nD) (i : grid0.Coords) (f1 : Bf (F := F) c (Memref.whole main_v3)) (f2 : Bf (F := F) c (Memref.whole main_v4))
  (hg : Good c i f1 f2)
  (fK : Bf (F := F) c (Memref.whole main_arg3)) (fV : Bf (F := F) c (Memref.whole main_arg4))
  (f9 : Bf (F := F) c (Memref.whole cc0_scratch0)) (f10 : Bf (F := F) c (Memref.whole cc0_scratch1))
  (M3 : Memref sig .tc .vmem S1x8x128 .f32) (h3 : M3.IsWhole) (f3 : Bf (F := F) c M3)
  (M4 : Memref sig .tc .vmem S1x8x128 .f32) (h4 : M4.IsWhole) (f4 : Bf (F := F) c M4)
  (M5 : Memref sig .tc .vmem S1x8x128 .f32) (h5 : M5.IsWhole) (f5 : Bf (F := F) c M5)
  (M8 : Memref sig .tc .vmem S1x8x128 .bf16) (h8 : M8.IsWhole) (f8 : Bf (F := F) c M8)
  (q1 q2 : PosShare TreeShare)

set_option maxHeartbeats 4000000 in
set_option maxRecDepth 16384 in
theorem kernelRun [∀ e, Nonempty (Elt F e)] (W : Waits sig Unit) (Q : PUnit → sProp 𝕄) :
    iprop(ptq c (Memref.whole main_v3) q1 f1 ∗ ptq c (Memref.whole main_v4) q2 f2
      ∗ ptq c M3 fullShare f3 ∗ ptq c M4 fullShare f4 ∗ ptq c M5 fullShare f5 ∗ ptq c M8 fullShare f8
      ∗ ptq c (Memref.whole main_arg3) fullShare fK ∗ ptq c (Memref.whole main_arg4) fullShare fV
      ∗ ptq c (Memref.whole cc0_scratch0) fullShare f9 ∗ ptq c (Memref.whole cc0_scratch1) fullShare f10
      ∗ semVal ((c : Thread nD τ), semK) 0 ∗ semVal ((c : Thread nD τ), semV) 0 ∗ owes (c : Thread nD τ) 0 W
      ∗ (iprop(ptq c (Memref.whole main_v3) q1 f1 ∗ ptq c (Memref.whole main_v4) q2 f2
          ∗ ptq c M3 fullShare f3 ∗ ptq c M4 fullShare f4 ∗ ptq c M5 fullShare f5
          ∗ ptq c M8 fullShare (M8.view.writes (Elt F) f8 [⟨full3, outPay (M3.view.readAt (Elt F) full3.toLoadRect f3)
              ((Memref.whole cc0_scratch0).view.readAt (Elt F) full2.toLoadRect (gathK c i f1 f2 hg fK f9 M4 f4))
              ((Memref.whole cc0_scratch1).view.readAt (Elt F) full2.toLoadRect (gathV c i f1 f2 hg fV f10 M5 f5))⟩])
          ∗ ptq c (Memref.whole main_arg3) fullShare fK ∗ ptq c (Memref.whole main_arg4) fullShare fV
          ∗ (∃ g, ptq c (Memref.whole cc0_scratch0) fullShare g) ∗ (∃ g, ptq c (Memref.whole cc0_scratch1) fullShare g)
          ∗ semVal ((c : Thread nD τ), semK) 0 ∗ semVal ((c : Thread nD τ), semV) 0 ∗ ∃ W, owes (c : Thread nD τ) 0 W) -∗ Q ⟨⟩))
      ⊢ wp frame (wpE (defs₀ (F := F)) Variants.none c none) Set.univ
        (cc0_sample_attn (F := F) i (Memref.whole main_v3) (Memref.isWhole_whole _) (Memref.whole main_v4) (Memref.isWhole_whole _) M3 h3 M4 h4 M5 h5 (Memref.whole main_arg3) (Memref.isWhole_whole _) (Memref.whole main_arg4) (Memref.isWhole_whole _) M8 h8 (Memref.whole cc0_scratch0) (Memref.isWhole_whole _) (Memref.whole cc0_scratch1) (Memref.isWhole_whole _) cc0_scratch2) Q := by
  have p1 : Transfers.InterleavedWaits (c : Thread nD τ) semK := Transfers.InterleavedWaits.intro _ _
  have p2 : Transfers.InterleavedWaits (c : Thread nD τ) semV := Transfers.InterleavedWaits.intro _ _
  iintro ⟨H1, H2, H3, H4, H5, H8, HK, HV, H9, H10, Hc1, Hc2, HO, HQ⟩
  ihave Hin := (rows_in c fK fV f9 f10) $$ [HK HV H9 H10]
  · isplitl [HK]; · iexact HK
    isplitl [HV]; · iexact HV
    isplitl [H9]; · iexact H9
    iexact H10
  icases Hin with ⟨HKr, HVr, HP⟩
  imod (Transfers.batch_alloc' (Lvl := ℕ) countersEmb (c : Thread nD τ) () NN (DK c i f1 f2 hg fK f9) (sm := semK) (E := Set.univ)) $$ Hc1 with HB1
  imod (Transfers.batch_alloc' (Lvl := ℕ) countersEmb (c : Thread nD τ) () NN (DV c i f1 f2 hg fV f10) (sm := semV) (E := Set.univ)) $$ Hc2 with HB2
  simp only [cc0_sample_attn_eq_skeleton]
  unfold cc0_sample_attn_skel
  rw [k0_part3_eq_skeleton]
  unfold k0_part3_skel
  simp only [bind_assoc, pure_bind]
  sl_exec
  sl_for (issueAt c i f1 f2 hg fK fV f9 f10 M4 f4 M5 f5 q1 q2) $$ [HB1 HB2 H1 H2 H4 H5 HP]
  · intro k acc; exact issue_step c i f1 f2 fK fV f9 f10 M3 h3 M4 h4 f4 M5 h5 f5 M8 h8 q1 q2 hg k acc
  · unfold issueAt
    rw [Ring.rangeSet_univ, Ring.bigSep_rangeSet_empty le_rfl]
    isplitl [HB1]; · iexact HB1
    isplitl [HB2]; · iexact HB2
    isplitl [H1]; · iexact H1
    isplitl [H2]; · iexact H2
    isplitl [H4]; · iexact H4
    isplitl [H5]; · iexact H5
    isplitl [HP]; · iexact HP
    iempintro
  iintro %acc HL
  ihave HL' := (show issueAt c i f1 f2 hg fK fV f9 f10 M4 f4 M5 f5 q1 q2 k0_t1_loop.trips acc
      ⊢ iprop((batK c i f1 (DK c i f1 f2 hg fK f9) (cnt c i f1 256) 0 ∗ batV c i f1 (DV c i f1 f2 hg fV f10) (cnt c i f1 256) 0)
        ∗ ptq c (Memref.whole main_v3) q1 f1 ∗ ptq c (Memref.whole main_v4) q2 f2 ∗ ptq c M4 fullShare f4 ∗ ptq c M5 fullShare f5
        ∗ bigSep (Finset.univ : Finset (Fin k0_t1_loop.trips)) (done c i f1 f2 hg fK fV f9 f10 M4 f4 M5 f5)) from by
      unfold issueAt
      rw [Ring.rangeSet_univ]
      have h256 := trips1
      rw [show cnt c i f1 k0_t1_loop.trips = cnt c i f1 256 from congrArg (cnt c i f1) h256]
      iintro ⟨A, B, C, D, E, G, -, I⟩
      isplitl [A B]
      · isplitl [A] <;> iassumption
      isplitl [C]; · iexact C
      isplitl [D]; · iexact D
      isplitl [E]; · iexact E
      isplitl [G]; · iexact G
      iexact I) $$ HL
  icases HL' with ⟨⟨HB1, HB2⟩, H1, H2, H4, H5, HD⟩
  sl_exec
  sl_for (drainAt c i f1 f2 fK fV f9 f10 q1 q2 hg) $$ [HB1 HB2 H1 H2 HO]
  · intro k acc; exact drain_step c i f1 f2 fK fV f9 f10 M3 h3 M4 h4 M5 h5 M8 h8 q1 q2 hg k acc p1 p2
  · unfold drainAt
    rw [show cnt c i f1 0 * NN = 0 from rfl]
    isplitl [HB1]; · iexact HB1
    isplitl [HB2]; · iexact HB2
    isplitl [H1]; · iexact H1
    isplitl [H2]; · iexact H2
    iexists W; iexact HO
  iintro %acc2 HL2
  ihave HL2' := (show drainAt c i f1 f2 fK fV f9 f10 q1 q2 hg k0_t2_loop.trips acc2
      ⊢ iprop(batK c i f1 (DK c i f1 f2 hg fK f9) (cnt c i f1 256) (NN * cnt c i f1 256) ∗ batV c i f1 (DV c i f1 f2 hg fV f10) (cnt c i f1 256) (NN * cnt c i f1 256)
        ∗ ptq c (Memref.whole main_v3) q1 f1 ∗ ptq c (Memref.whole main_v4) q2 f2 ∗ (∃ W, owes (c : Thread nD τ) 0 W)) from by
      unfold drainAt
      have h256 := trips2
      rw [show cnt c i f1 k0_t2_loop.trips = cnt c i f1 256 from congrArg (cnt c i f1) h256, Nat.mul_comm NN]) $$ HL2
  icases HL2' with ⟨HB1, HB2, H1, H2, ⟨%W', HO⟩⟩
  imod (Transfers.batch_collect' countersEmb (c : Thread nD τ) (N := NN) (by decide) (D := DK c i f1 f2 hg fK f9)) $$ HB1 with ⟨HD1, Hc1⟩
  imod (Transfers.batch_collect' countersEmb (c : Thread nD τ) (N := NN) (by decide) (D := DV c i f1 f2 hg fV f10)) $$ HB2 with ⟨HD2, Hc2⟩
  ihave Hout := (rows_out c i f1 f2 hg fK fV f9 f10 M4 f4 M5 f5) $$ [HKr HVr HD1 HD2 HD]
  · isplitl [HKr]; · iexact HKr
    isplitl [HVr]; · iexact HVr
    isplitl [HD1]; · iexact HD1
    isplitl [HD2]; · iexact HD2
    iexact HD
  icases Hout with ⟨HK, HV, H9, H10⟩
  iapply (tailRun c (gathK c i f1 f2 hg fK f9 M4 f4) (gathV c i f1 f2 hg fV f10 M5 f5) M3 f3 M8 h8 f8)
  isplitl [H3]; · iexact H3
  isplitl [H8]; · iexact H8
  isplitl [H9]; · iexact H9
  isplitl [H10]; · iexact H10
  iintro ⟨H3, H8, H9, H10⟩
  iapply HQ
  isplitl [H1]; · iexact H1
  isplitl [H2]; · iexact H2
  isplitl [H3]; · iexact H3
  isplitl [H4]; · iexact H4
  isplitl [H5]; · iexact H5
  isplitl [H8]; · iexact H8
  isplitl [HK]; · iexact HK
  isplitl [HV]; · iexact HV
  isplitl [H9]; · iexists _; iexact H9
  isplitl [H10]; · iexists _; iexact H10
  isplitl [Hc1]; · iexact Hc1
  isplitl [Hc2]; · iexact Hc2
  iexists _; iexact HO

end Run

end Cert.Proof.KernelIdeal

end
-- ==== Proof.Vals.lean ====
/- What the two scratch buffers hold after the gather, row by row. -/
module

public import proofs.«01_k».proof.Proof.Run

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

/-- The cell of a page a scratch index lies at. -/
def inPage (y : S2048x128.Idx) : S8x128.Idx := fun a =>
  match a with
  | ⟨0, _⟩ => (⟨(y 0).val % 8, Nat.mod_lt _ (by decide)⟩ : Fin 8)
  | ⟨1, _⟩ => (⟨(y 1).val, (y 1).isLt⟩ : Fin 128)

theorem page_emb {o : Fin 2 → ℕ} (y : S2048x128.Idx) (e : o = ![8 * (rowIx y).val, 0]) (h : ∀ a, o a + S8x128.size a ≤ S2048x128.size a) :
    (Rect.unit (s := S2048x128) o S8x128.size h).emb (inPage y) = y := by
  subst e
  funext a
  apply Fin.ext
  fin_cases a
  · show 8 * ((y 0).val / 8) + 1 * ((y 0).val % 8) = (y 0).val
    omega
  · show 0 + 1 * (y 1).val = (y 1).val
    omega

theorem pgK_emb (y : S2048x128.Idx) : (pgK (rowIx y)).view.emb (inPage y) = y := page_emb y (k0_off3_eq _) (k0_off3_inb _)
theorem pgV_emb (y : S2048x128.Idx) : (pgV (rowIx y)).view.emb (inPage y) = y := page_emb y (k0_off5_eq _) (k0_off5_inb _)

theorem whole_emb (x : S8x128.Idx) : (Rect.whole S8x128).emb x = x := by
  funext a; apply Fin.ext; show 0 + 1 * (x a).val = (x a).val; omega

section Vals

variable (c : Dev nD) (i : grid0.Coords) (f1 : Bf (F := F) c (Memref.whole main_v3)) (f2 : Bf (F := F) c (Memref.whole main_v4))
  (hg : Good c i f1 f2)
  (fK : Bf (F := F) c (Memref.whole main_arg3)) (fV : Bf (F := F) c (Memref.whole main_arg4))
  (f9 : Bf (F := F) c (Memref.whole cc0_scratch0)) (f10 : Bf (F := F) c (Memref.whole cc0_scratch1))
  (M4 : Memref sig .tc .vmem S1x8x128 .f32) (f4 : Bf (F := F) c M4)
  (M5 : Memref sig .tc .vmem S1x8x128 .f32) (f5 : Bf (F := F) c M5)

/-- Row `k` of the gathered keys and of the gathered values. -/
def rowK (x : FVec F S8x128 .f32) (k : Fin k0_t1_loop.trips) : FVec F S8x128 .f32 :=
  if hl : k0_cond1 (wd c i f1 k) = 1#1 then (sK c i f1 f2 hg k hl).view.read (Elt F) (fKAt c i f1 f2 hg fK k hl) else x
def rowV (x : FVec F S8x128 .f32) (k : Fin k0_t1_loop.trips) : FVec F S8x128 .f32 :=
  if hl : k0_cond1 (wd c i f1 k) = 1#1 then (sV c i f1 f2 hg k hl).view.read (Elt F) (fVAt c i f1 f2 hg fV k hl) else x

/-- The gathered keys and values as one array each. -/
def allK (x : FVec F S8x128 .f32) : Vec F S2048x128 .f32 := fun y => rowK c i f1 f2 hg fK x (rowIx y) (inPage y)
def allV (x : FVec F S8x128 .f32) : Vec F S2048x128 .f32 := fun y => rowV c i f1 f2 hg fV x (rowIx y) (inPage y)

theorem rowK_pos (x : FVec F S8x128 .f32) (k : Fin k0_t1_loop.trips) (hl : k0_cond1 (wd c i f1 k) = 1#1) :
    rowK c i f1 f2 hg fK x k = (sK c i f1 f2 hg k hl).view.read (Elt F) (fKAt c i f1 f2 hg fK k hl) := dif_pos hl
theorem rowK_neg (x : FVec F S8x128 .f32) (k : Fin k0_t1_loop.trips) (hl : ¬ k0_cond1 (wd c i f1 k) = 1#1) :
    rowK c i f1 f2 hg fK x k = x := dif_neg hl

theorem gathK_eq : gathK c i f1 f2 hg fK f9 M4 f4 = allK c i f1 f2 hg fK (newK c M4 f4) := by
  funext y
  by_cases hl : k0_cond1 (wd c i f1 (rowIx y)) = 1#1
  · refine (congrFun (endK_pos c i f1 f2 hg fK f9 M4 f4 (rowIx y) hl) y).trans
      (Eq.trans ?_ (congrFun (rowK_pos c i f1 f2 hg fK (newK c M4 f4) (rowIx y) hl) (inPage y)).symm)
    have e : ((pgK (rowIx y)).view.slice (Rect.whole S8x128)).emb (inPage y) = y := by
      rw [View.emb_slice]; show (pgK (rowIx y)).view.emb ((Rect.whole S8x128).emb (inPage y)) = y
      rw [whole_emb, pgK_emb]
    have h := View.write_emb_of_mem (v := (pgK (rowIx y)).view.slice (Rect.whole S8x128)) (Val := Elt F) (f9At c f9 (rowIx y))
      (ReadAs.same.apply ((sK c i f1 f2 hg (rowIx y) hl).view.read (Elt F) (fKAt c i f1 f2 hg fK (rowIx y) hl))) (Finset.mem_univ (inPage y))
    rw [e] at h
    exact h
  · refine (congrFun (endK_neg c i f1 f2 hg fK f9 M4 f4 (rowIx y) hl) y).trans
      (Eq.trans ?_ (congrFun (rowK_neg c i f1 f2 hg fK (newK c M4 f4) (rowIx y) hl) (inPage y)).symm)
    have e : ((Memref.whole cc0_scratch0).access (Rect.unit (s := S2048x128) (k0_off6 (rowIx y)) S8x128.size (k0_off6_inb (rowIx y)))).emb (inPage y) = y :=
      page_emb y (k0_off6_eq _) (k0_off6_inb _)
    have h := View.write_emb_of_mem (v := ((Memref.whole cc0_scratch0).access (Rect.unit (s := S2048x128) (k0_off6 (rowIx y)) S8x128.size (k0_off6_inb (rowIx y))))) (Val := Elt F) f9
      (newK c M4 f4) (Finset.mem_univ (inPage y))
    rw [e] at h
    exact h

theorem rowV_pos (x : FVec F S8x128 .f32) (k : Fin k0_t1_loop.trips) (hl : k0_cond1 (wd c i f1 k) = 1#1) :
    rowV c i f1 f2 hg fV x k = (sV c i f1 f2 hg k hl).view.read (Elt F) (fVAt c i f1 f2 hg fV k hl) := dif_pos hl
theorem rowV_neg (x : FVec F S8x128 .f32) (k : Fin k0_t1_loop.trips) (hl : ¬ k0_cond1 (wd c i f1 k) = 1#1) :
    rowV c i f1 f2 hg fV x k = x := dif_neg hl

theorem gathV_eq : gathV c i f1 f2 hg fV f10 M5 f5 = allV c i f1 f2 hg fV (newV c M5 f5) := by
  funext y
  by_cases hl : k0_cond1 (wd c i f1 (rowIx y)) = 1#1
  · refine (congrFun (endV_pos c i f1 f2 hg fV f10 M5 f5 (rowIx y) hl) y).trans
      (Eq.trans ?_ (congrFun (rowV_pos c i f1 f2 hg fV (newV c M5 f5) (rowIx y) hl) (inPage y)).symm)
    have e : ((pgV (rowIx y)).view.slice (Rect.whole S8x128)).emb (inPage y) = y := by
      rw [View.emb_slice]; show (pgV (rowIx y)).view.emb ((Rect.whole S8x128).emb (inPage y)) = y
      rw [whole_emb, pgV_emb]
    have h := View.write_emb_of_mem (v := (pgV (rowIx y)).view.slice (Rect.whole S8x128)) (Val := Elt F) (f10At c f10 (rowIx y))
      (ReadAs.same.apply ((sV c i f1 f2 hg (rowIx y) hl).view.read (Elt F) (fVAt c i f1 f2 hg fV (rowIx y) hl))) (Finset.mem_univ (inPage y))
    rw [e] at h
    exact h
  · refine (congrFun (endV_neg c i f1 f2 hg fV f10 M5 f5 (rowIx y) hl) y).trans
      (Eq.trans ?_ (congrFun (rowV_neg c i f1 f2 hg fV (newV c M5 f5) (rowIx y) hl) (inPage y)).symm)
    have e : ((Memref.whole cc0_scratch1).access (Rect.unit (s := S2048x128) (k0_off6 (rowIx y)) S8x128.size (k0_off6_inb (rowIx y)))).emb (inPage y) = y :=
      page_emb y (k0_off6_eq _) (k0_off6_inb _)
    have h := View.write_emb_of_mem (v := ((Memref.whole cc0_scratch1).access (Rect.unit (s := S2048x128) (k0_off6 (rowIx y)) S8x128.size (k0_off6_inb (rowIx y))))) (Val := Elt F) f10
      (newV c M5 f5) (Finset.mem_univ (inPage y))
    rw [e] at h
    exact h

end Vals

end Cert.Proof.KernelIdeal

end
-- ==== Proof.Launch.lean ====
/- The run of `sample_attn` from the launch: the two tables, the staged windows, the body at each of the 32 grid
   points, and what every buffer holds afterwards. -/
module

public import proofs.«01_k».proof.Proof.Whole
public import proofs.«01_k».proof.Proof.Vals
public import proofs.«01_k».proof.Proof.Gen.KernelIdeal.Launch
public import Idealize.ShloMosaic.Lib.Pipeline.FrameBody
public import Idealize.ShloMosaic.Lib.VecWindow

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UD sig nD τ) ℕ

variable (m : (ℓ : Loc nD τ sig) → Buf (Elt F) ℓ) (ρ : Dev nD → PrngReg)

abbrev V (c : Dev nD) (b : Ref sig .tc) : Buf (Elt F) ((c.tc : Thread nD τ).loc b) :=
  StableHlo.after hostOps0 (fun b => m (c, b)) b

/-- The two tables' contents at the call. -/
def tbl : pre0.Contents (Elt F) := fun j => V m (0 : Dev nD) (pre0.ref j)
theorem V_pre (c : Dev nD) (j : Fin pre0.K) : V m c (pre0.ref j) = tbl m j := by
  obtain rfl : c = 0 := Subsingleton.elim _ _
  rfl
abbrev adm : (pcfg0 (F := F)).Adm := ⟨tbl m, trivial⟩
abbrev cfgM := cfg0 (adm m)

theorem PhiT0_eq (c : Dev nD) :
    (Pipeline.ΦT pre0 (tbl m) c : sProp 𝕄)
      = iprop((((c : Thread nD τ).loc main_v3) ↦{fullShare.right} tbl m 0) ∗ (((c : Thread nD τ).loc main_v4) ↦{fullShare.right} tbl m 1)) := by
  unfold Pipeline.ΦT Pipeline.prefHeld
  rw [show (Finset.univ : Finset (Fin 2)) = insert 0 {1} from by decide, bigSep_insert (by decide), bigSep_singleton]
  rfl

abbrev osem0 : Fin 2 → SemLoc sig := fun j => (![semK, semV]) j
theorem ownSemFacts0 : Pipeline.OwnSemFacts spec0 osem0 := by decide
theorem ownSems00_eq (c : Dev nD) :
    (Pipeline.ownSems0 (Ix := Unit) (Name := ℕ) (U := UD sig nD τ) (Lvl := ℕ) (Val := Elt F) (τ := τ) osem0 c : sProp 𝕄)
      = iprop(semVal ((c : Thread nD τ), semK) 0 ∗ semVal ((c : Thread nD τ), semV) 0) := by
  rw [Pipeline.ownSems0_eq_of_list c osem0 [0, 1] (by decide) (by decide)]
  rfl
def H0 : Finset (Ref sig .tc) := {main_arg3, main_arg4}
theorem H0_sub : H0 ⊆ Pipeline.restRefsP sig pre0 spec0 := by decide
theorem hbmPts0_eq (c : Dev nD) :
    (bigSep H0 (fun b => (((c.tc : Thread nD τ).loc b) ↦{fullShare} V m c b : sProp 𝕄)))
      = iprop((((c : Thread nD τ).loc main_arg3) ↦{fullShare} V m c main_arg3) ∗ (((c : Thread nD τ).loc main_arg4) ↦{fullShare} V m c main_arg4)) := by
  rw [BI.bigSep_eq_bigSepL_of_eq [main_arg3, main_arg4] (by decide) (by decide)]
  rfl
theorem PhiD0_eq (c : Dev nD) : (Pipeline.ΦD osem0 spec0 H0 (V m) c : sProp 𝕄)
    = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
      ∗ (∃ r, prngReg c r)
      ∗ (semVal ((c : Thread nD τ), semK) 0 ∗ semVal ((c : Thread nD τ), semV) 0)
      ∗ ((((c : Thread nD τ).loc main_arg3) ↦{fullShare} V m c main_arg3) ∗ (((c : Thread nD τ).loc main_arg4) ↦{fullShare} V m c main_arg4))) := by
  rw [Pipeline.ΦD_eq, scopedRest0_eq, ownSems00_eq, hbmPts0_eq]

/-- What the body asks of the tables, at every point. -/
def GoodAt (c : Dev nD) : Prop := ∀ i : grid0.Coords, Good (F := F) c i (tbl m 0) (tbl m 1)

variable (hG : ∀ c, GoodAt m c)

/-- The block of a staged window at a point. -/
def iblk (c : Dev nD) (w : Fin 4) (t : Fin (cfgM m).N) : ((cfgM m).win w).block.Idx → Elt F ((cfgM m).win w).elt :=
  (((cfgM m).win w).blk t).view.read (Elt F) (V m c (Pipeline.arrRef spec0 w))

/-- What the body leaves in the output's block. -/
def outAt (c : Dev nD) (i : grid0.Coords) (x3 x4 x5 : Vec F S1x8x128 .f32) : FVec F S1x8x128 .bf16 :=
  outPay x3 (allK c i (tbl m 0) (tbl m 1) (hG c i) (V m c main_arg3) (k0_pay2 x4))
    (allV c i (tbl m 0) (tbl m 1) (hG c i) (V m c main_arg4) (k0_pay3 x5))

def dats (_ : Fin 1) (c : Dev nD) : Dat τ (Elt F) Unit ℕ (UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m hG c (grid0.coords t) (iblk m c 0 t) (iblk m c 1 t) (iblk m c 2 t)
  Φ _ := iprop(Pipeline.ΦD osem0 spec0 H0 (V m) c ∗ Pipeline.ΦT pre0 (tbl m) c)
  q _ := fullShare
  owed _ := 0

theorem A_eq (c : Dev nD) (w : Fin (cfgM m).W) : (dats m hG 0 c).A w = V m c (Pipeline.arrRef spec0 w) := by
  dsimp only [dats]
theorem after0_0 (c : Dev nD) (t : Fin (cfgM m).N) : (dats m hG 0 c).after 0 t = iblk m c 0 t := rfl
theorem after0_1 (c : Dev nD) (t : Fin (cfgM m).N) : (dats m hG 0 c).after 1 t = iblk m c 1 t := rfl
theorem after0_2 (c : Dev nD) (t : Fin (cfgM m).N) : (dats m hG 0 c).after 2 t = iblk m c 2 t := rfl
theorem after0_3 (c : Dev nD) (t : Fin (cfgM m).N) : (dats m hG 0 c).after 3 t
    = outAt m hG c (grid0.coords t) (iblk m c 0 t) (iblk m c 1 t) (iblk m c 2 t) := rfl

theorem before0_0 (c : Dev nD) (t : Fin (cfgM m).N) (d) : (dats m hG 0 c).before 0 t d = iblk m c 0 t :=
  Dat.before_in_eq_fetched (dats m hG 0 c) 0 rfl (fun _ => rfl) (fun _ _ _ => rfl) (fun _ => rfl) t d
theorem before0_1 (c : Dev nD) (t : Fin (cfgM m).N) (d) : (dats m hG 0 c).before 1 t d = iblk m c 1 t :=
  Dat.before_in_eq_fetched (dats m hG 0 c) 1 rfl (fun _ => rfl) (fun _ _ _ => rfl) (fun _ => rfl) t d
theorem before0_2 (c : Dev nD) (t : Fin (cfgM m).N) (d) : (dats m hG 0 c).before 2 t d = iblk m c 2 t :=
  Dat.before_in_eq_fetched (dats m hG 0 c) 2 rfl (fun _ => rfl) (fun _ _ _ => rfl) (fun _ => rfl) t d

theorem owns_whole_iff {e : EltTy} (c : Dev nD) (M : Memref sig .tc .vmem S1x8x128 e) (h : M.IsWhole) (d : S1x8x128.Idx → Elt F e) :
    (owns (c : Thread nD τ) M fullShare d : sProp 𝕄) = iprop(∃ f, ⌜M.view.read (Elt F) f = d⌝ ∗ ptq (F := F) c M fullShare f) := by
  unfold owns
  rw [h.set_eq_univ]

theorem owns_open {e : EltTy} (c : Dev nD) (M : Memref sig .tc .vmem S1x8x128 e) (h : M.IsWhole) (d : S1x8x128.Idx → Elt F e) :
    (owns (c : Thread nD τ) M fullShare d : sProp 𝕄) ⊢ iprop(∃ f, ptq (F := F) c M fullShare f) := by
  rw [owns_whole_iff c M h]
  iintro ⟨%f, -, H⟩
  iexists f
  iexact H

abbrev m0 (t : Fin (cfgM m).N) : Memref sig .tc .vmem S1x8x128 .f32 := spec0_0.stage ((cfgM m).slots t 0)
abbrev m1 (t : Fin (cfgM m).N) : Memref sig .tc .vmem S1x8x128 .f32 := spec0_1.stage ((cfgM m).slots t 1)
abbrev m2 (t : Fin (cfgM m).N) : Memref sig .tc .vmem S1x8x128 .f32 := spec0_2.stage ((cfgM m).slots t 2)
abbrev m3 (t : Fin (cfgM m).N) : Memref sig .tc .vmem S1x8x128 .bf16 := spec0_3.stage ((cfgM m).slots t 3)

abbrev bodyAt (t : Fin (cfgM m).N) : Prog (TpuEff nD τ sig (Elt F) Λ₀ .tc) PUnit :=
  cc0_sample_attn (F := F) (grid0.coords t) (Memref.whole main_v3) (Memref.isWhole_whole _) (Memref.whole main_v4) (Memref.isWhole_whole _)
    (m0 m t) (hstage0_0 (((cfgM m).slots t 0).cast nbuf0_0)) (m1 m t) (hstage0_1 (((cfgM m).slots t 1).cast nbuf0_1))
    (m2 m t) (hstage0_2 (((cfgM m).slots t 2).cast nbuf0_2)) (Memref.whole main_arg3) (Memref.isWhole_whole _) (Memref.whole main_arg4) (Memref.isWhole_whole _)
    (m3 m t) (hstage0_3 (((cfgM m).slots t 3).cast nbuf0_3)) (Memref.whole cc0_scratch0) (Memref.isWhole_whole _) (Memref.whole cc0_scratch1) (Memref.isWhole_whole _) cc0_scratch2

def bodyPre (c : Dev nD) (t : Fin (cfgM m).N) : sProp 𝕄 :=
  iprop((dats m hG 0 c).Φ t.castSucc ∗ (dats m hG 0 c).owesAt () t.castSucc
    ∗ (∃ d, owns (c : Thread nD τ) (m0 m t) fullShare ((dats m hG 0 c).before 0 t d))
    ∗ (∃ d, owns (c : Thread nD τ) (m1 m t) fullShare ((dats m hG 0 c).before 1 t d))
    ∗ (∃ d, owns (c : Thread nD τ) (m2 m t) fullShare ((dats m hG 0 c).before 2 t d))
    ∗ (∃ d, owns (c : Thread nD τ) (m3 m t) fullShare ((dats m hG 0 c).before 3 t d)))
def bodyPost (c : Dev nD) (t : Fin (cfgM m).N) : sProp 𝕄 :=
  iprop((dats m hG 0 c).Φ t.succ ∗ (dats m hG 0 c).owesAt () t.succ
    ∗ owns (c : Thread nD τ) (m0 m t) fullShare ((dats m hG 0 c).after 0 t)
    ∗ owns (c : Thread nD τ) (m1 m t) fullShare ((dats m hG 0 c).after 1 t)
    ∗ owns (c : Thread nD τ) (m2 m t) fullShare ((dats m hG 0 c).after 2 t)
    ∗ owns (c : Thread nD τ) (m3 m t) fullShare ((dats m hG 0 c).after 3 t))

theorem out_read (c : Dev nD) (i : grid0.Coords) (f1 : Bf (F := F) c (Memref.whole main_v3)) (f2 : Bf (F := F) c (Memref.whole main_v4))
    (hg : Good c i f1 f2) (fK : Bf (F := F) c (Memref.whole main_arg3)) (fV : Bf (F := F) c (Memref.whole main_arg4))
    (x3 x4 x5 : Vec F S1x8x128 .f32)
    (M3 M4 M5 : Memref sig .tc .vmem S1x8x128 .f32) (M8 : Memref sig .tc .vmem S1x8x128 .bf16)
    (f3 : Bf (F := F) c M3) (f4 : Bf (F := F) c M4) (f5 : Bf (F := F) c M5) (f8 : Bf (F := F) c M8)
    (f9 : Bf (F := F) c (Memref.whole cc0_scratch0)) (f10 : Bf (F := F) c (Memref.whole cc0_scratch1))
    (e3 : M3.view.read (Elt F) f3 = x3) (e4 : M4.view.read (Elt F) f4 = x4) (e5 : M5.view.read (Elt F) f5 = x5) :
    M8.view.read (Elt F) (M8.view.writes (Elt F) f8 [⟨full3, outPay (M3.view.readAt (Elt F) full3.toLoadRect f3)
        ((Memref.whole cc0_scratch0).view.readAt (Elt F) full2.toLoadRect (gathK c i f1 f2 hg fK f9 M4 f4))
        ((Memref.whole cc0_scratch1).view.readAt (Elt F) full2.toLoadRect (gathV c i f1 f2 hg fV f10 M5 f5))⟩])
      = outPay x3 (allK c i f1 f2 hg fK (k0_pay2 x4)) (allV c i f1 f2 hg fV (k0_pay3 x5)) := by
  refine (View.read_writes_full _ _ _ _ _).trans ?_
  rw [gathK_eq, gathV_eq]
  subst e3 e4 e5
  have h3 : M3.view.readAt (Elt F) full3.toLoadRect f3 = M3.view.read (Elt F) f3 := View.readAt_full _ _ _
  have h4 : M4.view.readAt (Elt F) full3.toLoadRect f4 = M4.view.read (Elt F) f4 := View.readAt_full _ _ _
  have h5 : M5.view.readAt (Elt F) full3.toLoadRect f5 = M5.view.read (Elt F) f5 := View.readAt_full _ _ _
  have hK : ∀ g, (Memref.whole cc0_scratch0).view.readAt (Elt F) full2.toLoadRect g = g := fun g => View.readAt_full _ _ _
  have hV : ∀ g, (Memref.whole cc0_scratch1).view.readAt (Elt F) full2.toLoadRect g = g := fun g => View.readAt_full _ _ _
  unfold newK newV
  rw [h3, h4, h5, hK, hV]

set_option maxHeartbeats 2000000 in
theorem sound_body [∀ e, Nonempty (Elt F e)] (c : Dev nD) (t : Fin (cfgM m).N) :
    bodyPre m hG c t ⊢ wp frame (wpE (defs₀ (F := F)) Variants.none c none) Set.univ (bodyAt m t) (fun _ => bodyPost m hG c t) := by
  unfold bodyPre bodyPost
  rw [show (dats m hG 0 c).Φ t.succ = (dats m hG 0 c).Φ t.castSucc from rfl, after0_0, after0_1, after0_2, after0_3]
  simp only [before0_0, before0_1, before0_2]
  rw [show (dats m hG 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hG 0 c).owed t.castSucc = 0 from rfl, show (dats m hG 0 c).owed t.succ = 0 from rfl]
  simp only [owns_whole_iff c (m0 m t) (hstage0_0 (((cfgM m).slots t 0).cast nbuf0_0)), owns_whole_iff c (m1 m t) (hstage0_1 (((cfgM m).slots t 1).cast nbuf0_1)),
    owns_whole_iff c (m2 m t) (hstage0_2 (((cfgM m).slots t 2).cast nbuf0_2)), owns_whole_iff c (m3 m t) (hstage0_3 (((cfgM m).slots t 3).cast nbuf0_3))]
  iintro ⟨⟨⟨⟨⟨%f9, HS0⟩, ⟨%f10, HS1⟩⟩, Hp, ⟨Hc0, Hc1⟩, ⟨HK, HV⟩⟩, ⟨HT0, HT1⟩⟩, ⟨%W, -, HW⟩, ⟨%d0, %f3, %e3, H3⟩, ⟨%d1, %f4, %e4, H4⟩, ⟨%d2, %f5, %e5, H5⟩, ⟨%d3, H8⟩⟩
  ihave H8 := (owns_open c (m3 m t) (hstage0_3 (((cfgM m).slots t 3).cast nbuf0_3)) ((dats m hG 0 c).before 3 t d3)) $$ H8
  icases H8 with ⟨%f8, H8⟩
  iapply (kernelRun c (grid0.coords t) (tbl m 0) (tbl m 1) (hG c _) (V m c main_arg3) (V m c main_arg4) f9 f10
    (m0 m t) (hstage0_0 (((cfgM m).slots t 0).cast nbuf0_0)) f3 (m1 m t) (hstage0_1 (((cfgM m).slots t 1).cast nbuf0_1)) f4
    (m2 m t) (hstage0_2 (((cfgM m).slots t 2).cast nbuf0_2)) f5 (m3 m t) (hstage0_3 (((cfgM m).slots t 3).cast nbuf0_3)) f8
    fullShare.right fullShare.right W _)
  isplitl [HT0]; · iexact HT0
  isplitl [HT1]; · iexact HT1
  isplitl [H3]; · iexact H3
  isplitl [H4]; · iexact H4
  isplitl [H5]; · iexact H5
  isplitl [H8]; · iexact H8
  isplitl [HK]; · iexact HK
  isplitl [HV]; · iexact HV
  isplitl [HS0]; · iexact HS0
  isplitl [HS1]; · iexact HS1
  isplitl [Hc0]; · iexact Hc0
  isplitl [Hc1]; · iexact Hc1
  isplitl [HW]; · iexact HW
  iintro ⟨HT0, HT1, H3, H4, H5, H8, HK, HV, HS0, HS1, Hc0, Hc1, ⟨%W', HW⟩⟩
  isplitl [HT0 HT1 HK HV HS0 HS1 Hc0 Hc1 Hp]
  · isplitl [HK HV HS0 HS1 Hc0 Hc1 Hp]
    · isplitl [HS0 HS1]
      · isplitl [HS0]; · iexact HS0
        iexact HS1
      isplitl [Hp]; · iexact Hp
      isplitl [Hc0 Hc1]
      · isplitl [Hc0]; · iexact Hc0
        iexact Hc1
      isplitl [HK]; · iexact HK
      iexact HV
    isplitl [HT0]; · iexact HT0
    iexact HT1
  isplitl [HW]
  · iexists W'; isplitr; · ipureintro; exact fun _ _ => Or.inl trivial
    iexact HW
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; isplitr
  swap; · iexact H8
  ipureintro
  exact out_read c (grid0.coords t) (tbl m 0) (tbl m 1) (hG c _) (V m c main_arg3) (V m c main_arg4) _ _ _ _ _ _ _ f3 f4 f5 f8 f9 f10 e3 e4 e5

theorem defs₀_row (t : Fin (cfgM m).N) :
    defs₀ (F := F) .tc (cfgM m).body ((cfgM m).bodyArgs t ((cfgM m).slots t)) = bodyAt m t := by
  unfold defs₀; rw [Defs.onTc_tc]

theorem body_obligation [∀ e, Nonempty (Elt F e)] (c : Dev nD) : BodyObligation (dats (F := F) m hG 0 c) (defs₀ (F := F)) Variants.none () Set.univ := fun t => by
  rw [bigSep_W0, bigSep_W0, defs₀_row]
  exact triple_restated (sound_body m hG c t) rfl .rfl fun _ => .rfl

theorem hmain (𝒱₀ : Variants) : Pipeline.HMainP (Ix := Unit) (Name := ℕ) (U := UD sig nD τ) (Lvl := ℕ) pcfgs 0 (defs₀ (F := F)) 𝒱₀ m main (V m) :=
  Pipeline.hmainP_prefix pcfgs 0 defs₀ 𝒱₀ m main hostOps0 hostOps0_sub ⟨rfl, rfl, rfl, rfl, rfl⟩ main_chain

set_option backward.isDefEq.respectTransparency.types false in
theorem run_main [∀ e, Nonempty (Elt F e)] : θ_run defs (onTc (τ := τ) (main (F := F))) (s₀ m ρ)
    (fun r => Pipeline.FramePost (Pipeline.pin pcfgs (fun _ => adm m)) (dats m hG) 0 (V m) r ∧ r.2.sem = fun _ => 0) :=
  Pipeline.θ_run_frameP_dma (Q' := _) pcfgs (fun _ => adm m) (dats m hG) (0 : Fin 1) launch0 osem0 defs₀ Variants.none ownSemFacts0 H0 H0_sub m ρ main
    (hbody := fun c => (body_obligation m hG c).loose) (hshare := fun c => (dats m hG 0 c).share_full fun _ => rfl)
    (howed := fun _ _ => rfl) (V := V m) (hmain := hmain m Variants.none) (hA := A_eq m hG) (hpf := V_pre m)
    (hin := fun _ => .rfl) (hout := fun c => by change iprop(_ ∗ _) ⊢ _; iintro ⟨HD, -⟩; iexact HD)

end Cert.Proof.KernelIdeal

end
-- ==== Proof.Good.lean ====
/- What the precondition gives of the words the body reads: each position is at most 8192, each page number below
   2560, so every offset the body computes from them is in range. -/
module

public import proofs.«01_k».proof.Proof.Launch
public import proofs.«01_k».proof.Proof.Gen.Pre_drawn
public import Idealize.ShloMosaic.Lib.ReduceAll

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

theorem and1 : ∀ a b : BitVec 1, IntOp.andi a b = 1#1 → a = 1#1 ∧ b = 1#1 := by decide

/-- The words' ranges, from the precondition. -/
theorem words (a0 a1 a2 : FVec F S32x1x8x128 .f32) (a3 a4 : FVec F S2x2560x128x8x128 .f32) (a5 : IVec S32x1x256 32) (a6 : IVec S32x64 32)
    (h : Cert.Pre_drawn.fn (F := F) a0 a1 a2 a3 a4 a5 a6 = fun _ => 1#1) :
    (∀ x, (a5 x).toNat ≤ 8192) ∧ ∀ x, (a6 x).toNat < 2560 := by
  have h := congrFun h (Shape.Idx.first (s := Cert.Pre_drawn.S_) (by decide))
  obtain ⟨h56, h913⟩ := and1 _ _ h
  obtain ⟨h2, h5⟩ := and1 _ _ h56
  obtain ⟨h9, h12⟩ := and1 _ _ h913
  have r2 := fun x => IntOp.cmpi_sge.1 (Host.reduce_andi_all _ _ _ _ _ h2 x)
  have r5 := fun x => IntOp.cmpi_sle.1 (Host.reduce_andi_all _ _ _ _ _ h5 x)
  have r9 := fun x => IntOp.cmpi_sge.1 (Host.reduce_andi_all _ _ _ _ _ h9 x)
  have r12 := fun x => IntOp.cmpi_slt.1 (Host.reduce_andi_all _ _ _ _ _ h12 x)
  refine ⟨fun x => ?_, fun x => ?_⟩
  · have u : (0#32).toInt ≤ (a5 x).toInt := r2 x
    have w : (a5 x).toInt ≤ (8192#32).toInt := r5 x
    rw [show (0#32).toInt = 0 from by decide] at u
    rw [show (8192#32).toInt = 8192 from by decide] at w
    rw [BitVec.toInt_eq_toNat_cond] at u w
    split at u <;> omega
  · have u : (0#32).toInt ≤ (a6 x).toInt := r9 x
    have w : (a6 x).toInt < (2560#32).toInt := r12 x
    rw [show (0#32).toInt = 0 from by decide] at u
    rw [show (2560#32).toInt = 2560 from by decide] at w
    rw [BitVec.toInt_eq_toNat_cond] at u w
    split at u <;> omega

/-! ### The offsets as numbers -/

/-- The logical page of a position, as the body computes it. -/
def pageOf (v37 : BitVec 32) : BitVec 32 :=
  let v38 : BitVec 32 := Scalar.minsi v37 8191#32
  let v45 : BitVec 32 := Scalar.subi (Scalar.extui (Scalar.cmpi .sgt v38 0#32)) (Scalar.extui (Scalar.cmpi .slt v38 0#32))
  let v50 : BitVec 32 := Scalar.subi (Scalar.extui (Scalar.cmpi .sgt 128#32 0#32)) (Scalar.extui (Scalar.cmpi .slt 128#32 0#32))
  let v54 : BitVec 1 := Scalar.andi (Scalar.cmpi .ne v45 v50) (Scalar.cmpi .ne (Scalar.remsi v38 128#32) 0#32)
  let v40 : BitVec 32 := Scalar.divsi v38 128#32
  Scalar.select v54 (Scalar.subi v40 1#32) v40

set_option maxRecDepth 100000 in
theorem pageOf_fin : ∀ n : Fin 8193, pageOf (BitVec.ofNat 32 n.val) = BitVec.ofNat 32 (min n.val 8191 / 128) := by decide +kernel
theorem pageOf_eq (v : BitVec 32) (h : v.toNat ≤ 8192) : pageOf v = BitVec.ofNat 32 (min v.toNat 8191 / 128) := by
  have := pageOf_fin ⟨v.toNat, by omega⟩
  simpa using this

/-- The position within its page, as the body computes it. -/
def offOf (v37 : BitVec 32) : BitVec 32 := BitVec.ofNat 32 (k0_off4 v37 0#32 2)
set_option maxRecDepth 100000 in
theorem offOf_fin : ∀ n : Fin 8193, k0_off4 (BitVec.ofNat 32 n.val) 0#32 2 = min n.val 8191 % 128 := by decide +kernel

theorem off4_eq (v w : BitVec 32) (h : v.toNat ≤ 8192) : k0_off4 v w = ![0, w.toNat, min v.toNat 8191 % 128, 0, 0] := by
  have e := offOf_fin ⟨v.toNat, by omega⟩
  simp only [BitVec.ofNat_toNat, BitVec.setWidth_eq] at e
  rw [← e]
  rfl

theorem off1_eq (i : grid0.Coords) (k : Fin k0_t1_loop.trips) : k0_off1 i k = ![256 * (i 0).val + k.val] := by
  have hi : (i 0).val < 32 := (i 0).isLt
  have hk : k.val < 256 := lt_of_lt_of_eq k.isLt trips1
  funext a
  fin_cases a
  show (BitVec.ofNat 32 (i 0).val * 256#32 + (0#32 + BitVec.ofNat 32 k.val * 1#32)).toNat = 256 * (i 0).val + k.val
  simp only [BitVec.toNat_add, BitVec.toNat_mul, BitVec.toNat_ofNat]
  omega

theorem off2_eq (i : grid0.Coords) (v : BitVec 32) (h : v.toNat ≤ 8192) : k0_off2 i v = ![64 * (i 0).val + min v.toNat 8191 / 128] := by
  have hi : (i 0).val < 32 := (i 0).isLt
  funext a
  fin_cases a
  show (BitVec.ofNat 32 (i 0).val * 64#32 + pageOf v).toNat = _
  rw [pageOf_eq v h]
  simp only [BitVec.toNat_add, BitVec.toNat_mul, BitVec.toNat_ofNat]
  show _ = 64 * (i 0).val + min v.toNat 8191 / 128
  omega

theorem cond1_iff (v : BitVec 32) (h : v.toNat ≤ 8192) : k0_cond1 v = 1#1 ↔ v.toNat < 8192 := by
  have e : ∀ b : BitVec 1, Scalar.cmpi .ne (Scalar.extui b) 0#32 = b := by decide
  show Scalar.cmpi .ne (Scalar.extui (Scalar.cmpi .slt v 8192#32)) 0#32 = 1#1 ↔ _
  rw [e]
  refine IntOp.cmpi_slt.trans ?_
  rw [show (8192#32).toInt = 8192 from by decide, BitVec.toInt_eq_toNat_cond]
  split <;> omega

theorem chk1_of (i : grid0.Coords) (v : BitVec 32) (h : v.toNat ≤ 8192) : k0_chk1 i v := by
  have hi : (i 0).val < 32 := (i 0).isLt
  unfold k0_chk1
  rw [off2_eq i v h]
  intro a; fin_cases a
  show 64 * (i 0).val + min v.toNat 8191 / 128 + 1 ≤ 2048
  omega

theorem good_of (c : Dev nD) (i : grid0.Coords) (f1 : Bf (F := F) c (Memref.whole main_v3)) (f2 : Bf (F := F) c (Memref.whole main_v4))
    (h1 : ∀ x : S8192.Idx, ((f1 x : BitVec 32)).toNat ≤ 8192) (h2 : ∀ x : S2048.Idx, ((f2 x : BitVec 32)).toNat < 2560) : Good c i f1 f2 := by
  have hi : (i 0).val < 32 := (i 0).isLt
  have w1 : ∀ k, (wd c i f1 k).toNat ≤ 8192 := fun k => h1 _
  refine ⟨fun k => ?_, fun k => ?_⟩
  · exact chk1_of i _ (w1 k)
  · unfold k0_chk2
    intro hl
    have hp : ∀ hc, (pw c i f2 (wd c i f1 k) hc).toNat < 2560 := fun hc => h2 _
    intro a
    rw [off4_eq _ _ (w1 k)]
    have hc1 : k0_chk1 i (wd c i f1 k) := chk1_of i _ (w1 k)
    have := hp hc1
    fin_cases a
    · show 0 + 1 ≤ 2; omega
    · show (pw c i f2 (wd c i f1 k) hc1).toNat + 1 ≤ 2560; omega
    · show min (wd c i f1 k).toNat 8191 % 128 + 1 ≤ 128; omega
    · show 0 + 8 ≤ 8; omega
    · show 0 + 128 ≤ 128; omega

variable (m : (ℓ : Loc nD τ sig) → Buf (Elt F) ℓ) (ρ : Dev nD → PrngReg)

/-- The tables and the staged arrays are the reshaped arguments. -/
theorem V_v0 (c : Dev nD) : V m c main_v0 = shapeCast S32x8x128 (m ((c.tc : Thread nD τ).loc main_arg0)) shapeCasts_S32x1x8x128_S32x8x128 := rfl
theorem V_v1 (c : Dev nD) : V m c main_v1 = shapeCast S32x8x128 (m ((c.tc : Thread nD τ).loc main_arg1)) shapeCasts_S32x1x8x128_S32x8x128 := rfl
theorem V_v2 (c : Dev nD) : V m c main_v2 = shapeCast S32x8x128 (m ((c.tc : Thread nD τ).loc main_arg2)) shapeCasts_S32x1x8x128_S32x8x128 := rfl
theorem V_v3 (c : Dev nD) : V m c main_v3 = shapeCast S8192 (m ((c.tc : Thread nD τ).loc main_arg5)) shapeCasts_S32x1x256_S8192 := rfl
theorem V_v4 (c : Dev nD) : V m c main_v4 = shapeCast S2048 (m ((c.tc : Thread nD τ).loc main_arg6)) shapeCasts_S32x64_S2048 := rfl
theorem V_arg0 (c : Dev nD) : V m c main_arg0 = m ((c.tc : Thread nD τ).loc main_arg0) := rfl
theorem V_arg1 (c : Dev nD) : V m c main_arg1 = m ((c.tc : Thread nD τ).loc main_arg1) := rfl
theorem V_arg2 (c : Dev nD) : V m c main_arg2 = m ((c.tc : Thread nD τ).loc main_arg2) := rfl
theorem V_arg3 (c : Dev nD) : V m c main_arg3 = m ((c.tc : Thread nD τ).loc main_arg3) := rfl
theorem V_arg4 (c : Dev nD) : V m c main_arg4 = m ((c.tc : Thread nD τ).loc main_arg4) := rfl
theorem V_arg5 (c : Dev nD) : V m c main_arg5 = m ((c.tc : Thread nD τ).loc main_arg5) := rfl
theorem V_arg6 (c : Dev nD) : V m c main_arg6 = m ((c.tc : Thread nD τ).loc main_arg6) := rfl

theorem tbl_0 : tbl m 0 = V m (0 : Dev nD) main_v3 := rfl
theorem tbl_1 : tbl m 1 = V m (0 : Dev nD) main_v4 := rfl

/-- The precondition at this program's arguments. -/
def Pre : Prop := ∀ c : Dev nD,
  Cert.Pre_drawn.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) = fun _ => 1#1

theorem goodAt (hP : Pre m) (c : Dev nD) : GoodAt m c := fun i =>
  good_of c i (tbl m 0) (tbl m 1) (fun x => (words _ _ _ _ _ _ _ (hP 0)).1 (Shape.reshapeEquiv shapeCasts_S32x1x256_S8192 x))
    (fun x => (words _ _ _ _ _ _ _ (hP 0)).2 (Shape.reshapeEquiv shapeCasts_S32x64_S2048 x))

theorem rest_arg0 : main_arg0 ∈ Pipeline.restRefs sig spec0 := Pipeline.mem_restRefs_of main_arg0 (by decide) (by decide)
theorem rest_arg1 : main_arg1 ∈ Pipeline.restRefs sig spec0 := Pipeline.mem_restRefs_of main_arg1 (by decide) (by decide)
theorem rest_arg2 : main_arg2 ∈ Pipeline.restRefs sig spec0 := Pipeline.mem_restRefs_of main_arg2 (by decide) (by decide)
theorem rest_arg3 : main_arg3 ∈ Pipeline.restRefs sig spec0 := Pipeline.mem_restRefs_of main_arg3 (by decide) (by decide)
theorem rest_arg4 : main_arg4 ∈ Pipeline.restRefs sig spec0 := Pipeline.mem_restRefs_of main_arg4 (by decide) (by decide)
theorem rest_arg5 : main_arg5 ∈ Pipeline.restRefs sig spec0 := Pipeline.mem_restRefs_of main_arg5 (by decide) (by decide)
theorem rest_arg6 : main_arg6 ∈ Pipeline.restRefs sig spec0 := Pipeline.mem_restRefs_of main_arg6 (by decide) (by decide)

/-- The run ends, every semaphore at zero, and leaves the arguments as they were. -/
theorem frame_run [∀ e, Nonempty (Elt F e)] (hP : Pre m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      (h.1 c).2 main_arg0 rest_arg0,
      (h.1 c).2 main_arg1 rest_arg1,
      (h.1 c).2 main_arg2 rest_arg2,
      (h.1 c).2 main_arg3 rest_arg3,
      (h.1 c).2 main_arg4 rest_arg4,
      (h.1 c).2 main_arg5 rest_arg5,
      (h.1 c).2 main_arg6 rest_arg6⟩, h.2⟩) (run_main m ρ (goodAt m hP))

end Cert.Proof.KernelIdeal

end
-- ==== Proof.Ref.lean ====
module

public import proofs.«01_k».proof.Proof.Gen.ReferenceIdeal.Run
public import Idealize.ShloMosaic.Lib.Pointwise

@[expose] public section

set_option maxRecDepth 16384

/-! The reference's result, in named steps. -/

noncomputable section

namespace Cert.Proof.Ref

open Idealize.ShloMosaic Idealize.SL.Sem Cert.ReferenceIdeal Cert.ReferenceIdeal.Facts Cert.ReferenceIdeal.Gen

/-- The page number of each position. -/
def page (a5 : IVec S32x1x256 32) : IVec S32x1x256 32 :=
  ((select) ((cmpi .slt) ((minsi) (select (andi ((cmpi .ne) (signi a5) ((broadcastInDim S32x1x256 ![] bcast_S_S32x1x256) (signi (constantI S_ 32 128#32)))) ((cmpi .ne) (Host.remsi a5 ((broadcastInDim S32x1x256 ![] bcast_S_S32x1x256) (constantI S_ 32 128#32))) ((broadcastInDim S32x1x256 ![] bcast_S_S32x1x256) (constantI S_ 32 0#32)))) (subi (Host.divsi a5 ((broadcastInDim S32x1x256 ![] bcast_S_S32x1x256) (constantI S_ 32 128#32))) ((broadcastInDim S32x1x256 ![] bcast_S_S32x1x256) (constantI S_ 32 1#32))) (Host.divsi a5 ((broadcastInDim S32x1x256 ![] bcast_S_S32x1x256) (constantI S_ 32 128#32)))) ((broadcastInDim S32x1x256 ![] bcast_S_S32x1x256) (constantI S_ 32 63#32))) ((broadcastInDim S32x1x256 ![] bcast_S_S32x1x256) (constantI S_ 32 0#32))) ((addi) ((minsi) (select (andi ((cmpi .ne) (signi a5) ((broadcastInDim S32x1x256 ![] bcast_S_S32x1x256) (signi (constantI S_ 32 128#32)))) ((cmpi .ne) (Host.remsi a5 ((broadcastInDim S32x1x256 ![] bcast_S_S32x1x256) (constantI S_ 32 128#32))) ((broadcastInDim S32x1x256 ![] bcast_S_S32x1x256) (constantI S_ 32 0#32)))) (subi (Host.divsi a5 ((broadcastInDim S32x1x256 ![] bcast_S_S32x1x256) (constantI S_ 32 128#32))) ((broadcastInDim S32x1x256 ![] bcast_S_S32x1x256) (constantI S_ 32 1#32))) (Host.divsi a5 ((broadcastInDim S32x1x256 ![] bcast_S_S32x1x256) (constantI S_ 32 128#32)))) ((broadcastInDim S32x1x256 ![] bcast_S_S32x1x256) (constantI S_ 32 63#32))) ((broadcastInDim S32x1x256 ![] bcast_S_S32x1x256) (constantI S_ 32 64#32))) ((minsi) (select (andi ((cmpi .ne) (signi a5) ((broadcastInDim S32x1x256 ![] bcast_S_S32x1x256) (signi (constantI S_ 32 128#32)))) ((cmpi .ne) (Host.remsi a5 ((broadcastInDim S32x1x256 ![] bcast_S_S32x1x256) (constantI S_ 32 128#32))) ((broadcastInDim S32x1x256 ![] bcast_S_S32x1x256) (constantI S_ 32 0#32)))) (subi (Host.divsi a5 ((broadcastInDim S32x1x256 ![] bcast_S_S32x1x256) (constantI S_ 32 128#32))) ((broadcastInDim S32x1x256 ![] bcast_S_S32x1x256) (constantI S_ 32 1#32))) (Host.divsi a5 ((broadcastInDim S32x1x256 ![] bcast_S_S32x1x256) (constantI S_ 32 128#32)))) ((broadcastInDim S32x1x256 ![] bcast_S_S32x1x256) (constantI S_ 32 63#32))))

/-- The page the table holds there. -/
def phys (pg : IVec S32x1x256 32) (a6 : IVec S32x64 32) : IVec S32x1x256 32 :=
  (Host.gather gather_S32x64_S32x1x256x1_S32x1x256_n_1_0_0_1_3_11 a6 ((broadcastInDim S32x1x256x1 ![0, 1, 2] bcast_S32x1x256_S32x1x256x1_0_1_2) pg))

/-- The row in the page. -/
def off (a5 : IVec S32x1x256 32) : IVec S32x1x256 32 :=
  (select (andi ((cmpi .ne) ((cmpi .slt) (Host.remsi a5 ((broadcastInDim S32x1x256 ![] bcast_S_S32x1x256) (select ((cmpi .eq) (constantI S_ 32 128#32) (constantI S_ 32 0#32)) (constantI S_ 32 1#32) (constantI S_ 32 128#32)))) ((broadcastInDim S32x1x256 ![] bcast_S_S32x1x256) (constantI S_ 32 0#32))) ((broadcastInDim S32x1x256 ![] bcast_S_S32x1x256) ((cmpi .slt) (select ((cmpi .eq) (constantI S_ 32 128#32) (constantI S_ 32 0#32)) (constantI S_ 32 1#32) (constantI S_ 32 128#32)) (constantI S_ 32 0#32)))) ((cmpi .ne) (Host.remsi a5 ((broadcastInDim S32x1x256 ![] bcast_S_S32x1x256) (select ((cmpi .eq) (constantI S_ 32 128#32) (constantI S_ 32 0#32)) (constantI S_ 32 1#32) (constantI S_ 32 128#32)))) ((broadcastInDim S32x1x256 ![] bcast_S_S32x1x256) (constantI S_ 32 0#32)))) (addi (Host.remsi a5 ((broadcastInDim S32x1x256 ![] bcast_S_S32x1x256) (select ((cmpi .eq) (constantI S_ 32 128#32) (constantI S_ 32 0#32)) (constantI S_ 32 1#32) (constantI S_ 32 128#32)))) ((broadcastInDim S32x1x256 ![] bcast_S_S32x1x256) (select ((cmpi .eq) (constantI S_ 32 128#32) (constantI S_ 32 0#32)) (constantI S_ 32 1#32) (constantI S_ 32 128#32)))) (Host.remsi a5 ((broadcastInDim S32x1x256 ![] bcast_S_S32x1x256) (select ((cmpi .eq) (constantI S_ 32 128#32) (constantI S_ 32 0#32)) (constantI S_ 32 1#32) (constantI S_ 32 128#32)))))

/-- A page number that would count from the end. -/
def fixP (ph : IVec S32x1x256 32) : IVec S32x1x256 32 :=
  ((select) ((cmpi .slt) ph ((broadcastInDim S32x1x256 ![] bcast_S_S32x1x256) (constantI S_ 32 0#32))) ((addi) ph ((broadcastInDim S32x1x256 ![] bcast_S_S32x1x256) (constantI S_ 32 2560#32))) ph)

/-- A row that would count from the end. -/
def fixO (of : IVec S32x1x256 32) : IVec S32x1x256 32 :=
  ((select) ((cmpi .slt) of ((broadcastInDim S32x1x256 ![] bcast_S_S32x1x256) (constantI S_ 32 0#32))) ((addi) of ((broadcastInDim S32x1x256 ![] bcast_S_S32x1x256) (constantI S_ 32 128#32))) of)

/-- The row among the new ones. -/
def newIx (a5 : IVec S32x1x256 32) : IVec S32x1x256 32 :=
  ((select) ((cmpi .slt) (minsi ((broadcastInDim S32x1x256 ![] bcast_S_S32x1x256) (constantI S_ 32 0#32)) (maxsi ((broadcastInDim S32x1x256 ![] bcast_S_S32x1x256) (constantI S_ 32 0#32)) ((subi) a5 ((broadcastInDim S32x1x256 ![] bcast_S_S32x1x256) (constantI S_ 32 8192#32))))) ((broadcastInDim S32x1x256 ![] bcast_S_S32x1x256) (constantI S_ 32 0#32))) ((addi) (minsi ((broadcastInDim S32x1x256 ![] bcast_S_S32x1x256) (constantI S_ 32 0#32)) (maxsi ((broadcastInDim S32x1x256 ![] bcast_S_S32x1x256) (constantI S_ 32 0#32)) ((subi) a5 ((broadcastInDim S32x1x256 ![] bcast_S_S32x1x256) (constantI S_ 32 8192#32))))) ((broadcastInDim S32x1x256 ![] bcast_S_S32x1x256) (constantI S_ 32 1#32))) (minsi ((broadcastInDim S32x1x256 ![] bcast_S_S32x1x256) (constantI S_ 32 0#32)) (maxsi ((broadcastInDim S32x1x256 ![] bcast_S_S32x1x256) (constantI S_ 32 0#32)) ((subi) a5 ((broadcastInDim S32x1x256 ![] bcast_S_S32x1x256) (constantI S_ 32 8192#32))))))

/-- The triples layer, page, row. -/
def ixs (ph of : IVec S32x1x256 32) : IVec S32x1x256x3 32 :=
  (concatenate S32x1x256x3 3 [⟨S32x1x256x1, (((broadcastInDim S32x1x256x1 ![0, 1, 2] bcast_S32x1x256_S32x1x256x1_0_1_2) ((broadcastInDim S32x1x256 ![] bcast_S_S32x1x256) (constantI S_ 32 0#32))) : IVec S32x1x256x1 32)⟩, ⟨S32x1x256x1, (((broadcastInDim S32x1x256x1 ![0, 1, 2] bcast_S32x1x256_S32x1x256x1_0_1_2) ph) : IVec S32x1x256x1 32)⟩, ⟨S32x1x256x1, (((broadcastInDim S32x1x256x1 ![0, 1, 2] bcast_S32x1x256_S32x1x256x1_0_1_2) of) : IVec S32x1x256x1 32)⟩] concatenates_S32x1x256x1_S32x1x256x1_S32x1x256x1_S32x1x256x3_d3)

/-- The rows of the cache. -/
def cacheRows (a3 : FVec Ideal S2x2560x128x8x128 .f32) (ix : IVec S32x1x256x3 32) : FVec Ideal S32x1x256x8x128 .f32 :=
  (Host.gather gather_S2x2560x128x8x128_S32x1x256x3_S32x1x256x8x128_34_012_n_n_012_3_1118128 a3 ix)

/-- The new rows. -/
def newRows (a1 : FVec Ideal S32x1x8x128 .f32) (nx : IVec S32x1x256 32) : FVec Ideal S32x1x256x8x128 .f32 :=
  (Host.gather gather_S32x1x8x128_S32x1x256x1_S32x1x256x8x128_34_1_0_0_1_3_118128 a1 ((broadcastInDim S32x1x256x1 ![0, 1, 2] bcast_S32x1x256_S32x1x256x1_0_1_2) nx))

/-- Rows of the cache where the position is past, the new row elsewhere. -/
def chosen (a5 : IVec S32x1x256 32) (cr nr : FVec Ideal S32x1x256x8x128 .f32) : FVec Ideal S32x1x256x8x128 .f32 :=
  (select ((broadcastInDim S32x1x256x8x128 ![0, 1, 2, 3, 4] bcast_S32x1x256x1x1_S32x1x256x8x128_0_1_2_3_4) ((broadcastInDim S32x1x256x1x1 ![0, 1, 2] bcast_S32x1x256_S32x1x256x1x1_0_1_2) ((cmpi .slt) a5 ((broadcastInDim S32x1x256 ![] bcast_S_S32x1x256) (constantI S_ 32 8192#32))))) cr nr)

/-- The logits. -/
def logits (a0 : FVec Ideal S32x1x8x128 .f32) (a5 : IVec S32x1x256 32) (ks : FVec Ideal S32x1x256x8x128 .f32) : FVec Ideal S32x1x8x256 .f32 :=
  (select ((broadcastInDim S32x1x8x256 ![0, 1, 2, 3] bcast_S32x1x1x256_S32x1x8x256_0_1_2_3) ((broadcastInDim S32x1x1x256 ![0, 1, 3] bcast_S32x1x256_S32x1x1x256_0_1_3) ((cmpi .sle) a5 ((broadcastInDim S32x1x256 ![0, 1, 2] bcast_S1x1x1_S32x1x256_0_1_2) ((broadcastInDim S1x1x1 ![1] bcast_S1_S1x1x1_1) ((addi) ((broadcastInDim S1 ![] bcast_S_S1) (constantI S_ 32 8192#32)) (iotaInDim S1 32 0))))))) ((mulf) (Host.dotGeneral dot_S32x1x8x128_S32x1x256x8x128_S32x1x8x256_3_4_n_2_012_013 none a0 ks) ((broadcastInDim S32x1x8x256 ![] bcast_S_S32x1x8x256) (constant S_ .f32 0x3DB504F3#32))) ((broadcastInDim S32x1x8x256 ![] bcast_S_S32x1x8x256) (constant S_ .f32 0xFF800000#32)))

/-- The exponentials below the row maximum. -/
def expo (lg : FVec Ideal S32x1x8x256 .f32) : FVec Ideal S32x1x8x256 .f32 :=
  ((Host.exp) ((subf) lg ((broadcastInDim S32x1x8x256 ![0, 1, 2, 3] bcast_S32x1x8x1_S32x1x8x256_0_1_2_3) ((broadcastInDim S32x1x8x1 ![0, 1, 2] bcast_S32x1x8_S32x1x8x1_0_1_2) ((maximumf) ((broadcastInDim S32x1x8 ![] bcast_S_S32x1x8) (constant S_ .f32 0xFF800000#32)) (Host.reduce FloatOps.maximumf lg (constant S_ .f32 0xFF800000#32) reducesTo_S32x1x8x256_S32x1x8_d3 h_S_))))))

/-- The weighted rows. -/
def outp (e : FVec Ideal S32x1x8x256 .f32) (vs : FVec Ideal S32x1x256x8x128 .f32) : FVec Ideal S32x8x128 .bf16 :=
  ((truncf .bf16 (shapeCast S32x8x128 (Host.dotGeneral dot_S32x1x8x256_S32x1x256x8x128_S32x1x8x128_3_2_n_4_012_013 none ((Host.divf) e ((broadcastInDim S32x1x8x256 ![0, 1, 2, 3] bcast_S32x1x8x1_S32x1x8x256_0_1_2_3) ((broadcastInDim S32x1x8x1 ![0, 1, 2] bcast_S32x1x8_S32x1x8x1_0_1_2) (Host.reduceAdd e (constant S_ .f32 0x00000000#32) reducesTo_S32x1x8x256_S32x1x8_d3 h_S_)))) vs) shapeCasts_S32x1x8x128_S32x8x128) bitsLt_bf16_f32))

/-- The rows of one cache that the queries attend to. -/
def rows (a1 : FVec Ideal S32x1x8x128 .f32) (a3 : FVec Ideal S2x2560x128x8x128 .f32) (a5 : IVec S32x1x256 32) (a6 : IVec S32x64 32) :
    FVec Ideal S32x1x256x8x128 .f32 :=
  chosen a5 (cacheRows a3 (ixs (fixP (phys (page a5) a6)) (fixO (off a5)))) (newRows a1 (newIx a5))

set_option maxHeartbeats 4000000 in
theorem res_eq (m : (ℓ : Loc nD τ sig) → Buf (Elt Ideal) ℓ) (c : Dev nD) :
    Cert.ReferenceIdeal.Value.res_main_v91 (F := Ideal) m c
      = outp (expo (logits (m ((c.tc : Thread nD τ).loc main_arg0)) (m ((c.tc : Thread nD τ).loc main_arg5))
            (rows (m ((c.tc : Thread nD τ).loc main_arg1)) (m ((c.tc : Thread nD τ).loc main_arg3))
              (m ((c.tc : Thread nD τ).loc main_arg5)) (m ((c.tc : Thread nD τ).loc main_arg6)))))
          (rows (m ((c.tc : Thread nD τ).loc main_arg2)) (m ((c.tc : Thread nD τ).loc main_arg4))
              (m ((c.tc : Thread nD τ).loc main_arg5)) (m ((c.tc : Thread nD τ).loc main_arg6))) := rfl

end Cert.Proof.Ref
-- ==== Proof.RefRows.lean ====
module

public import proofs.«01_k».proof.Proof.Ref

@[expose] public section

set_option maxRecDepth 16384

/-! The rows the reference gathers, one element at a time. -/

noncomputable section

namespace Cert.Proof.Ref

open Idealize.ShloMosaic Idealize.SL.Sem Cert.ReferenceIdeal Cert.ReferenceIdeal.Facts Cert.ReferenceIdeal.Gen

/-- Element `(b, k, h, d)` of the rows attended to: the cache's row for a past position, the new row otherwise. -/
def sel (a1 : FVec Ideal S32x1x8x128 .f32) (a3 : FVec Ideal S2x2560x128x8x128 .f32) (a5 : IVec S32x1x256 32) (a6 : IVec S32x64 32)
    (b : Fin 32) (k : Fin 256) (h : Fin 8) (d : Fin 128) : EReal :=
  if (a5 (ix3 b (0 : Fin 1) k)).toNat < 8192 then
    a3 (ix5 (0 : Fin 2) (Fin.ofNat 2560 (a6 (ix2 b (Fin.ofNat 64 ((a5 (ix3 b (0 : Fin 1) k)).toNat / 128)))).toNat)
      (Fin.ofNat 128 (a5 (ix3 b (0 : Fin 1) k)).toNat) h d)
  else a1 (ix4 b (0 : Fin 1) h d)

/-! ### The words -/

theorem page_fin : ∀ n : Fin 8193, page (fun _ => BitVec.ofNat 32 n.val) (ix3 (0 : Fin 32) (0 : Fin 1) (0 : Fin 256)) = BitVec.ofNat 32 (min (n.val / 128) 63) := by
  decide +kernel
theorem fixO_fin : ∀ n : Fin 8193, fixO (off (fun _ => BitVec.ofNat 32 n.val)) (ix3 (0 : Fin 32) (0 : Fin 1) (0 : Fin 256)) = BitVec.ofNat 32 (n.val % 128) := by
  decide +kernel
theorem newIx_fin : ∀ n : Fin 8193, newIx (fun _ => BitVec.ofNat 32 n.val) (ix3 (0 : Fin 32) (0 : Fin 1) (0 : Fin 256)) = 0#32 := by
  decide +kernel
theorem fixP_fin : ∀ n : Fin 2560, fixP (fun _ => BitVec.ofNat 32 n.val) (ix3 (0 : Fin 32) (0 : Fin 1) (0 : Fin 256)) = BitVec.ofNat 32 n.val := by
  decide +kernel

theorem page_const (a5 : IVec S32x1x256 32) (j : S32x1x256.Idx) : page a5 j = page (fun _ => a5 j) (ix3 (0 : Fin 32) (0 : Fin 1) (0 : Fin 256)) := by
  pointwise [page]
theorem fixO_const (a5 : IVec S32x1x256 32) (j : S32x1x256.Idx) : fixO (off a5) j = fixO (off (fun _ => a5 j)) (ix3 (0 : Fin 32) (0 : Fin 1) (0 : Fin 256)) := by
  pointwise [fixO, off]
theorem newIx_const (a5 : IVec S32x1x256 32) (j : S32x1x256.Idx) : newIx a5 j = newIx (fun _ => a5 j) (ix3 (0 : Fin 32) (0 : Fin 1) (0 : Fin 256)) := by
  pointwise [newIx]
theorem fixP_const (a5 : IVec S32x1x256 32) (j : S32x1x256.Idx) : fixP a5 j = fixP (fun _ => a5 j) (ix3 (0 : Fin 32) (0 : Fin 1) (0 : Fin 256)) := by
  pointwise [fixP]

theorem page_at (a5 : IVec S32x1x256 32) (j : S32x1x256.Idx) (h : (a5 j).toNat ≤ 8192) :
    page a5 j = BitVec.ofNat 32 (min ((a5 j).toNat / 128) 63) := by
  have e := page_fin ⟨(a5 j).toNat, by omega⟩
  simp only [BitVec.ofNat_toNat, BitVec.setWidth_eq] at e
  exact (page_const a5 j).trans e
theorem fixO_at (a5 : IVec S32x1x256 32) (j : S32x1x256.Idx) (h : (a5 j).toNat ≤ 8192) :
    fixO (off a5) j = BitVec.ofNat 32 ((a5 j).toNat % 128) := by
  have e := fixO_fin ⟨(a5 j).toNat, by omega⟩
  simp only [BitVec.ofNat_toNat, BitVec.setWidth_eq] at e
  exact (fixO_const a5 j).trans e
theorem newIx_at (a5 : IVec S32x1x256 32) (j : S32x1x256.Idx) (h : (a5 j).toNat ≤ 8192) : newIx a5 j = 0#32 := by
  have e := newIx_fin ⟨(a5 j).toNat, by omega⟩
  simp only [BitVec.ofNat_toNat, BitVec.setWidth_eq] at e
  exact (newIx_const a5 j).trans e
theorem fixP_at (a : IVec S32x1x256 32) (j : S32x1x256.Idx) (h : (a j).toNat < 2560) : fixP a j = a j := by
  have e := fixP_fin ⟨(a j).toNat, h⟩
  simp only [BitVec.ofNat_toNat, BitVec.setWidth_eq] at e
  exact (fixP_const a j).trans e

theorem toInt_of (v : BitVec 32) (h : v.toNat < 2 ^ 31) : v.toInt.toNat = v.toNat := by
  rw [BitVec.toInt_eq_toNat_cond]; split <;> omega

/-! ### The gathers -/

theorem gather_page (x : IVec S32x64 32) (ix : IVec S32x1x256x1 32) (b : Fin 32) (z : Fin 1) (k : Fin 256) (i : Fin 64)
    (h0 : min (ix (ix4 b z k (0 : Fin 1))).toInt.toNat 63 = i.val) :
    Host.gather gather_S32x64_S32x1x256x1_S32x1x256_n_1_0_0_1_3_11 x ix (ix3 b z k) = x (ix2 b i) := by
  unfold Host.gather
  refine congrArg x (funext fun a => Fin.ext ?_)
  have si : (gather_S32x64_S32x1x256x1_S32x1x256_n_1_0_0_1_3_11).siIdx (ix3 b z k) (0 : Fin 1) = ix4 b z k (0 : Fin 1) := by
    funext a
    apply Fin.ext
    fin_cases a <;> rfl
  fin_cases a
  · exact Nat.zero_add _
  · exact (congrArg (fun i => min (ix i).toInt.toNat 63 + 0 + 0) si).trans h0

theorem gather_new {α : Type} (x : S32x1x8x128.Idx → α) (ix : IVec S32x1x256x1 32) (b : Fin 32) (z : Fin 1) (k : Fin 256) (h : Fin 8) (d : Fin 128) :
    Host.gather gather_S32x1x8x128_S32x1x256x1_S32x1x256x8x128_34_1_0_0_1_3_118128 x ix (ix5 b z k h d) = x (ix4 b (0 : Fin 1) h d) := by
  unfold Host.gather
  refine congrArg x (funext fun a => Fin.ext ?_)
  fin_cases a
  · exact Nat.zero_add _
  · exact Nat.lt_one_iff.1 (Fin.isLt _)
  · exact Nat.zero_add _
  · exact Nat.zero_add _

theorem gather_cache {α : Type} (x : S2x2560x128x8x128.Idx → α) (ix : IVec S32x1x256x3 32) (b : Fin 32) (z : Fin 1) (k : Fin 256) (h : Fin 8) (d : Fin 128)
    (i0 : Fin 2) (i1 : Fin 2560) (i2 : Fin 128)
    (h0 : min (ix (ix4 b z k (0 : Fin 3))).toInt.toNat 1 = i0.val)
    (h1 : min (ix (ix4 b z k (1 : Fin 3))).toInt.toNat 2559 = i1.val)
    (h2 : min (ix (ix4 b z k (2 : Fin 3))).toInt.toNat 127 = i2.val) :
    Host.gather gather_S2x2560x128x8x128_S32x1x256x3_S32x1x256x8x128_34_012_n_n_012_3_1118128 x ix (ix5 b z k h d) = x (ix5 i0 i1 i2 h d) := by
  unfold Host.gather
  refine congrArg x (funext fun a => Fin.ext ?_)
  have si : ∀ (n : Fin 3), (gather_S2x2560x128x8x128_S32x1x256x3_S32x1x256x8x128_34_012_n_n_012_3_1118128).siIdx (ix5 b z k h d) n = ix4 b z k n := by
    intro n
    funext a
    apply Fin.ext
    fin_cases a <;> rfl
  fin_cases a
  · exact (congrArg (fun i => min (ix i).toInt.toNat 1 + 0 + 0) (si 0)).trans h0
  · exact (congrArg (fun i => min (ix i).toInt.toNat 2559 + 0 + 0) (si 1)).trans h1
  · exact (congrArg (fun i => min (ix i).toInt.toNat 127 + 0 + 0) (si 2)).trans h2
  · exact Nat.zero_add _
  · exact Nat.zero_add _

theorem ixs_0 (ph of : IVec S32x1x256 32) (b : Fin 32) (k : Fin 256) : ixs ph of (ix4 b (0 : Fin 1) k (0 : Fin 3)) = 0#32 := by
  pointwise [ixs]
theorem ixs_1 (ph of : IVec S32x1x256 32) (b : Fin 32) (k : Fin 256) : ixs ph of (ix4 b (0 : Fin 1) k (1 : Fin 3)) = ph (ix3 b (0 : Fin 1) k) := by
  pointwise [ixs]
theorem ixs_2 (ph of : IVec S32x1x256 32) (b : Fin 32) (k : Fin 256) : ixs ph of (ix4 b (0 : Fin 1) k (2 : Fin 3)) = of (ix3 b (0 : Fin 1) k) := by
  pointwise [ixs]

theorem phys_at (a5 : IVec S32x1x256 32) (a6 : IVec S32x64 32) (h5 : ∀ x, (a5 x).toNat ≤ 8192) (b : Fin 32) (k : Fin 256) :
    phys (page a5) a6 (ix3 b (0 : Fin 1) k) = a6 (ix2 b (⟨min ((a5 (ix3 b (0 : Fin 1) k)).toNat / 128) 63, by omega⟩ : Fin 64)) := by
  unfold phys
  refine gather_page _ _ _ _ _ _ ?_
  have e : (broadcastInDim S32x1x256x1 ![0, 1, 2] bcast_S32x1x256_S32x1x256x1_0_1_2) (page a5) (ix4 b (0 : Fin 1) k (0 : Fin 1)) = page a5 (ix3 b (0 : Fin 1) k) := by
    pointwise []
  rw [e, page_at _ _ (h5 _), toInt_of _ (by simp only [BitVec.toNat_ofNat]; omega)]
  simp only [BitVec.toNat_ofNat]
  omega

theorem slt_iff (v : BitVec 32) (h : v.toNat ≤ 8192) : IntOp.cmpi .slt v 8192#32 = 1#1 ↔ v.toNat < 8192 := by
  refine IntOp.cmpi_slt.trans ?_
  rw [show (8192#32).toInt = 8192 from by decide, BitVec.toInt_eq_toNat_cond]
  split <;> omega

theorem chosen_at (a5 : IVec S32x1x256 32) (cr nr : FVec Ideal S32x1x256x8x128 .f32) (b : Fin 32) (k : Fin 256) (h : Fin 8) (d : Fin 128) :
    chosen a5 cr nr (ix5 b (0 : Fin 1) k h d) = if IntOp.cmpi .slt (a5 (ix3 b (0 : Fin 1) k)) 8192#32 = 1#1 then cr (ix5 b (0 : Fin 1) k h d) else nr (ix5 b (0 : Fin 1) k h d) := by
  pointwise [chosen]
  rfl

theorem rows_at (a1 : FVec Ideal S32x1x8x128 .f32) (a3 : FVec Ideal S2x2560x128x8x128 .f32) (a5 : IVec S32x1x256 32) (a6 : IVec S32x64 32)
    (h5 : ∀ x, (a5 x).toNat ≤ 8192) (h6 : ∀ x, (a6 x).toNat < 2560) (b : Fin 32) (k : Fin 256) (h : Fin 8) (d : Fin 128) :
    rows a1 a3 a5 a6 (ix5 b (0 : Fin 1) k h d) = sel a1 a3 a5 a6 b k h d := by
  unfold rows sel
  rw [chosen_at]
  by_cases hv : (a5 (ix3 b (0 : Fin 1) k)).toNat < 8192
  · rw [if_pos ((slt_iff _ (h5 _)).2 hv), if_pos hv]
    unfold cacheRows
    refine gather_cache _ _ _ _ _ _ _ _ _ _ ?_ ?_ ?_
    · rw [ixs_0]; rfl
    · rw [ixs_1]
      have ep : phys (page a5) a6 (ix3 b (0 : Fin 1) k) = a6 (ix2 b (Fin.ofNat 64 ((a5 (ix3 b (0 : Fin 1) k)).toNat / 128))) := by
        rw [phys_at a5 a6 h5]
        refine congrArg (fun i => a6 (ix2 b i)) (Fin.ext ?_)
        show min ((a5 (ix3 b (0 : Fin 1) k)).toNat / 128) 63 = (a5 (ix3 b (0 : Fin 1) k)).toNat / 128 % 64
        omega
      have hb := h6 (ix2 b (Fin.ofNat 64 ((a5 (ix3 b (0 : Fin 1) k)).toNat / 128)))
      rw [fixP_at _ _ (by rw [ep]; exact hb), ep, toInt_of _ (by omega)]
      show min _ 2559 = _ % 2560
      omega
    · rw [ixs_2, fixO_at _ _ (h5 _), toInt_of _ (by simp only [BitVec.toNat_ofNat]; omega)]
      simp only [BitVec.toNat_ofNat]
      show min _ 127 = _ % 128
      omega
  · rw [if_neg (fun e => hv ((slt_iff _ (h5 _)).1 e)), if_neg hv]
    unfold newRows
    exact gather_new _ _ _ _ _ _ _

end Cert.Proof.Ref
end
-- ==== Proof.Soft.lean ====
module

public import Idealize.ShloMosaic.PureOps.Ideal
public import Mathlib.Data.EReal.Inv
public import Mathlib.Algebra.BigOperators.Fin
public import Mathlib.Algebra.BigOperators.Ring.Finset

@[expose] public section

/-! One row of attention two ways over the extended reals: the kernel's, in base two over the columns of
all heads with the other heads' columns masked, and the reference's softmax over the head's own columns. -/

noncomputable section

namespace Cert.Proof.Soft

open Idealize.ShloMosaic Finset

/-- A factor that is a nonnegative real goes out of a sum. -/
theorem sum_mul_real {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [sum_insert ha, sum_insert ha, ih, mul_comm (f a), mul_comm (∑ i ∈ s, f i), mul_comm (_ + _)]
    exact (EReal.left_distrib_of_nonneg_of_ne_top (EReal.coe_nonneg.2 hr) (EReal.coe_ne_top r) _ _).symm

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [sum_insert ha, sum_insert ha, EReal.coe_add, ih]

/-- A product of reals is not infinite, nor is a sum of such. -/
theorem sum_real {ι : Type} (s : Finset ι) (f : ι → EReal) (hf : ∀ i, ∃ r : ℝ, f i = r) : ∃ r : ℝ, ∑ i ∈ s, f i = r := by
  classical
  choose g hg using hf
  exact ⟨∑ i ∈ s, g i, by rw [coe_sum]; exact sum_congr rfl fun i _ => hg i⟩

theorem exp2_scaled (y : EReal) : Ideal.exp2 (y * (((Real.log 2)⁻¹ : ℝ) : EReal)) = Ideal.exp y := by
  have hl : 0 < Real.log 2 := Real.log_pos (by norm_num)
  have hc : 0 < (Real.log 2)⁻¹ := inv_pos.2 hl
  induction y using EReal.rec with
  | bot => rw [EReal.bot_mul_coe_of_pos hc]; rfl
  | top => rw [EReal.top_mul_coe_of_pos hc]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    field_simp

/-- The columns: key `k`'s row of head `h` is column `8 k + h`. -/
def col (k : Fin 256) (h : Fin 8) : Fin 2048 := ⟨8 * k.val + h.val, by omega⟩

theorem sum_cols (f : Fin 2048 → EReal) : ∑ j, f j = ∑ k : Fin 256, ∑ h : Fin 8, f (col k h) := by
  rw [← Fintype.sum_prod_type' (f := fun k h => f (col k h))]
  refine (Fintype.sum_equiv (finProdFinEquiv (m := 256) (n := 8)) _ _ fun x => ?_).symm
  refine congrArg f (Fin.ext ?_)
  show 8 * x.1.val + x.2.val = x.2.val + 8 * x.1.val
  omega

theorem sum_own (h : Fin 8) (f : Fin 2048 → EReal) (hf : ∀ k h', h' ≠ h → f (col k h') = 0) :
    ∑ j, f j = ∑ k : Fin 256, f (col k h) := by
  rw [sum_cols]
  refine sum_congr rfl fun k _ => ?_
  exact sum_eq_single h (fun h' _ e => hf k h' e) (fun e => absurd (mem_univ h) e)

theorem exists_col (j : Fin 2048) : ∃ k h, j = col k h :=
  ⟨⟨j.val / 8, by omega⟩, ⟨j.val % 8, by omega⟩, Fin.ext (by show j.val = 8 * (j.val / 8) + j.val % 8; omega)⟩

/-- Dividing a sum by a nonzero real is dividing its terms. -/
theorem div_sum (E W : Fin 256 → EReal) (l : ℝ) (hl : 0 < l) :
    Ideal.div (∑ k, E k * W k) (l : EReal) = ∑ k, Ideal.div (E k) (l : EReal) * W k := by
  have h0 : (l : EReal) ≠ 0 := by exact_mod_cast hl.ne'
  unfold Ideal.div
  simp only [if_neg h0]
  rw [← EReal.coe_inv, ← sum_mul_real _ _ _ (inv_nonneg.2 hl.le)]
  refine sum_congr rfl fun k _ => ?_
  rw [mul_assoc, mul_comm (W k), ← mul_assoc]

/-- The row's two spellings. `L` is the reference's logits, finite; `lg` the kernel's, of all columns. -/
theorem row (h : Fin 8) (L : Fin 256 → EReal) (hL : ∀ k, ∃ r : ℝ, L k = r) (W : Fin 256 → EReal)
    (lg V : Fin 2048 → EReal)
    (hown : ∀ k, lg (col k h) = L k * (((Real.log 2)⁻¹ : ℝ) : EReal))
    (hoth : ∀ k h', h' ≠ h → lg (col k h') = ⊥) (hV : ∀ k, V (col k h) = W k) :
    Ideal.div (∑ j, Ideal.exp2 (lg j - univ.fold max ⊥ lg) * V j) (∑ j, Ideal.exp2 (lg j - univ.fold max ⊥ lg))
      = ∑ k, Ideal.div (Ideal.exp (L k - max ⊥ (univ.fold max ⊥ L))) (∑ k, Ideal.exp (L k - max ⊥ (univ.fold max ⊥ L))) * W k := by
  have hl2 : 0 < Real.log 2 := Real.log_pos (by norm_num)
  have hc : 0 < (Real.log 2)⁻¹ := inv_pos.2 hl2
  have hc' : (0 : EReal) ≤ (((Real.log 2)⁻¹ : ℝ) : EReal) := EReal.coe_nonneg.2 hc.le
  set c : EReal := (((Real.log 2)⁻¹ : ℝ) : EReal) with hcdef
  have hM : univ.fold max ⊥ L = univ.sup L := rfl
  have hm : univ.fold max ⊥ lg = univ.sup lg := rfl
  rw [max_eq_right bot_le, hM, hm]
  obtain ⟨k0, _, hk0⟩ := exists_mem_eq_sup (univ : Finset (Fin 256)) ⟨0, mem_univ _⟩ L
  have hle : ∀ k, L k ≤ L k0 := fun k => hk0 ▸ le_sup (f := L) (mem_univ k)
  have hsup : univ.sup lg = L k0 * c := by
    apply le_antisymm
    · refine Finset.sup_le fun j _ => ?_
      obtain ⟨k, h', rfl⟩ := exists_col j
      by_cases e : h' = h
      · subst e; rw [hown]; exact mul_le_mul_of_nonneg_right (hle k) hc'
      · rw [hoth k h' e]; exact bot_le
    · rw [← hown]; exact le_sup (f := lg) (mem_univ _)
  rw [hsup, hk0]
  have hE : ∀ k, Ideal.exp2 (lg (col k h) - L k0 * c) = Ideal.exp (L k - L k0) := fun k => by
    rw [hown, ← exp2_scaled (L k - L k0)]
    congr 1
    obtain ⟨a, ha⟩ := hL k
    obtain ⟨b, hb⟩ := hL k0
    rw [ha, hb, hcdef, ← EReal.coe_mul, ← EReal.coe_mul, ← EReal.coe_sub, ← EReal.coe_sub, ← EReal.coe_mul, sub_mul]
  have hZ : ∀ k h', h' ≠ h → Ideal.exp2 (lg (col k h') - L k0 * c) = 0 := fun k h' e => by
    rw [hoth k h' e, EReal.bot_sub]; rfl
  rw [sum_own h _ fun k h' e => by rw [hZ k h' e, zero_mul], sum_own h _ hZ]
  simp only [hE, hV]
  choose g hg using hL
  have hEr : ∀ k, Ideal.exp (L k - L k0) = ((Real.exp (g k - g k0) : ℝ) : EReal) := fun k => by
    rw [hg k, hg k0, ← EReal.coe_sub]; rfl
  have hs : ∑ k, Ideal.exp (L k - L k0) = ((∑ k, Real.exp (g k - g k0) : ℝ) : EReal) := by
    rw [coe_sum]; exact sum_congr rfl fun k _ => hEr k
  rw [hs]
  exact div_sum _ _ _ (sum_pos (fun k _ => Real.exp_pos _) ⟨0, mem_univ _⟩)

/-- The logit with its scale and its change of base inside the sum. -/
theorem logit (q K : Fin 128 → EReal) (s : ℝ) (hs : 0 ≤ s) :
    ∑ d, q d * ((s * (Real.log 2)⁻¹ : ℝ) : EReal) * K d = (∑ d, q d * K d) * (s : EReal) * (((Real.log 2)⁻¹ : ℝ) : EReal) := by
  have hl2 : 0 < Real.log 2 := Real.log_pos (by norm_num)
  have hc : 0 ≤ (Real.log 2)⁻¹ := (inv_pos.2 hl2).le
  rw [mul_assoc, ← EReal.coe_mul, ← sum_mul_real _ _ _ (mul_nonneg hs hc)]
  refine sum_congr rfl fun d _ => ?_
  rw [mul_assoc, mul_comm _ (K d), ← mul_assoc]

end Cert.Proof.Soft
-- ==== Proof.RefAt.lean ====
module

public import proofs.«01_k».proof.Proof.RefRows
public import proofs.«01_k».proof.Proof.Soft

@[expose] public section

set_option maxRecDepth 16384

/-! The reference's result, one element at a time. -/

noncomputable section

namespace Cert.Proof.Ref

open Idealize.ShloMosaic Idealize.SL.Sem Cert.ReferenceIdeal Cert.ReferenceIdeal.Facts Cert.ReferenceIdeal.Gen

/-- The logit of row `k` for head `h` of sample `b`. -/
def lgt (a0 a1 : FVec Ideal S32x1x8x128 .f32) (a3 : FVec Ideal S2x2560x128x8x128 .f32) (a5 : IVec S32x1x256 32) (a6 : IVec S32x64 32)
    (b : Fin 32) (h : Fin 8) (k : Fin 256) : EReal :=
  (∑ x : Fin 128, a0 (ix4 b (0 : Fin 1) h x) * sel a1 a3 a5 a6 b k h x) * Ideal.ofBits .f32 0x3DB504F3#32

theorem ofBits_bot : Ideal.ofBits .f32 0xFF800000#32 = ⊥ := by simp [Ideal.ofBits, Ideal.ieee]

theorem ofBits_scale : Ideal.ofBits .f32 0x3DB504F3#32 = (((11863283 : ℝ) / 134217728 : ℝ) : EReal) := by
  simp [Ideal.ofBits, Ideal.ieee, -EReal.coe_mul]; norm_num

theorem sle_fin : ∀ n : Fin 8193, IntOp.cmpi .sle (BitVec.ofNat 32 n.val) (IntOp.addi 8192#32 0#32) = 1#1 := by decide +kernel
theorem sle_one (v : BitVec 32) (h : v.toNat ≤ 8192) : IntOp.cmpi .sle v (IntOp.addi 8192#32 0#32) = 1#1 := by
  have e := sle_fin ⟨v.toNat, by omega⟩
  simp only [BitVec.ofNat_toNat, BitVec.setWidth_eq] at e
  exact e

theorem logits_at (a0 a1 : FVec Ideal S32x1x8x128 .f32) (a3 : FVec Ideal S2x2560x128x8x128 .f32) (a5 : IVec S32x1x256 32) (a6 : IVec S32x64 32)
    (h5 : ∀ x, (a5 x).toNat ≤ 8192) (h6 : ∀ x, (a6 x).toNat < 2560) (b : Fin 32) (h : Fin 8) (k : Fin 256) :
    logits a0 a5 (rows a1 a3 a5 a6) (ix4 b (0 : Fin 1) h k) = lgt a0 a1 a3 a5 a6 b h k := by
  pointwise [logits]
  rw [sle_one _ (h5 _)]
  unfold lgt
  simp only [← rows_at a1 a3 a5 a6 h5 h6]
  rfl

theorem expo_at (lg : FVec Ideal S32x1x8x256 .f32) (b : Fin 32) (h : Fin 8) (k : Fin 256) :
    expo lg (ix4 b (0 : Fin 1) h k)
      = Ideal.exp (lg (ix4 b (0 : Fin 1) h k) - max ⊥ (Finset.univ.fold max ⊥ fun x => lg (ix4 b (0 : Fin 1) h x))) := by
  pointwise [expo]
  rw [ofBits_bot]

theorem outp_at (e : FVec Ideal S32x1x8x256 .f32) (vs : FVec Ideal S32x1x256x8x128 .f32) (b : Fin 32) (h : Fin 8) (d : Fin 128) :
    outp e vs (ix3 b h d)
      = ∑ k, Ideal.div (e (ix4 b (0 : Fin 1) h k)) (∑ k, e (ix4 b (0 : Fin 1) h k)) * vs (ix5 b (0 : Fin 1) k h d) := by
  pointwise [outp]

/-- The reference's result at `(b, h, d)`. -/
theorem ref_at (a0 a1 a2 : FVec Ideal S32x1x8x128 .f32) (a3 a4 : FVec Ideal S2x2560x128x8x128 .f32) (a5 : IVec S32x1x256 32) (a6 : IVec S32x64 32)
    (h5 : ∀ x, (a5 x).toNat ≤ 8192) (h6 : ∀ x, (a6 x).toNat < 2560) (b : Fin 32) (h : Fin 8) (d : Fin 128) :
    outp (expo (logits a0 a5 (rows a1 a3 a5 a6))) (rows a2 a4 a5 a6) (ix3 b h d)
      = ∑ k, Ideal.div (Ideal.exp (lgt a0 a1 a3 a5 a6 b h k - max ⊥ (Finset.univ.fold max ⊥ (lgt a0 a1 a3 a5 a6 b h))))
          (∑ k, Ideal.exp (lgt a0 a1 a3 a5 a6 b h k - max ⊥ (Finset.univ.fold max ⊥ (lgt a0 a1 a3 a5 a6 b h))))
          * sel a2 a4 a5 a6 b k h d := by
  rw [outp_at]
  simp only [expo_at, logits_at a0 a1 a3 a5 a6 h5 h6, rows_at a2 a4 a5 a6 h5 h6]

end Cert.Proof.Ref
end
-- ==== Proof.PayAt.lean ====
module

public import proofs.«01_k».proof.Proof.RefAt
public import proofs.«01_k».proof.Proof.Gen.KernelIdeal.Skeleton

@[expose] public section

set_option maxRecDepth 16384

/-! What the kernel stores, one element at a time: the reference's row. -/

noncomputable section

namespace Cert.Proof.KernelIdeal

open Cert.KernelIdeal Cert.KernelIdeal.Gen
open Idealize.ShloMosaic
open Cert.Proof.Soft (col)
open Cert.Proof.Ref (sel lgt)

/-- A column's own head, by its low bits. -/
theorem own_fin : ∀ (k : Fin 256) (h h' : Fin 8),
    IntOp.cmpi .eq (IntOp.andi (BitVec.ofNat 32 (col k h').val) 7#32) (BitVec.ofNat 32 h.val) = if h' = h then 1#1 else 0#1 := by
  decide +kernel

theorem pay_at (q : Vec Ideal S1x8x128 .f32) (K V : Vec Ideal S2048x128 .f32) (h : Fin 8) (d : Fin 128)
    (lg : Fin 2048 → EReal)
    (hlg : ∀ j : Fin 2048, lg j = Scalar.select (IntOp.cmpi .eq (IntOp.andi (BitVec.ofNat 32 j.val) 7#32) (BitVec.ofNat 32 h.val))
      (∑ x : Fin 128, q (ix3 (0 : Fin 1) h x) * ((((11863283 / 134217728) * (Real.log 2)⁻¹ : ℝ)) : EReal) * K (ix2 j x)) (⊥ : EReal)) :
    k0_pay1 (k0_pay4 q K V) (ix3 (0 : Fin 1) h d)
      = Ideal.div (∑ j, Ideal.exp2 (lg j - Finset.univ.fold max ⊥ lg) * V (ix2 j d)) (∑ j, Ideal.exp2 (lg j - Finset.univ.fold max ⊥ lg)) := by
  obtain rfl : lg = _ := funext hlg
  pointwise [k0_pay1, k0_pay4]
  rw [Ref.ofBits_bot]
  rfl

/-- The stored element is the reference's, when the staged query and the gathered rows are. -/
theorem pay_eq (a0 a1 a2 : FVec Ideal S32x1x8x128 .f32) (a3 a4 : FVec Ideal S2x2560x128x8x128 .f32) (a5 : IVec S32x1x256 32) (a6 : IVec S32x64 32)
    (b : Fin 32) (h : Fin 8) (d : Fin 128) (q : Vec Ideal S1x8x128 .f32) (K V : Vec Ideal S2048x128 .f32)
    (hq : ∀ x, q (ix3 (0 : Fin 1) h x) = a0 (ix4 b (0 : Fin 1) h x))
    (hK : ∀ k x, K (ix2 (col k h) x) = sel a1 a3 a5 a6 b k h x)
    (hV : ∀ k, V (ix2 (col k h) d) = sel a2 a4 a5 a6 b k h d)
    (hL : ∀ k, ∃ r : ℝ, lgt a0 a1 a3 a5 a6 b h k = (r : EReal)) :
    k0_pay1 (k0_pay4 q K V) (ix3 (0 : Fin 1) h d)
      = ∑ k, Ideal.div (Ideal.exp (lgt a0 a1 a3 a5 a6 b h k - max ⊥ (Finset.univ.fold max ⊥ (lgt a0 a1 a3 a5 a6 b h))))
          (∑ k, Ideal.exp (lgt a0 a1 a3 a5 a6 b h k - max ⊥ (Finset.univ.fold max ⊥ (lgt a0 a1 a3 a5 a6 b h))))
          * sel a2 a4 a5 a6 b k h d := by
  rw [pay_at q K V h d _ fun _ => rfl]
  refine Soft.row h (lgt a0 a1 a3 a5 a6 b h) hL _ _ (fun j => V (ix2 j d)) (fun k => ?_) (fun k h' ne => ?_) hV
  · rw [own_fin, if_pos rfl]
    simp only [hq, hK]
    rw [Soft.logit _ _ _ (by norm_num : (0 : ℝ) ≤ 11863283 / 134217728)]
    unfold lgt
    rw [Ref.ofBits_scale]
    rfl
  · rw [own_fin, if_neg ne]
    rfl

end Cert.Proof.KernelIdeal
end
-- ==== Proof.PreFin.lean ====
module

public import proofs.«01_k».proof.Pre_finite
public import proofs.«01_k».proof.Proof.Gen.Pre_drawn
public import Idealize.ShloMosaic.Lib.ReduceAll
public import Idealize.ShloMosaic.Lib.Decide
public import Idealize.ShloMosaic.Lib.IdealHost

@[expose] public section

/-! The second precondition: its facts, and what it says of the arguments. -/

namespace Cert.Proof.PreFin

open Idealize.ShloMosaic Idealize.SL.Sem Cert.Pre_finite

/-- The facts the precondition takes. -/
instance facts : Cert.Pre_finite.Facts := by constructor <;> decide

theorem and1 : ∀ a b : BitVec 1, IntOp.andi a b = 1#1 → a = 1#1 ∧ b = 1#1 := by decide

section
variable {F : FTy → Type} [FloatOps F]
  (a0 a1 a2 : FVec F S32x1x8x128 .f32) (a3 a4 : FVec F S2x2560x128x8x128 .f32) (a5 : IVec S32x1x256 32) (a6 : IVec S32x64 32)

theorem drawn (h : Cert.Pre_finite.fn (F := F) a0 a1 a2 a3 a4 a5 a6 = fun _ => 1#1) :
    Cert.Pre_drawn.fn (F := F) a0 a1 a2 a3 a4 a5 a6 = fun _ => 1#1 := by
  funext j
  exact (and1 _ _ (congrFun h j)).1

theorem lt0 (h : Cert.Pre_finite.fn (F := F) a0 a1 a2 a3 a4 a5 a6 = fun _ => 1#1) (x : S32x1x8x128.Idx) :
    FloatOps.cmpf .olt (FloatOps.hostAbsf (a0 x)) (FloatOps.ofBits .f32 0x7F800000#32) = 1#1 :=
  Host.reduce_andi_all _ _ _ _ _ (and1 _ _ (and1 _ _ (and1 _ _ (congrFun h (Shape.Idx.first (s := S_) (by decide)))).2).1).1 x
theorem lt1 (h : Cert.Pre_finite.fn (F := F) a0 a1 a2 a3 a4 a5 a6 = fun _ => 1#1) (x : S32x1x8x128.Idx) :
    FloatOps.cmpf .olt (FloatOps.hostAbsf (a1 x)) (FloatOps.ofBits .f32 0x7F800000#32) = 1#1 :=
  Host.reduce_andi_all _ _ _ _ _ (and1 _ _ (and1 _ _ (and1 _ _ (congrFun h (Shape.Idx.first (s := S_) (by decide)))).2).1).2 x
theorem lt3 (h : Cert.Pre_finite.fn (F := F) a0 a1 a2 a3 a4 a5 a6 = fun _ => 1#1) (x : S2x2560x128x8x128.Idx) :
    FloatOps.cmpf .olt (FloatOps.hostAbsf (a3 x)) (FloatOps.ofBits .f32 0x7F800000#32) = 1#1 :=
  Host.reduce_andi_all _ _ _ _ _ (and1 _ _ (and1 _ _ (congrFun h (Shape.Idx.first (s := S_) (by decide)))).2).2 x
end

/-- A number whose size is below the infinite is real. -/
theorem real_of (x : EReal) (h : FloatOps.cmpf (F := Ideal) (φ := .f32) .olt (FloatOps.hostAbsf (F := Ideal) (φ := .f32) x) (FloatOps.ofBits .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hl : max x (-x) < ⊤ := by
    by_contra hn
    simp [Ideal.cmp, hn] at h'
  have h1 : x ≠ ⊤ := fun e => by rw [e] at hl; simp at hl
  have h2 : x ≠ ⊥ := fun e => by rw [e] at hl; simp at hl
  exact ⟨x.toReal, (EReal.coe_toReal h1 h2).symm⟩

end Cert.Proof.PreFin
end
-- ==== Proof.Value.lean ====
/- What the kernel leaves in its result, one element at a time. -/
module

public import proofs.«01_k».proof.Proof.Good
public import proofs.«01_k».proof.Proof.PayAt
public import proofs.«01_k».proof.Proof.RefAt
public import proofs.«01_k».proof.Proof.PreFin
public import Idealize.ShloMosaic.Lib.Pipeline.ValueKit
public import Idealize.ShloMosaic.Lib.ValueLayout

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Pipeline
open Cert.Proof.Soft (col)
open Cert.Proof.Ref (sel lgt)

section Any
variable {F : FTy → Type} [FloatOps F] [Named F]

theorem row_ix (h : S8x128.numel = S1x1x1x8x128.numel) (x : Fin 8) (y : Fin 128) :
    Shape.reshapeEquiv h (ix2 x y) = ix5 (0 : Fin 1) (0 : Fin 1) (0 : Fin 1) x y :=
  Shape.reshapeEquiv_eq_of_rowMajor h (by
    rw [Shape.rowMajor_val_five, Shape.rowMajor_val_two]
    show ((((0 * 1 + 0) * 1 + 0) * 8 + x.val) * 128 + y.val) = x.val * 128 + y.val
    omega)

theorem row_emb {o : Fin 5 → ℕ} (w p : ℕ) (e : o = ![0, w, p, 0, 0]) (hi : ∀ a, o a + S1x1x1x8x128.size a ≤ S2x2560x128x8x128.size a)
    (x : Fin 8) (y : Fin 128) (hw : w < 2560) (hp : p < 128) :
    (Rect.unit (s := S2x2560x128x8x128) o S1x1x1x8x128.size hi).emb (ix5 (0 : Fin 1) (0 : Fin 1) (0 : Fin 1) x y)
      = ix5 (0 : Fin 2) (⟨w, hw⟩ : Fin 2560) (⟨p, hp⟩ : Fin 128) x y := by
  subst e
  funext a
  apply Fin.ext
  fin_cases a
  · rfl
  · show w + 1 * 0 = w; omega
  · show p + 1 * 0 = p; omega
  · show 0 + 1 * x.val = x.val; omega
  · show 0 + 1 * y.val = y.val; omega

theorem srK_at (c : Dev nD) (v w : BitVec 32) (h2 : k0_chk2 v w) (hl : k0_cond1 v = 1#1) (hv : v.toNat ≤ 8192) (hw : w.toNat < 2560)
    (fK : FVec F S2x2560x128x8x128 .f32) (x : Fin 8) (y : Fin 128) :
    (srK v w h2 hl).view.read (Elt F) fK (ix2 x y)
      = fK (ix5 (0 : Fin 2) (⟨w.toNat, hw⟩ : Fin 2560) (⟨min v.toNat 8191 % 128, by omega⟩ : Fin 128) x y) := by
  show fK ((Rect.unit (s := S2x2560x128x8x128) (k0_off4 v w) S1x1x1x8x128.size (k0_off4_inb v w h2 hl)).emb (Shape.reshapeEquiv _ (ix2 x y))) = _
  rw [row_ix]
  exact congrArg fK (row_emb w.toNat (min v.toNat 8191 % 128) (off4_eq v w hv) _ x y hw (by omega))

theorem srV_at (c : Dev nD) (v w : BitVec 32) (h2 : k0_chk2 v w) (hl : k0_cond1 v = 1#1) (hv : v.toNat ≤ 8192) (hw : w.toNat < 2560)
    (fV : FVec F S2x2560x128x8x128 .f32) (x : Fin 8) (y : Fin 128) :
    (srV v w h2 hl).view.read (Elt F) fV (ix2 x y)
      = fV (ix5 (0 : Fin 2) (⟨w.toNat, hw⟩ : Fin 2560) (⟨min v.toNat 8191 % 128, by omega⟩ : Fin 128) x y) := by
  show fV ((Rect.unit (s := S2x2560x128x8x128) (k0_off4 v w) S1x1x1x8x128.size (k0_off4_inb v w h2 hl)).emb (Shape.reshapeEquiv _ (ix2 x y))) = _
  rw [row_ix]
  exact congrArg fV (row_emb w.toNat (min v.toNat 8191 % 128) (off4_eq v w hv) _ x y hw (by omega))

theorem wd_at (c : Dev nD) (i : grid0.Coords) (f1 : Bf (F := F) c (Memref.whole main_v3)) (k : Fin k0_t1_loop.trips) (n : Fin 8192)
    (hn : n.val = 256 * (i 0).val + k.val) : wd c i f1 k = f1 (ix1 n) := by
  show f1 ((Rect.unit (s := S8192) (k0_off1 i k) S1.size (k0_off1_inb i k)).emb i0) = _
  refine congrArg f1 (funext fun a => Fin.ext ?_)
  fin_cases a
  show k0_off1 i k 0 + 1 * 0 = n.val
  rw [off1_eq, hn]; rfl

theorem pw_at (c : Dev nD) (i : grid0.Coords) (f2 : Bf (F := F) c (Memref.whole main_v4)) (v : BitVec 32) (h : k0_chk1 i v) (hv : v.toNat ≤ 8192)
    (n : Fin 2048) (hn : n.val = 64 * (i 0).val + min v.toNat 8191 / 128) : pw c i f2 v h = f2 (ix1 n) := by
  show f2 ((Rect.unit (s := S2048) (k0_off2 i v) S1.size (k0_off2_inb i v h)).emb i0) = _
  refine congrArg f2 (funext fun a => Fin.ext ?_)
  fin_cases a
  show k0_off2 i v 0 + 1 * 0 = n.val
  rw [off2_eq i v hv, hn]; rfl

theorem flat5 (a5 : IVec S32x1x256 32) (b : Fin 32) (k : Fin 256) (n : Fin 8192) (hn : n.val = 256 * b.val + k.val) :
    shapeCast S8192 a5 shapeCasts_S32x1x256_S8192 (ix1 n) = a5 (ix3 b (0 : Fin 1) k) :=
  shapeCast_apply _ _ _ _ (by
    rw [Shape.rowMajor_val_three, Shape.rowMajor_val_one]
    show (b.val * 1 + 0) * 256 + k.val = n.val
    omega)
theorem flat6 (a6 : IVec S32x64 32) (b : Fin 32) (k : Fin 64) (n : Fin 2048) (hn : n.val = 64 * b.val + k.val) :
    shapeCast S2048 a6 shapeCasts_S32x64_S2048 (ix1 n) = a6 (ix2 b k) :=
  shapeCast_apply _ _ _ _ (by
    rw [Shape.rowMajor_val_two, Shape.rowMajor_val_one]
    show b.val * 64 + k.val = n.val
    omega)
theorem flat0 (a0 : FVec F S32x1x8x128 .f32) (b : Fin 32) (h : Fin 8) (d : Fin 128) :
    shapeCast S32x8x128 a0 shapeCasts_S32x1x8x128_S32x8x128 (ix3 b h d) = a0 (ix4 b (0 : Fin 1) h d) :=
  shapeCast_apply _ _ _ _ (by
    rw [Shape.rowMajor_val_four, Shape.rowMajor_val_three]
    show ((b.val * 1 + 0) * 8 + h.val) * 128 + d.val = (b.val * 8 + h.val) * 128 + d.val
    omega)

/-- The grid coordinate of a point is its number. -/
theorem coords_fin : ∀ t : Fin grid0.N, (grid0.coords t 0).val = t.val := by decide +kernel

theorem tr0 (i : grid0.Coords) : cc0_transform_0 i = ![(i 0).val, 0, 0] := by
  have hi : (i 0).val < 32 := (i 0).isLt
  funext a
  fin_cases a
  · show (BitVec.ofNat 32 (i 0).val).toNat = (i 0).val
    simp only [BitVec.toNat_ofNat]; omega
  · rfl
  · rfl
theorem tr1 (i : grid0.Coords) : cc0_transform_1 i = ![(i 0).val, 0, 0] := tr0 i
theorem tr2 (i : grid0.Coords) : cc0_transform_2 i = ![(i 0).val, 0, 0] := tr0 i
theorem tr5 (i : grid0.Coords) : cc0_transform_5 i = ![(i 0).val, 0, 0] := tr0 i

theorem flush5 : ∀ t : Fin grid0.N, Window.flushOf grid0 true cc0_transform_5 t = true := by decide +kernel

variable (m : (ℓ : Loc nD τ sig) → Buf (Elt F) ℓ)

theorem iblk0_at (c : Dev nD) (t : Fin (cfgM m).N) (b : Fin 32) (hb : b.val = t.val) (h : Fin 8) (d : Fin 128) :
    iblk m c 0 t (ix3 (0 : Fin 1) h d) = m ((c.tc : Thread nD τ).loc main_arg0) (ix4 b (0 : Fin 1) h d) := by
  refine Eq.trans ?_ (flat0 (m ((c.tc : Thread nD τ).loc main_arg0)) b h d)
  show shapeCast S32x8x128 (m ((c.tc : Thread nD τ).loc main_arg0)) shapeCasts_S32x1x8x128_S32x8x128 ((((cfgM m).win 0).rect t).emb (ix3 (0 : Fin 1) h d)) = _
  refine congrArg _ (funext fun a => Fin.ext ?_)
  refine (((cfgM m).win 0).rect_emb_val t (ix3 (0 : Fin 1) h d) a rfl).trans ?_
  show cc0_transform_0 (grid0.coords t) a * _ + _ = _
  rw [tr0, coords_fin]
  fin_cases a
  · show t.val * 1 + 0 = b.val; omega
  · show 0 * 8 + h.val = h.val; omega
  · show 0 * 128 + d.val = d.val; omega
theorem iblk1_at (c : Dev nD) (t : Fin (cfgM m).N) (b : Fin 32) (hb : b.val = t.val) (h : Fin 8) (d : Fin 128) :
    iblk m c 1 t (ix3 (0 : Fin 1) h d) = m ((c.tc : Thread nD τ).loc main_arg1) (ix4 b (0 : Fin 1) h d) := by
  refine Eq.trans ?_ (flat0 (m ((c.tc : Thread nD τ).loc main_arg1)) b h d)
  show shapeCast S32x8x128 (m ((c.tc : Thread nD τ).loc main_arg1)) shapeCasts_S32x1x8x128_S32x8x128 ((((cfgM m).win 1).rect t).emb (ix3 (0 : Fin 1) h d)) = _
  refine congrArg _ (funext fun a => Fin.ext ?_)
  refine (((cfgM m).win 1).rect_emb_val t (ix3 (0 : Fin 1) h d) a rfl).trans ?_
  show cc0_transform_1 (grid0.coords t) a * _ + _ = _
  rw [tr1, coords_fin]
  fin_cases a
  · show t.val * 1 + 0 = b.val; omega
  · show 0 * 8 + h.val = h.val; omega
  · show 0 * 128 + d.val = d.val; omega
theorem iblk2_at (c : Dev nD) (t : Fin (cfgM m).N) (b : Fin 32) (hb : b.val = t.val) (h : Fin 8) (d : Fin 128) :
    iblk m c 2 t (ix3 (0 : Fin 1) h d) = m ((c.tc : Thread nD τ).loc main_arg2) (ix4 b (0 : Fin 1) h d) := by
  refine Eq.trans ?_ (flat0 (m ((c.tc : Thread nD τ).loc main_arg2)) b h d)
  show shapeCast S32x8x128 (m ((c.tc : Thread nD τ).loc main_arg2)) shapeCasts_S32x1x8x128_S32x8x128 ((((cfgM m).win 2).rect t).emb (ix3 (0 : Fin 1) h d)) = _
  refine congrArg _ (funext fun a => Fin.ext ?_)
  refine (((cfgM m).win 2).rect_emb_val t (ix3 (0 : Fin 1) h d) a rfl).trans ?_
  show cc0_transform_2 (grid0.coords t) a * _ + _ = _
  rw [tr2, coords_fin]
  fin_cases a
  · show t.val * 1 + 0 = b.val; omega
  · show 0 * 8 + h.val = h.val; omega
  · show 0 * 128 + d.val = d.val; omega

theorem out_emb (c : Dev nD) (t : Fin (cfgM m).N) (b : Fin 32) (hb : b.val = t.val) (h : Fin 8) (d : Fin 128) :
    (((cfgM m).win 3).blk t).view.emb (ix3 (0 : Fin 1) h d) = ix3 b h d := by
  refine funext fun a => Fin.ext ?_
  refine (((cfgM m).win 3).rect_emb_val t (ix3 (0 : Fin 1) h d) a rfl).trans ?_
  show cc0_transform_5 (grid0.coords t) a * _ + _ = _
  rw [tr5, coords_fin]
  fin_cases a
  · show t.val * 1 + 0 = b.val; omega
  · show 0 * 8 + h.val = h.val; omega
  · show 0 * 128 + d.val = d.val; omega

theorem flush3 (t : Fin (cfgM m).N) : ((cfgM m).win 3).flush t = true := flush5 t

theorem blk_ix (y : S1x8x128.Idx) : ∃ (h : Fin 8) (d : Fin 128), y = ix3 (0 : Fin 1) h d := by
  refine ⟨y 1, y 2, funext fun a => ?_⟩
  fin_cases a
  · exact Fin.ext (Nat.lt_one_iff.1 (y 0).isLt)
  · rfl
  · rfl
theorem arr_ix (y : S32x8x128.Idx) : ∃ (b : Fin 32) (h : Fin 8) (d : Fin 128), y = ix3 b h d := by
  refine ⟨y 0, y 1, y 2, funext fun a => ?_⟩
  fin_cases a <;> rfl

/-- The result array, once its elements are the stored ones. -/
theorem arr_eq (hG : ∀ c, GoodAt m c) (c : Dev nD) (G : FVec F S32x8x128 .bf16)
    (hv : ∀ (t : Fin (cfgM m).N) (b : Fin 32), b.val = t.val → ∀ (h : Fin 8) (d : Fin 128),
      outAt m hG c (grid0.coords t) (iblk m c 0 t) (iblk m c 1 t) (iblk m c 2 t) (ix3 (0 : Fin 1) h d) = G (ix3 b h d)) :
    (dats m hG 0 c).arrAt 3 (cfgM m).N = G := by
  refine (dats m hG 0 c).arrAt_eq_of_emb 3 G (fun t _ y => ?_) (fun i => ?_)
  · obtain ⟨h, d, e⟩ := blk_ix y
    subst e
    have e := hv t ⟨t.val, t.isLt⟩ rfl h d
    rw [out_emb m c t ⟨t.val, t.isLt⟩ rfl h d]
    exact e
  · obtain ⟨b, h, d, e⟩ := arr_ix i
    subst e
    have hb : b.val < (cfgM m).N := lt_of_lt_of_eq b.isLt (show 32 = grid0.N by decide)
    refine ⟨⟨b.val, hb⟩, flush3 m _, ?_⟩
    rw [← out_emb m c ⟨b.val, hb⟩ b rfl h d]
    exact View.emb_mem_set _ _

end Any

/-! ### The gathered rows -/

section Rows
variable (m : (ℓ : Loc nD τ sig) → Buf (Elt Ideal) ℓ)

abbrev A0 (c : Dev nD) : FVec Ideal S32x1x8x128 .f32 := m ((c.tc : Thread nD τ).loc main_arg0)
abbrev A1 (c : Dev nD) : FVec Ideal S32x1x8x128 .f32 := m ((c.tc : Thread nD τ).loc main_arg1)
abbrev A2 (c : Dev nD) : FVec Ideal S32x1x8x128 .f32 := m ((c.tc : Thread nD τ).loc main_arg2)
abbrev A3 (c : Dev nD) : FVec Ideal S2x2560x128x8x128 .f32 := m ((c.tc : Thread nD τ).loc main_arg3)
abbrev A4 (c : Dev nD) : FVec Ideal S2x2560x128x8x128 .f32 := m ((c.tc : Thread nD τ).loc main_arg4)
abbrev A5 (c : Dev nD) : IVec S32x1x256 32 := m ((c.tc : Thread nD τ).loc main_arg5)
abbrev A6 (c : Dev nD) : IVec S32x64 32 := m ((c.tc : Thread nD τ).loc main_arg6)

theorem dev0 : ∀ c : Dev nD, c = (0 : Dev nD) := by decide

/-- The table's word of a row. -/
theorem word_at (c : Dev nD) (i : grid0.Coords) (b : Fin 32) (hb : b.val = (i 0).val) (k : Fin k0_t1_loop.trips) (k' : Fin 256) (hk : k'.val = k.val) :
    wd c i (tbl m 0) k = A5 m c (ix3 b (0 : Fin 1) k') := by
  obtain rfl := dev0 c
  have hn : 256 * b.val + k'.val < 8192 := by omega
  exact (wd_at (0 : Dev nD) i (tbl m 0) k ⟨_, hn⟩ (by show 256 * b.val + k'.val = _; rw [hb, hk])).trans
    (flat5 (A5 m (0 : Dev nD)) b k' ⟨_, hn⟩ rfl)
theorem page_at (c : Dev nD) (i : grid0.Coords) (b : Fin 32) (hb : b.val = (i 0).val) (v : BitVec 32) (h : k0_chk1 i v) (hv : v.toNat ≤ 8192) (p : Fin 64)
    (hp : p.val = min v.toNat 8191 / 128) :
    pw c i (tbl m 1) v h = A6 m c (ix2 b p) := by
  obtain rfl := dev0 c
  have hn : 64 * b.val + p.val < 2048 := by omega
  exact (pw_at (0 : Dev nD) i (tbl m 1) v h hv ⟨_, hn⟩ (by show 64 * b.val + p.val = _; rw [hb, hp])).trans
    (flat6 (A6 m (0 : Dev nD)) b p ⟨_, hn⟩ rfl)

theorem row_col (k : Fin 256) (h : Fin 8) (x : Fin 128) : (rowIx (ix2 (col k h) x)).val = k.val := by
  show (8 * k.val + h.val) / 8 = k.val
  omega
theorem page_col (k : Fin 256) (h : Fin 8) (x : Fin 128) : inPage (ix2 (col k h) x) = ix2 h x := by
  funext a
  apply Fin.ext
  fin_cases a
  · show (8 * k.val + h.val) % 8 = h.val
    omega
  · rfl

theorem allK_at (hG : ∀ c, GoodAt m c) (c : Dev nD) (i : grid0.Coords) (b : Fin 32) (hb : b.val = (i 0).val)
    (h5 : ∀ x, (A5 m c x).toNat ≤ 8192) (h6 : ∀ x, (A6 m c x).toNat < 2560) (X : FVec Ideal S8x128 .f32)
    (hX : ∀ h x, X (ix2 h x) = A1 m c (ix4 b (0 : Fin 1) h x)) (k : Fin 256) (h : Fin 8) (x : Fin 128) :
    allK c i (tbl m 0) (tbl m 1) (hG c i) (V m c main_arg3) X (ix2 (col k h) x) = sel (A1 m c) (A3 m c) (A5 m c) (A6 m c) b k h x := by
  show rowK c i (tbl m 0) (tbl m 1) (hG c i) (V m c main_arg3) X (rowIx (ix2 (col k h) x)) (inPage (ix2 (col k h) x)) = _
  rw [page_col]
  have hr := row_col k h x
  generalize rowIx (ix2 (col k h) x) = r at hr
  have hw := word_at m c i b hb r k hr.symm
  have hv : (wd c i (tbl m 0) r).toNat ≤ 8192 := by rw [hw]; exact h5 _
  unfold sel
  by_cases hl : k0_cond1 (wd c i (tbl m 0) r) = 1#1
  · have hlt := (cond1_iff _ hv).1 hl
    have hp := page_at m c i b hb (wd c i (tbl m 0) r) ((hG c i).c1 r) hv
      (Fin.ofNat 64 ((A5 m c (ix3 b (0 : Fin 1) k)).toNat / 128)) (by
        rw [← hw]; show _ % 64 = _; omega)
    have hpw : (pw c i (tbl m 1) (wd c i (tbl m 0) r) ((hG c i).c1 r)).toNat < 2560 := by rw [hp]; exact h6 _
    rw [if_pos (by rw [← hw]; exact hlt)]
    refine (congrFun (rowK_pos c i (tbl m 0) (tbl m 1) (hG c i) (V m c main_arg3) X r hl) (ix2 h x)).trans ?_
    refine (srK_at (F := Ideal) c _ _ _ hl hv hpw (V m c main_arg3) h x).trans ?_
    refine congrArg (A3 m c) ?_
    have e1 : (⟨(pw c i (tbl m 1) (wd c i (tbl m 0) r) ((hG c i).c1 r)).toNat, hpw⟩ : Fin 2560)
        = Fin.ofNat 2560 (A6 m c (ix2 b (Fin.ofNat 64 ((A5 m c (ix3 b (0 : Fin 1) k)).toNat / 128)))).toNat :=
      Fin.ext (by rw [← hp]; show _ = _ % 2560; rw [Nat.mod_eq_of_lt hpw])
    have e2 : (⟨min (wd c i (tbl m 0) r).toNat 8191 % 128, by omega⟩ : Fin 128) = Fin.ofNat 128 (A5 m c (ix3 b (0 : Fin 1) k)).toNat :=
      Fin.ext (by rw [← hw]; show _ = _ % 128; dsimp only; omega)
    rw [e1, e2]
  · have hlt : ¬ (wd c i (tbl m 0) r).toNat < 8192 := fun hh => hl ((cond1_iff _ hv).2 hh)
    rw [if_neg (by rw [← hw]; exact hlt)]
    exact (congrFun (rowK_neg c i (tbl m 0) (tbl m 1) (hG c i) (V m c main_arg3) X r hl) (ix2 h x)).trans (hX h x)

theorem allV_at (hG : ∀ c, GoodAt m c) (c : Dev nD) (i : grid0.Coords) (b : Fin 32) (hb : b.val = (i 0).val)
    (h5 : ∀ x, (A5 m c x).toNat ≤ 8192) (h6 : ∀ x, (A6 m c x).toNat < 2560) (X : FVec Ideal S8x128 .f32)
    (hX : ∀ h x, X (ix2 h x) = A2 m c (ix4 b (0 : Fin 1) h x)) (k : Fin 256) (h : Fin 8) (x : Fin 128) :
    allV c i (tbl m 0) (tbl m 1) (hG c i) (V m c main_arg4) X (ix2 (col k h) x) = sel (A2 m c) (A4 m c) (A5 m c) (A6 m c) b k h x := by
  show rowV c i (tbl m 0) (tbl m 1) (hG c i) (V m c main_arg4) X (rowIx (ix2 (col k h) x)) (inPage (ix2 (col k h) x)) = _
  rw [page_col]
  have hr := row_col k h x
  generalize rowIx (ix2 (col k h) x) = r at hr
  have hw := word_at m c i b hb r k hr.symm
  have hv : (wd c i (tbl m 0) r).toNat ≤ 8192 := by rw [hw]; exact h5 _
  unfold sel
  by_cases hl : k0_cond1 (wd c i (tbl m 0) r) = 1#1
  · have hlt := (cond1_iff _ hv).1 hl
    have hp := page_at m c i b hb (wd c i (tbl m 0) r) ((hG c i).c1 r) hv
      (Fin.ofNat 64 ((A5 m c (ix3 b (0 : Fin 1) k)).toNat / 128)) (by
        rw [← hw]; show _ % 64 = _; omega)
    have hpw : (pw c i (tbl m 1) (wd c i (tbl m 0) r) ((hG c i).c1 r)).toNat < 2560 := by rw [hp]; exact h6 _
    rw [if_pos (by rw [← hw]; exact hlt)]
    refine (congrFun (rowV_pos c i (tbl m 0) (tbl m 1) (hG c i) (V m c main_arg4) X r hl) (ix2 h x)).trans ?_
    refine (srV_at (F := Ideal) c _ _ _ hl hv hpw (V m c main_arg4) h x).trans ?_
    refine congrArg (A4 m c) ?_
    have e1 : (⟨(pw c i (tbl m 1) (wd c i (tbl m 0) r) ((hG c i).c1 r)).toNat, hpw⟩ : Fin 2560)
        = Fin.ofNat 2560 (A6 m c (ix2 b (Fin.ofNat 64 ((A5 m c (ix3 b (0 : Fin 1) k)).toNat / 128)))).toNat :=
      Fin.ext (by rw [← hp]; show _ = _ % 2560; rw [Nat.mod_eq_of_lt hpw])
    have e2 : (⟨min (wd c i (tbl m 0) r).toNat 8191 % 128, by omega⟩ : Fin 128) = Fin.ofNat 128 (A5 m c (ix3 b (0 : Fin 1) k)).toNat :=
      Fin.ext (by rw [← hw]; show _ = _ % 128; dsimp only; omega)
    rw [e1, e2]
  · have hlt : ¬ (wd c i (tbl m 0) r).toNat < 8192 := fun hh => hl ((cond1_iff _ hv).2 hh)
    rw [if_neg (by rw [← hw]; exact hlt)]
    exact (congrFun (rowV_neg c i (tbl m 0) (tbl m 1) (hG c i) (V m c main_arg4) X r hl) (ix2 h x)).trans (hX h x)

theorem new2_at (x4 : Vec Ideal S1x8x128 .f32) (h : Fin 8) (x : Fin 128) : k0_pay2 (F := Ideal) x4 (ix2 h x) = x4 (ix3 (0 : Fin 1) h x) := by
  pointwise [k0_pay2]
theorem new3_at (x4 : Vec Ideal S1x8x128 .f32) (h : Fin 8) (x : Fin 128) : k0_pay3 (F := Ideal) x4 (ix2 h x) = x4 (ix3 (0 : Fin 1) h x) := by
  pointwise [k0_pay3]

/-- The precondition of the value claim at this program's arguments. -/
def PreF : Prop := ∀ c : Dev nD,
  Cert.Pre_finite.fn (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) = fun _ => 1#1

theorem pre_of (hP : PreF m) : Pre m := fun c => PreFin.drawn _ _ _ _ _ _ _ (hP c)

/-- The logits are real. -/
theorem lgt_real (hP : PreF m) (c : Dev nD) (b : Fin 32) (h : Fin 8) (k : Fin 256) :
    ∃ r : ℝ, lgt (A0 m c) (A1 m c) (A3 m c) (A5 m c) (A6 m c) b h k = (r : EReal) := by
  have r0 := fun x => PreFin.real_of _ (PreFin.lt0 _ _ _ _ _ _ _ (hP c) x)
  have r1 := fun x => PreFin.real_of _ (PreFin.lt1 _ _ _ _ _ _ _ (hP c) x)
  have r3 := fun x => PreFin.real_of _ (PreFin.lt3 _ _ _ _ _ _ _ (hP c) x)
  obtain ⟨s, hs⟩ := Soft.sum_real Finset.univ (fun x : Fin 128 => A0 m c (ix4 b (0 : Fin 1) h x) * sel (A1 m c) (A3 m c) (A5 m c) (A6 m c) b k h x) (fun x => by
    obtain ⟨p, hp⟩ := r0 (ix4 b (0 : Fin 1) h x)
    have hq : ∃ q : ℝ, sel (A1 m c) (A3 m c) (A5 m c) (A6 m c) b k h x = (q : EReal) := by
      unfold sel
      split
      · exact r3 _
      · exact r1 _
    obtain ⟨q, hq⟩ := hq
    exact ⟨p * q, by rw [hq]; exact (congrArg (· * (q : EReal)) hp).trans (EReal.coe_mul p q).symm⟩)
  refine ⟨s * (11863283 / 134217728), ?_⟩
  unfold lgt
  rw [hs, Ref.ofBits_scale, EReal.coe_mul]

/-- The reference's value at this program's arguments. -/
def refVal (c : Dev nD) : FVec Ideal S32x8x128 .bf16 :=
  Ref.outp (Ref.expo (Ref.logits (A0 m c) (A5 m c) (Ref.rows (A1 m c) (A3 m c) (A5 m c) (A6 m c)))) (Ref.rows (A2 m c) (A4 m c) (A5 m c) (A6 m c))

theorem out_value (hP : PreF m) (hG : ∀ c, GoodAt m c) (c : Dev nD) : (dats m hG 0 c).arrAt 3 (cfgM m).N = refVal m c := by
  obtain ⟨h5, h6⟩ := words _ _ _ _ _ _ _ (pre_of m hP c)
  refine arr_eq m hG c (refVal m c) (fun t b hb h d => ?_)
  have hbi : b.val = (grid0.coords t 0).val := by rw [coords_fin]; exact hb
  refine Eq.trans ?_ (Ref.ref_at (A0 m c) (A1 m c) (A2 m c) (A3 m c) (A4 m c) (A5 m c) (A6 m c) h5 h6 b h d).symm
  exact pay_eq (A0 m c) (A1 m c) (A2 m c) (A3 m c) (A4 m c) (A5 m c) (A6 m c) b h d _ _ _
    (fun x => iblk0_at m c t b hb h x)
    (fun k x => allK_at m hG c (grid0.coords t) b hbi h5 h6 _ (fun h x => (new2_at _ h x).trans (iblk1_at m c t b hb h x)) k h x)
    (fun k => allV_at m hG c (grid0.coords t) b hbi h5 h6 _ (fun h x => (new3_at _ h x).trans (iblk2_at m c t b hb h x)) k h d)
    (fun k => lgt_real m hP c b h k)

/-- The run leaves the reference's value in the result and the arguments as they were. -/
theorem value_run (ρ : Dev nD → PrngReg) (hP : PreF m) :
    θ_run defs (onTc (τ := τ) (main (F := Ideal))) ⟨m, fun _ => 0, ρ⟩ (fun r => ∀ c : Dev nD,
      r.2.mem ((c.tc : Thread nD τ).loc main_v5) = refVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h.1 c).1 3).trans (out_value m hP (goodAt m (pre_of m hP)) c),
      (h.1 c).2 main_arg0 rest_arg0,
      (h.1 c).2 main_arg1 rest_arg1,
      (h.1 c).2 main_arg2 rest_arg2,
      (h.1 c).2 main_arg3 rest_arg3,
      (h.1 c).2 main_arg4 rest_arg4,
      (h.1 c).2 main_arg5 rest_arg5,
      (h.1 c).2 main_arg6 rest_arg6⟩) (run_main m ρ (goodAt m (pre_of m hP)))

end Rows

end Cert.Proof.KernelIdeal
end
-- ==== Proof.OutCase.lean ====
/- What one step of the layer's second half leaves in its buffers, as the step's own payloads. -/
module

public import proofs.«01_k».proof.Proof.Gen.Kernel2Ideal.Frame
public import Idealize.ShloMosaic.Lib.Pipeline.ValueKit

@[expose] public section

set_option maxRecDepth 16384

noncomputable section

namespace Cert.Proof.Out

open Cert.Kernel2Ideal Cert.Kernel2Ideal.Gen
open Idealize.ShloMosaic Idealize.ShloMosaic.TcCoe Idealize.ShloMosaic.Tactic
open Idealize.ShloMosaic.Pipeline

variable {F : FTy → Type} [FloatOps F]

theorem off0 : (![0, 0] : Fin 2 → Nat) = fun _ => 0 := funext fun a => by fin_cases a <;> rfl

section Cases
variable (c : Dev nD) (i : grid0.Coords)
  (a2 : Memref sig .tc .vmem S512x1024 .f32) (h2 : a2.IsWhole) (a3 : Memref sig .tc .vmem S512x1024 .bf16) (h3 : a3.IsWhole)
  (a4 : Memref sig .tc .vmem S1024x1024 .bf16) (h4 : a4.IsWhole) (a5 : Memref sig .tc .vmem S1x1024 .f32) (h5 : a5.IsWhole)
  (a6 : Memref sig .tc .vmem S1024x1024 .bf16) (h6 : a6.IsWhole) (a7 : Memref sig .tc .vmem S1024x1024 .bf16) (h7 : a7.IsWhole)
  (a8 : Memref sig .tc .vmem S1x1024 .f32) (h8 : a8.IsWhole) (a9 : Memref sig .tc .vmem S512x1024 .f32) (h9 : a9.IsWhole)
  (a10 : Memref sig .tc .vmem S512x1024 .f32) (h10 : a10.IsWhole) (a11 : Memref sig .tc .vmem S512x1024 .bf16) (h11 : a11.IsWhole)
  (a12 : Memref sig .tc .vmem S512x1024 .f32) (h12 : a12.IsWhole)
  (x0 : Vec F S512x1024 .f32) (x1 : Vec F S512x1024 .bf16) (x2 : Vec F S1024x1024 .bf16) (x3 : Vec F S1x1024 .f32)
  (x4 : Vec F S1024x1024 .bf16) (x5 : Vec F S1024x1024 .bf16) (x6 : Vec F S1x1024 .f32)
  (s0 : Vec F S512x1024 .f32) (s1 : Vec F S512x1024 .bf16) (s2 : Vec F S512x1024 .f32)

theorem first_x (hc0 hc1) :
    sout0_A_0 c i a2 h2 a3 h3 a4 h4 a5 h5 a6 h6 a7 h7 a8 h8 a9 h9 a10 h10 a11 h11 a12 h12 hc0 hc1 x0 x1 x2 x3 x4 x5 x6 = k0_pay2 x0 x1 x2 := by
  unfold sout0_A_0
  rw [View.read_writes_eq_canon _ _ _ (scover0_A_0 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero off0]
  simp only [View.readAt_eq_ld, h2.read_unread, h3.read_unread, h4.read_unread, View.ld_unit_zero (S := S512x1024) off0, View.ld_unit_zero (S := S1024x1024) off0]

theorem first_h (hc0 hc1) :
    sout0_A_1 c i a2 h2 a3 h3 a4 h4 a5 h5 a6 h6 a7 h7 a8 h8 a9 h9 a10 h10 a11 h11 a12 h12 hc0 hc1 x0 x1 x2 x3 x4 x5 x6 = k0_pay3 x0 x1 x2 x3 := by
  unfold sout0_A_1
  rw [View.read_writes_eq_canon _ _ _ (scover0_A_1 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero off0]
  simp only [View.readAt_eq_ld, h2.read_unread, h3.read_unread, h4.read_unread, h5.read_unread, View.ld_unit_zero (S := S512x1024) off0, View.ld_unit_zero (S := S1024x1024) off0, View.ld_unit_zero (S := S1x1024) off0]

theorem first_acc (hc0 hc1) :
    sout0_A_2 c i a2 h2 a3 h3 a4 h4 a5 h5 a6 h6 a7 h7 a8 h8 a9 h9 a10 h10 a11 h11 a12 h12 hc0 hc1 x0 x1 x2 x3 x4 x5 x6
      = k0_pay5 (k0_pay3 x0 x1 x2 x3) x4 k0_pay4 x5 := by
  unfold sout0_A_2
  rw [View.read_writes_eq_canon _ _ _ (scover0_A_2 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_cons_unit_zero (S := S512x1024) off0]
  simp only [View.readCov_unit_zero (S := S512x1024) _ off0, View.readAt_eq_ld, h2.read_unread, h3.read_unread, h4.read_unread, h5.read_unread, h6.read_unread, h7.read_unread,
    View.ld_unit_zero (S := S512x1024) off0, View.ld_unit_zero (S := S1024x1024) off0, View.ld_unit_zero (S := S1x1024) off0]

theorem mid_acc (hc0 hc1) :
    sout0_B_2 c i a2 h2 a3 h3 a4 h4 a5 h5 a6 h6 a7 h7 a8 h8 a9 h9 a10 h10 a11 h11 a12 h12 hc0 hc1 x0 x1 x2 x3 x4 x5 x6 s0 s1 s2 = k0_pay5 s1 x4 s2 x5 := by
  unfold sout0_B_2
  rw [View.read_writes_eq_canon _ _ _ (scover0_B_2 c i a2 h2 a3 h3 a4 h4 a5 h5 a6 h6 a7 h7 a8 h8 a9 h9 a10 h10 a11 h11 a12 h12 hc0 hc1 x0 x1 x2 x3 x4 x5 x6 s0 s1 s2)]
  unfold kernelRun0_B
  dsimp only
  sl_unfold_words
  rw [View.canon_unit_zero off0]
  simp only [View.readAt_eq_ld, h6.read_unread, h7.read_unread, h11.read_unread, h12.read_unread, View.ld_unit_zero (S := S512x1024) off0, View.ld_unit_zero (S := S1024x1024) off0]

theorem last_out (hc0 hc1) :
    out0_C_7 c i a2 h2 a3 h3 a4 h4 a5 h5 a6 h6 a7 h7 a8 h8 a9 h9 a10 h10 a11 h11 a12 h12 hc0 hc1 x0 x1 x2 x3 x4 x5 x6 s0 s1 s2
      = k0_pay6 s0 (k0_pay5 s1 x4 s2 x5) x6 := by
  unfold out0_C_7
  rw [View.read_writes_eq_canon _ _ _ (cover0_C_7 c i a2 h2 a3 h3 a4 h4 a5 h5 a6 h6 a7 h7 a8 h8 a9 h9 a10 h10 a11 h11 a12 h12 hc0 hc1 x0 x1 x2 x3 x4 x5 x6 s0 s1 s2)]
  unfold kernelRun0_C
  dsimp only
  sl_unfold_words
  rw [View.canon_unit_zero off0]
  simp only [View.readCov_unit_zero (S := S512x1024) _ off0, View.readAt_eq_ld, h6.read_unread, h7.read_unread, h8.read_unread, h10.read_unread, h11.read_unread, h12.read_unread,
    View.ld_unit_zero (S := S512x1024) off0, View.ld_unit_zero (S := S1024x1024) off0, View.ld_unit_zero (S := S1x1024) off0]
end Cases

variable (m : (ℓ : Loc nD τ sig) → Buf (Elt F) ℓ)

/-- One row tile: what its last step stores, from the blocks of its four steps. -/
theorem tile_out (c : Dev nD) (t0 t1 t2 t3 : Fin cfg0.N) (e0 : t0.val % 4 = 0) (e1 : t1.val = t0.val + 1) (e2 : t2.val = t1.val + 1) (e3 : t3.val = t2.val + 1) :
    (outsAt0 m c t3.val t3.isLt).1
      = k0_pay6 (k0_pay2 (iblk m c 0 t0) (iblk m c 1 t0) (iblk m c 2 t0))
          (k0_pay5 (k0_pay3 (iblk m c 0 t0) (iblk m c 1 t0) (iblk m c 2 t0) (iblk m c 3 t0)) (iblk m c 4 t3)
            (k0_pay5 (k0_pay3 (iblk m c 0 t0) (iblk m c 1 t0) (iblk m c 2 t0) (iblk m c 3 t0)) (iblk m c 4 t2)
              (k0_pay5 (k0_pay3 (iblk m c 0 t0) (iblk m c 1 t0) (iblk m c 2 t0) (iblk m c 3 t0)) (iblk m c 4 t1)
                (k0_pay5 (k0_pay3 (iblk m c 0 t0) (iblk m c 1 t0) (iblk m c 2 t0) (iblk m c 3 t0)) (iblk m c 4 t0) k0_pay4 (iblk m c 5 t0))
                (iblk m c 5 t1)) (iblk m c 5 t2)) (iblk m c 5 t3)) (iblk m c 6 t3) := by
  have p1 : ∀ h, outsAt0 m c (t1.val - 1) h = outsAt0 m c t0.val t0.isLt := by
    have : t1.val - 1 = t0.val := by omega
    rw [this]; intro _; rfl
  have p2 : ∀ h, outsAt0 m c (t2.val - 1) h = outsAt0 m c t1.val t1.isLt := by
    have : t2.val - 1 = t1.val := by omega
    rw [this]; intro _; rfl
  have p3 : ∀ h, outsAt0 m c (t3.val - 1) h = outsAt0 m c t2.val t2.isLt := by
    have : t3.val - 1 = t2.val := by omega
    rw [this]; intro _; rfl
  have q0 := outsAt0_A m c t0 e0 (by omega)
  have q1 := outsAt0_B m c t1 (by omega) (by omega)
  have q2 := outsAt0_B m c t2 (by omega) (by omega)
  have q3 := outsAt0_C m c t3 (by omega) (by omega)
  rw [first_x, first_h, first_acc] at q0
  rw [mid_acc, p1, q0] at q1
  rw [mid_acc, p2, q1] at q2
  rw [last_out, p3, q2] at q3
  rw [q3]
  rfl

end Cert.Proof.Out

end
-- ==== Proof.OutSpec.lean ====
/- The layer's second half of one row, over the extended reals. -/
module

public import Idealize.ShloMosaic.Lib.Pointwise

@[expose] public section

noncomputable section

namespace Cert.Proof.OutSpec

open Idealize.ShloMosaic

/-- One element of a row normalized by its root mean square, times its gain. -/
def rms (v : Fin 1024 → EReal) (g : EReal) (n : Fin 1024) : EReal :=
  v n * Ideal.rsqrt (Ideal.div (∑ k, v k * v k) (Ideal.ofBits FTy.f32 0x44800000#32) + Ideal.ofBits FTy.f32 0x358637BD#32) * g

/-- The row with the attention's product added. -/
def add (x a : Fin 1024 → EReal) (w : Fin 1024 → Fin 1024 → EReal) (n : Fin 1024) : EReal := x n + ∑ k, a k * w k n

/-- The square of the positive part. -/
def sqp (z : EReal) : EReal := max z 0 * max z 0

/-- The feed-forward layer's sum over all 4096 hidden elements. -/
def up (h : Fin 1024 → EReal) (w1 : Fin 1024 → Fin 4096 → EReal) (w2 : Fin 4096 → Fin 1024 → EReal) (n : Fin 1024) : EReal :=
  ∑ j, sqp (∑ k, h k * w1 k j) * w2 j n

/-- Hidden element `j` of tile `f`. -/
def at4 (f : Fin 4) (j : Fin 1024) : Fin 4096 := ⟨1024 * f.val + j.val, by omega⟩

/-- The part of that sum which one tile of 1024 hidden elements gives. -/
def part (h : Fin 1024 → EReal) (w1 : Fin 1024 → Fin 4096 → EReal) (w2 : Fin 4096 → Fin 1024 → EReal) (f : Fin 4) (n : Fin 1024) : EReal :=
  ∑ j : Fin 1024, sqp (∑ k, h k * w1 k (at4 f j)) * w2 (at4 f j) n

/-- The tiles' parts, added in order to zero, are the whole sum. -/
theorem parts_eq (h : Fin 1024 → EReal) (w1 : Fin 1024 → Fin 4096 → EReal) (w2 : Fin 4096 → Fin 1024 → EReal) (n : Fin 1024) :
    0 + part h w1 w2 0 n + part h w1 w2 1 n + part h w1 w2 2 n + part h w1 w2 3 n = up h w1 w2 n := by
  have e : ∀ u : Fin 4096 → EReal, ∑ j, u j = ∑ f : Fin 4, ∑ j : Fin 1024, u (at4 f j) := fun u => by
    rw [← Fintype.sum_prod_type']
    refine (Fintype.sum_equiv (finProdFinEquiv (m := 4) (n := 1024)) _ _ fun p => congrArg u (Fin.ext ?_)).symm
    show 1024 * p.1.val + p.2.val = p.2.val + 1024 * p.1.val
    omega
  unfold up
  rw [e, Fin.sum_univ_four, zero_add]
  rfl

/-- The row of an inner layer's result, without the final normalization. -/
def lay (x a : Fin 1024 → EReal) (w : Fin 1024 → Fin 1024 → EReal) (g : Fin 1024 → EReal) (w1 : Fin 1024 → Fin 4096 → EReal)
    (w2 : Fin 4096 → Fin 1024 → EReal) (n : Fin 1024) : EReal :=
  add x a w n + up (fun k => rms (add x a w) (g k) k) w1 w2 n

/-- The row of the result. -/
def row (x a : Fin 1024 → EReal) (w : Fin 1024 → Fin 1024 → EReal) (g : Fin 1024 → EReal) (w1 : Fin 1024 → Fin 4096 → EReal)
    (w2 : Fin 4096 → Fin 1024 → EReal) (fg : Fin 1024 → EReal) (n : Fin 1024) : EReal :=
  rms (fun n => add x a w n + up (fun k => rms (add x a w) (g k) k) w1 w2 n) (fg n) n

end Cert.Proof.OutSpec
end
-- ==== Proof.OutPay.lean ====
/- The payloads of the layer's second half, one element at a time. -/
module

public import proofs.«01_k».proof.Proof.Gen.Kernel2Ideal.Skeleton
public import proofs.«01_k».proof.Proof.OutSpec

@[expose] public section

set_option maxRecDepth 16384

noncomputable section

namespace Cert.Proof.Out

open Cert.Kernel2Ideal Cert.Kernel2Ideal.Gen
open Idealize.ShloMosaic Idealize.SL.Sem
open Cert.Proof.OutSpec

theorem pay1_at (x : FVec Ideal S512x1024 .f32) (a : FVec Ideal S512x1024 .bf16) (w : FVec Ideal S1024x1024 .bf16) (r : Fin 512) (n : Fin 1024) :
    k0_pay1 (F := Ideal) x a w (ix2 r n) = add (fun n => x (ix2 r n)) (fun n => a (ix2 r n)) (fun k n => w (ix2 k n)) n := by
  pointwise [k0_pay1]
  rfl
theorem pay2_at (x : FVec Ideal S512x1024 .f32) (a : FVec Ideal S512x1024 .bf16) (w : FVec Ideal S1024x1024 .bf16) (r : Fin 512) (n : Fin 1024) :
    k0_pay2 (F := Ideal) x a w (ix2 r n) = add (fun n => x (ix2 r n)) (fun n => a (ix2 r n)) (fun k n => w (ix2 k n)) n := by
  pointwise [k0_pay2]
  exact pay1_at x a w r n
theorem pay3_at (x : FVec Ideal S512x1024 .f32) (a : FVec Ideal S512x1024 .bf16) (w : FVec Ideal S1024x1024 .bf16) (g : FVec Ideal S1x1024 .f32) (r : Fin 512) (n : Fin 1024) :
    k0_pay3 (F := Ideal) x a w g (ix2 r n)
      = rms (add (fun n => x (ix2 r n)) (fun n => a (ix2 r n)) (fun k n => w (ix2 k n))) (g (ix2 (0 : Fin 1) n)) n := by
  pointwise [k0_pay3]
  simp only [pay1_at]
  rfl
theorem pay4_at (r : Fin 512) (n : Fin 1024) : k0_pay4 (F := Ideal) (ix2 r n) = (0 : EReal) := by
  pointwise [k0_pay4]
theorem pay5_at (h : FVec Ideal S512x1024 .bf16) (w1 w2 : FVec Ideal S1024x1024 .bf16) (s : FVec Ideal S512x1024 .f32) (r : Fin 512) (n : Fin 1024) :
    k0_pay5 (F := Ideal) h w1 s w2 (ix2 r n)
      = s (ix2 r n) + ∑ j : Fin 1024, sqp (∑ k : Fin 1024, h (ix2 r k) * w1 (ix2 k j)) * w2 (ix2 j n) := by
  pointwise [k0_pay5]
  rfl
theorem pay6_at (x s : FVec Ideal S512x1024 .f32) (g : FVec Ideal S1x1024 .f32) (r : Fin 512) (n : Fin 1024) :
    k0_pay6 (F := Ideal) x s g (ix2 r n) = rms (fun n => x (ix2 r n) + s (ix2 r n)) (g (ix2 (0 : Fin 1) n)) n := by
  pointwise [k0_pay6]
  rfl

end Cert.Proof.Out
end
-- ==== Proof.OutRef.lean ====
/- The reference of the layer's second half in steps, and its steps one element at a time. -/
module

public import proofs.«01_k».proof.Proof.Gen.Reference2Ideal.Run
public import proofs.«01_k».proof.Proof.OutSpec

@[expose] public section

set_option maxRecDepth 16384

noncomputable section

namespace Cert.Proof.OutRef

open Idealize.ShloMosaic Idealize.SL.Sem Cert.Reference2Ideal Cert.Reference2Ideal.Facts Cert.Reference2Ideal.Gen

/-- The residual stream with the attention's product added. -/
def mid (x a : FVec Ideal S2x8192x1024 .f32) (w : FVec Ideal S1024x1024 .f32) : FVec Ideal S2x8192x1024 .f32 :=
  addf x (Host.dotGeneral dot_S2x8192x1024_S1024x1024_S2x8192x1024_2_0_01_1_n_n none a w)

/-- The root mean square normalization of a row. -/
def nrm (y : FVec Ideal S2x8192x1024 .f32) (g : FVec Ideal S1024 .f32) : FVec Ideal S2x8192x1024 .f32 :=
  mulf (mulf y (broadcastInDim S2x8192x1024 ![0, 1, 2] bcast_S2x8192x1_S2x8192x1024_0_1_2
      (Host.rsqrt (addf (Host.divf (broadcastInDim S2x8192x1 ![0, 1] bcast_S2x8192_S2x8192x1_0_1
          (Host.reduceAdd (mulf y y) (constant S_ .f32 0x00000000#32) reducesTo_S2x8192x1024_S2x8192_d2 h_S_))
        (broadcastInDim S2x8192x1 ![] bcast_S_S2x8192x1 (constant S_ .f32 0x44800000#32)))
        (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The hidden layer: the positive part of the product. -/
def hid (h : FVec Ideal S2x8192x1024 .f32) (w1 : FVec Ideal S1024x4096 .f32) : FVec Ideal S2x8192x4096 .f32 :=
  maximumf (Host.dotGeneral dot_S2x8192x1024_S1024x4096_S2x8192x4096_2_0_01_1_n_n none h w1)
    (broadcastInDim S2x8192x4096 ![] bcast_S_S2x8192x4096 (constant S_ .f32 0x00000000#32))

/-- The feed-forward layer's sum. -/
def ffn (u : FVec Ideal S2x8192x4096 .f32) (w2 : FVec Ideal S4096x1024 .f32) : FVec Ideal S2x8192x1024 .f32 :=
  Host.dotGeneral dot_S2x8192x4096_S4096x1024_S2x8192x1024_2_0_01_1_n_n none (mulf u u) w2

/-- The result before its rows are laid out flat. -/
def fin3 (x a : FVec Ideal S2x8192x1024 .f32) (w : FVec Ideal S1024x1024 .f32) (g : FVec Ideal S1024 .f32) (w1 : FVec Ideal S1024x4096 .f32)
    (w2 : FVec Ideal S4096x1024 .f32) (fg : FVec Ideal S1024 .f32) : FVec Ideal S2x8192x1024 .f32 :=
  nrm (addf (mid x a w) (ffn (hid (nrm (mid x a w) g) w1) w2)) fg

theorem res_eq (m : (ℓ : Loc nD τ sig) → Buf (Elt Ideal) ℓ) (c : Dev nD) :
    Value.res_main_v34 (F := Ideal) m c
      = shapeCast S16384x1024 (fin3 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))) shapeCasts_S2x8192x1024_S16384x1024 := rfl

theorem mid_at (x a : FVec Ideal S2x8192x1024 .f32) (w : FVec Ideal S1024x1024 .f32) (b : Fin 2) (s : Fin 8192) (n : Fin 1024) :
    mid x a w (ix3 b s n) = OutSpec.add (fun n => x (ix3 b s n)) (fun n => a (ix3 b s n)) (fun k n => w (ix2 k n)) n := by
  pointwise [mid]
  rfl
theorem nrm_at (y : FVec Ideal S2x8192x1024 .f32) (g : FVec Ideal S1024 .f32) (b : Fin 2) (s : Fin 8192) (n : Fin 1024) :
    nrm y g (ix3 b s n) = OutSpec.rms (fun n => y (ix3 b s n)) (g (ix1 n)) n := by
  pointwise [nrm]
  rfl
theorem hid_at (h : FVec Ideal S2x8192x1024 .f32) (w1 : FVec Ideal S1024x4096 .f32) (b : Fin 2) (s : Fin 8192) (j : Fin 4096) :
    hid h w1 (ix3 b s j) = max (∑ k : Fin 1024, h (ix3 b s k) * w1 (ix2 k j)) 0 := by
  pointwise [hid]
theorem ffn_at (u : FVec Ideal S2x8192x4096 .f32) (w2 : FVec Ideal S4096x1024 .f32) (b : Fin 2) (s : Fin 8192) (n : Fin 1024) :
    ffn u w2 (ix3 b s n) = ∑ j : Fin 4096, u (ix3 b s j) * u (ix3 b s j) * w2 (ix2 j n) := by
  pointwise [ffn]

/-- The reference's result at row `s` of sequence `b`, column `n`. -/
theorem fin3_at (x a : FVec Ideal S2x8192x1024 .f32) (w : FVec Ideal S1024x1024 .f32) (g : FVec Ideal S1024 .f32) (w1 : FVec Ideal S1024x4096 .f32)
    (w2 : FVec Ideal S4096x1024 .f32) (fg : FVec Ideal S1024 .f32) (b : Fin 2) (s : Fin 8192) (n : Fin 1024) :
    fin3 x a w g w1 w2 fg (ix3 b s n)
      = OutSpec.row (fun n => x (ix3 b s n)) (fun n => a (ix3 b s n)) (fun k n => w (ix2 k n)) (fun n => g (ix1 n)) (fun k j => w1 (ix2 k j))
          (fun j n => w2 (ix2 j n)) (fun n => fg (ix1 n)) n := by
  have e : ∀ n, addf (mid x a w) (ffn (hid (nrm (mid x a w) g) w1) w2) (ix3 b s n)
      = OutSpec.add (fun n => x (ix3 b s n)) (fun n => a (ix3 b s n)) (fun k n => w (ix2 k n)) n
        + OutSpec.up (fun k => OutSpec.rms (OutSpec.add (fun n => x (ix3 b s n)) (fun n => a (ix3 b s n)) (fun k n => w (ix2 k n))) (g (ix1 k)) k)
            (fun k j => w1 (ix2 k j)) (fun j n => w2 (ix2 j n)) n := fun n => by
    show mid x a w (ix3 b s n) + ffn (hid (nrm (mid x a w) g) w1) w2 (ix3 b s n) = _
    rw [ffn_at]
    simp only [hid_at, nrm_at, mid_at]
    rfl
  unfold fin3
  rw [nrm_at]
  simp only [e]
  rfl

end Cert.Proof.OutRef
end
-- ==== Proof.OutValue.lean ====
/- What the layer's second half leaves in its result. -/
module

public import proofs.«01_k».proof.Proof.OutCase
public import proofs.«01_k».proof.Proof.OutPay
public import proofs.«01_k».proof.Proof.OutRef
public import Idealize.ShloMosaic.Lib.ValueLayout

@[expose] public section

set_option maxRecDepth 16384

noncomputable section

namespace Cert.Proof.Out

open Cert.Kernel2Ideal Cert.Kernel2Ideal.Gen
open Idealize.ShloMosaic Idealize.ShloMosaic.TcCoe Idealize.ShloMosaic.Tactic
open Idealize.ShloMosaic.Pipeline
open Cert.Proof.OutSpec

theorem crow : ∀ t : Fin grid0.N, (grid0.coords t 0).val = t.val / 4 := by decide +kernel
theorem ctile : ∀ t : Fin grid0.N, (grid0.coords t 1).val = t.val % 4 := by decide +kernel

theorem tr0 (i : grid0.Coords) : cc0_transform_0 i = ![(i 0).val, 0] := by
  have hi : (i 0).val < 32 := (i 0).isLt
  funext a
  fin_cases a
  · show (BitVec.ofNat 32 (i 0).val).toNat = (i 0).val
    simp only [BitVec.toNat_ofNat]; omega
  · rfl
theorem tr1 (i : grid0.Coords) : cc0_transform_1 i = ![(i 0).val, 0] := tr0 i
theorem tr7 (i : grid0.Coords) : cc0_transform_7 i = ![(i 0).val, 0] := tr0 i
theorem tr2 (i : grid0.Coords) : cc0_transform_2 i = ![0, 0] := by funext a; fin_cases a <;> rfl
theorem tr3 (i : grid0.Coords) : cc0_transform_3 i = ![0, 0] := by funext a; fin_cases a <;> rfl
theorem tr6 (i : grid0.Coords) : cc0_transform_6 i = ![0, 0] := by funext a; fin_cases a <;> rfl
theorem tr4 (i : grid0.Coords) : cc0_transform_4 i = ![0, (i 1).val] := by
  have hi : (i 1).val < 4 := (i 1).isLt
  funext a
  fin_cases a
  · rfl
  · show (BitVec.ofNat 32 (i 1).val).toNat = (i 1).val
    simp only [BitVec.toNat_ofNat]; omega
theorem tr5 (i : grid0.Coords) : cc0_transform_5 i = ![(i 1).val, 0] := by
  have hi : (i 1).val < 4 := (i 1).isLt
  funext a
  fin_cases a
  · show (BitVec.ofNat 32 (i 1).val).toNat = (i 1).val
    simp only [BitVec.toNat_ofNat]; omega
  · rfl

theorem flat (x : FVec Ideal S2x8192x1024 .f32) (b : Fin 2) (s : Fin 8192) (n : Fin 1024) (R : Fin 16384) (hR : R.val = 8192 * b.val + s.val) :
    shapeCast S16384x1024 x shapeCasts_S2x8192x1024_S16384x1024 (ix2 R n) = x (ix3 b s n) :=
  shapeCast_apply _ _ _ _ (by
    rw [Shape.rowMajor_val_three, Shape.rowMajor_val_two]
    show (b.val * 8192 + s.val) * 1024 + n.val = R.val * 1024 + n.val
    omega)
theorem flat1 (x : FVec Ideal S1024 .f32) (n : Fin 1024) :
    shapeCast S1x1024 x shapeCasts_S1024_S1x1024 (ix2 (0 : Fin 1) n) = x (ix1 n) :=
  shapeCast_apply _ _ _ _ (by
    rw [Shape.rowMajor_val_one, Shape.rowMajor_val_two]
    show n.val = 0 * 1024 + n.val
    omega)

variable (m : (ℓ : Loc nD τ sig) → Buf (Elt Ideal) ℓ)

abbrev B0 (c : Dev nD) : FVec Ideal S2x8192x1024 .f32 := m ((c.tc : Thread nD τ).loc main_arg0)
abbrev B1 (c : Dev nD) : FVec Ideal S2x8192x1024 .f32 := m ((c.tc : Thread nD τ).loc main_arg1)
abbrev B2 (c : Dev nD) : FVec Ideal S1024x1024 .f32 := m ((c.tc : Thread nD τ).loc main_arg2)
abbrev B3 (c : Dev nD) : FVec Ideal S1024 .f32 := m ((c.tc : Thread nD τ).loc main_arg3)
abbrev B4 (c : Dev nD) : FVec Ideal S1024x4096 .f32 := m ((c.tc : Thread nD τ).loc main_arg4)
abbrev B5 (c : Dev nD) : FVec Ideal S4096x1024 .f32 := m ((c.tc : Thread nD τ).loc main_arg5)
abbrev B6 (c : Dev nD) : FVec Ideal S1024 .f32 := m ((c.tc : Thread nD τ).loc main_arg6)

section Blocks
variable (c : Dev nD) (t : Fin cfg0.N)

theorem iblk0_at (b : Fin 2) (s : Fin 8192) (r : Fin 512) (n : Fin 1024) (h : 512 * (t.val / 4) + r.val = 8192 * b.val + s.val) :
    iblk m c 0 t (ix2 r n) = B0 m c (ix3 b s n) := by
  have hR : 512 * (t.val / 4) + r.val < 16384 := by have := b.isLt; have := s.isLt; omega
  refine Eq.trans ?_ (flat (B0 m c) b s n ⟨512 * (t.val / 4) + r.val, hR⟩ h)
  show shapeCast S16384x1024 (B0 m c) shapeCasts_S2x8192x1024_S16384x1024 (((cfg0.win 0).rect t).emb (ix2 r n)) = _
  refine congrArg _ (funext fun a => Fin.ext ?_)
  refine ((cfg0.win 0).rect_emb_val t (ix2 r n) a rfl).trans ?_
  show cc0_transform_0 (grid0.coords t) a * _ + _ = _
  rw [tr0, crow]
  fin_cases a
  · show t.val / 4 * 512 + r.val = 512 * (t.val / 4) + r.val; omega
  · show 0 * 1024 + n.val = n.val; omega
theorem iblk1_at (b : Fin 2) (s : Fin 8192) (r : Fin 512) (n : Fin 1024) (h : 512 * (t.val / 4) + r.val = 8192 * b.val + s.val) :
    iblk m c 1 t (ix2 r n) = B1 m c (ix3 b s n) := by
  have hR : 512 * (t.val / 4) + r.val < 16384 := by have := b.isLt; have := s.isLt; omega
  refine Eq.trans ?_ (flat (B1 m c) b s n ⟨512 * (t.val / 4) + r.val, hR⟩ h)
  show shapeCast S16384x1024 (B1 m c) shapeCasts_S2x8192x1024_S16384x1024 (((cfg0.win 1).rect t).emb (ix2 r n)) = _
  refine congrArg _ (funext fun a => Fin.ext ?_)
  refine ((cfg0.win 1).rect_emb_val t (ix2 r n) a rfl).trans ?_
  show cc0_transform_1 (grid0.coords t) a * _ + _ = _
  rw [tr1, crow]
  fin_cases a
  · show t.val / 4 * 512 + r.val = 512 * (t.val / 4) + r.val; omega
  · show 0 * 1024 + n.val = n.val; omega
theorem iblk2_at (k n : Fin 1024) : iblk m c 2 t (ix2 k n) = B2 m c (ix2 k n) := by
  show B2 m c (((cfg0.win 2).rect t).emb (ix2 k n)) = _
  refine congrArg _ (funext fun a => Fin.ext ?_)
  refine ((cfg0.win 2).rect_emb_val t (ix2 k n) a rfl).trans ?_
  show cc0_transform_2 (grid0.coords t) a * _ + _ = _
  rw [tr2]
  fin_cases a
  · show 0 * 1024 + k.val = k.val; omega
  · show 0 * 1024 + n.val = n.val; omega
theorem iblk3_at (n : Fin 1024) : iblk m c 3 t (ix2 (0 : Fin 1) n) = B3 m c (ix1 n) := by
  refine Eq.trans ?_ (flat1 (B3 m c) n)
  show shapeCast S1x1024 (B3 m c) shapeCasts_S1024_S1x1024 (((cfg0.win 3).rect t).emb (ix2 (0 : Fin 1) n)) = _
  refine congrArg _ (funext fun a => Fin.ext ?_)
  refine ((cfg0.win 3).rect_emb_val t (ix2 (0 : Fin 1) n) a rfl).trans ?_
  show cc0_transform_3 (grid0.coords t) a * _ + _ = _
  rw [tr3]
  fin_cases a
  · rfl
  · show 0 * 1024 + n.val = n.val; omega
theorem iblk6_at (n : Fin 1024) : iblk m c 6 t (ix2 (0 : Fin 1) n) = B6 m c (ix1 n) := by
  refine Eq.trans ?_ (flat1 (B6 m c) n)
  show shapeCast S1x1024 (B6 m c) shapeCasts_S1024_S1x1024 (((cfg0.win 6).rect t).emb (ix2 (0 : Fin 1) n)) = _
  refine congrArg _ (funext fun a => Fin.ext ?_)
  refine ((cfg0.win 6).rect_emb_val t (ix2 (0 : Fin 1) n) a rfl).trans ?_
  show cc0_transform_6 (grid0.coords t) a * _ + _ = _
  rw [tr6]
  fin_cases a
  · rfl
  · show 0 * 1024 + n.val = n.val; omega
theorem iblk4_at (f : Fin 4) (hf : t.val % 4 = f.val) (k j : Fin 1024) : iblk m c 4 t (ix2 k j) = B4 m c (ix2 k (at4 f j)) := by
  show B4 m c (((cfg0.win 4).rect t).emb (ix2 k j)) = _
  refine congrArg _ (funext fun a => Fin.ext ?_)
  refine ((cfg0.win 4).rect_emb_val t (ix2 k j) a rfl).trans ?_
  show cc0_transform_4 (grid0.coords t) a * _ + _ = _
  rw [tr4, ctile]
  fin_cases a
  · show 0 * 1024 + k.val = k.val; omega
  · show t.val % 4 * 1024 + j.val = 1024 * f.val + j.val; omega
theorem iblk5_at (f : Fin 4) (hf : t.val % 4 = f.val) (j n : Fin 1024) : iblk m c 5 t (ix2 j n) = B5 m c (ix2 (at4 f j) n) := by
  show B5 m c (((cfg0.win 5).rect t).emb (ix2 j n)) = _
  refine congrArg _ (funext fun a => Fin.ext ?_)
  refine ((cfg0.win 5).rect_emb_val t (ix2 j n) a rfl).trans ?_
  show cc0_transform_5 (grid0.coords t) a * _ + _ = _
  rw [tr5, ctile]
  fin_cases a
  · show t.val % 4 * 1024 + j.val = 1024 * f.val + j.val; omega
  · show 0 * 1024 + n.val = n.val; omega

theorem out_emb (r : Fin 512) (n : Fin 1024) (R : Fin 16384) (h : R.val = 512 * (t.val / 4) + r.val) :
    ((cfg0.win 7).blk t).view.emb (ix2 r n) = ix2 R n := by
  refine funext fun a => Fin.ext ?_
  refine ((cfg0.win 7).rect_emb_val t (ix2 r n) a rfl).trans ?_
  show cc0_transform_7 (grid0.coords t) a * _ + _ = _
  rw [tr7, crow]
  fin_cases a
  · show t.val / 4 * 512 + r.val = R.val; omega
  · show 0 * 1024 + n.val = n.val; omega
end Blocks

/-- What the last step of a row tile stores at row `r`, column `n`. -/
theorem tile_at (c : Dev nD) (t : Fin cfg0.N) (ht : t.val % 4 = 3) (b : Fin 2) (s : Fin 8192) (r : Fin 512) (n : Fin 1024)
    (h : 512 * (t.val / 4) + r.val = 8192 * b.val + s.val) :
    (outsAt0 m c t.val t.isLt).1 (ix2 r n)
      = row (fun n => B0 m c (ix3 b s n)) (fun n => B1 m c (ix3 b s n)) (fun k n => B2 m c (ix2 k n)) (fun n => B3 m c (ix1 n))
          (fun k j => B4 m c (ix2 k j)) (fun j n => B5 m c (ix2 j n)) (fun n => B6 m c (ix1 n)) n := by
  have hN : t.val < cfg0.N := t.isLt
  have q0 : (t.val - 3) % 4 = 0 := by omega
  have q1 : (t.val - 2) % 4 = 1 := by omega
  have q2 : (t.val - 1) % 4 = 2 := by omega
  have d0 : 512 * ((t.val - 3) / 4) + r.val = 8192 * b.val + s.val := by omega
  let t0 : Fin cfg0.N := ⟨t.val - 3, by omega⟩
  let t1 : Fin cfg0.N := ⟨t.val - 2, by omega⟩
  let t2 : Fin cfg0.N := ⟨t.val - 1, by omega⟩
  rw [tile_out m c t0 t1 t2 t q0 (show t.val - 2 = t.val - 3 + 1 by omega) (show t.val - 1 = t.val - 2 + 1 by omega) (show t.val = t.val - 1 + 1 by omega)]
  have z0 : ∀ n, iblk m c 0 t0 (ix2 r n) = B0 m c (ix3 b s n) := fun n => iblk0_at m c t0 b s r n d0
  have z1 : ∀ n, iblk m c 1 t0 (ix2 r n) = B1 m c (ix3 b s n) := fun n => iblk1_at m c t0 b s r n d0
  have w10 := iblk4_at m c t0 0 q0
  have w11 := iblk4_at m c t1 1 q1
  have w12 := iblk4_at m c t2 2 q2
  have w13 := iblk4_at m c t 3 ht
  have w20 := iblk5_at m c t0 0 q0
  have w21 := iblk5_at m c t1 1 q1
  have w22 := iblk5_at m c t2 2 q2
  have w23 := iblk5_at m c t 3 ht
  rw [pay6_at]
  simp only [pay2_at, pay5_at, pay4_at, pay3_at, z0, z1, iblk2_at, iblk3_at, iblk6_at, w10, w11, w12, w13, w20, w21, w22, w23]
  unfold row
  simp only [← parts_eq]
  rfl

theorem blk_ix (y : S512x1024.Idx) : ∃ (r : Fin 512) (n : Fin 1024), y = ix2 r n := by
  refine ⟨y 0, y 1, funext fun a => ?_⟩
  fin_cases a <;> rfl
theorem arr_ix (y : S16384x1024.Idx) : ∃ (R : Fin 16384) (n : Fin 1024), y = ix2 R n := by
  refine ⟨y 0, y 1, funext fun a => ?_⟩
  fin_cases a <;> rfl

/-- The reference's result, as a value of this program's arguments. -/
def outVal (c : Dev nD) : FVec Ideal S16384x1024 .f32 :=
  shapeCast S16384x1024 (OutRef.fin3 (B0 m c) (B1 m c) (B2 m c) (B3 m c) (B4 m c) (B5 m c) (B6 m c)) shapeCasts_S2x8192x1024_S16384x1024

theorem arr_eq (c : Dev nD) : (dats m 0 c).arrAt 7 cfg0.N = outVal m c := by
  refine (dats m 0 c).arrAt_eq_of_emb 7 (outVal m c) (fun t hf y => ?_) (fun i => ?_)
  · obtain ⟨r, n, e⟩ := blk_ix y
    subst e
    have ht := (flush0_7 t).mp hf
    have hN : t.val < 128 := lt_of_lt_of_eq t.isLt (show cfg0.N = 128 from N_0)
    have hr := r.isLt
    rw [out_emb t r n ⟨512 * (t.val / 4) + r.val, by omega⟩ rfl]
    have e := tile_at m c t ht ⟨(512 * (t.val / 4) + r.val) / 8192, by omega⟩ ⟨(512 * (t.val / 4) + r.val) % 8192, by omega⟩ r n
      (show 512 * (t.val / 4) + r.val = 8192 * ((512 * (t.val / 4) + r.val) / 8192) + (512 * (t.val / 4) + r.val) % 8192 by omega)
    refine (show _ = (outsAt0 m c t.val t.isLt).1 (ix2 r n) from rfl).trans (e.trans ?_)
    unfold outVal
    rw [flat _ ⟨(512 * (t.val / 4) + r.val) / 8192, by omega⟩ ⟨(512 * (t.val / 4) + r.val) % 8192, by omega⟩ n _
      (show 512 * (t.val / 4) + r.val = 8192 * ((512 * (t.val / 4) + r.val) / 8192) + (512 * (t.val / 4) + r.val) % 8192 by omega), OutRef.fin3_at]
  · obtain ⟨R, n, e⟩ := arr_ix i
    subst e
    have hR := R.isLt
    have hb : 4 * (R.val / 512) + 3 < cfg0.N := lt_of_lt_of_eq (show _ < 128 by omega) (show 128 = cfg0.N from N_0.symm)
    refine ⟨⟨4 * (R.val / 512) + 3, hb⟩, (flush0_7 _).mpr (show (4 * (R.val / 512) + 3) % 4 = 3 by omega), ?_⟩
    rw [← out_emb ⟨4 * (R.val / 512) + 3, hb⟩ ⟨R.val % 512, by omega⟩ n R (show R.val = 512 * ((4 * (R.val / 512) + 3) / 4) + R.val % 512 by omega)]
    exact View.emb_mem_set _ _

/-- The run leaves that value, and the arguments as they were. -/
theorem value_run (ρ : Dev nD → PrngReg) :
    θ_run defs (onTc (τ := τ) (main (F := Ideal))) ⟨m, fun _ => 0, ρ⟩ (fun r => ∀ c : Dev nD,
      r.2.mem ((c.tc : Thread nD τ).loc main_v8) = outVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (arr_eq m c), h.2 c⟩) (θ_run_and (run_main m ρ) (unchanged m ρ))

end Cert.Proof.Out

end
-- ==== Proof.LayCase.lean ====
/- What one step of an inner layer's second half leaves in its buffers, as the step's own payloads. -/
module

public import proofs.«01_k».proof.Proof.Gen.Kernel3Ideal.Frame
public import Idealize.ShloMosaic.Lib.Pipeline.ValueKit

@[expose] public section

set_option maxRecDepth 16384

noncomputable section

namespace Cert.Proof.Lay

open Cert.Kernel3Ideal Cert.Kernel3Ideal.Gen
open Idealize.ShloMosaic Idealize.ShloMosaic.TcCoe Idealize.ShloMosaic.Tactic
open Idealize.ShloMosaic.Pipeline

variable {F : FTy → Type} [FloatOps F]

theorem off0 : (![0, 0] : Fin 2 → Nat) = fun _ => 0 := funext fun a => by fin_cases a <;> rfl

section Cases
variable (c : Dev nD) (i : grid0.Coords)
  (a2 : Memref sig .tc .vmem S512x1024 .f32) (h2 : a2.IsWhole) (a3 : Memref sig .tc .vmem S512x1024 .bf16) (h3 : a3.IsWhole)
  (a4 : Memref sig .tc .vmem S1024x1024 .bf16) (h4 : a4.IsWhole) (a5 : Memref sig .tc .vmem S1x1024 .f32) (h5 : a5.IsWhole)
  (a6 : Memref sig .tc .vmem S1024x1024 .bf16) (h6 : a6.IsWhole) (a7 : Memref sig .tc .vmem S1024x1024 .bf16) (h7 : a7.IsWhole)
  (a8 : Memref sig .tc .vmem S1x1024 .f32) (h8 : a8.IsWhole) (a9 : Memref sig .tc .vmem S512x1024 .f32) (h9 : a9.IsWhole)
  (a10 : Memref sig .tc .vmem S512x1024 .f32) (h10 : a10.IsWhole) (a11 : Memref sig .tc .vmem S512x1024 .bf16) (h11 : a11.IsWhole)
  (a12 : Memref sig .tc .vmem S512x1024 .f32) (h12 : a12.IsWhole)
  (x0 : Vec F S512x1024 .f32) (x1 : Vec F S512x1024 .bf16) (x2 : Vec F S1024x1024 .bf16) (x3 : Vec F S1x1024 .f32)
  (x4 : Vec F S1024x1024 .bf16) (x5 : Vec F S1024x1024 .bf16) (x6 : Vec F S1x1024 .f32)
  (s0 : Vec F S512x1024 .f32) (s1 : Vec F S512x1024 .bf16) (s2 : Vec F S512x1024 .f32)

theorem first_x (hc0 hc1) :
    sout0_A_0 c i a2 h2 a3 h3 a4 h4 a5 h5 a6 h6 a7 h7 a8 h8 a9 h9 a10 h10 a11 h11 a12 h12 hc0 hc1 x0 x1 x2 x3 x4 x5 x6 = k0_pay2 x0 x1 x2 := by
  unfold sout0_A_0
  rw [View.read_writes_eq_canon _ _ _ (scover0_A_0 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero off0]
  simp only [View.readAt_eq_ld, h2.read_unread, h3.read_unread, h4.read_unread, View.ld_unit_zero (S := S512x1024) off0, View.ld_unit_zero (S := S1024x1024) off0]

theorem first_h (hc0 hc1) :
    sout0_A_1 c i a2 h2 a3 h3 a4 h4 a5 h5 a6 h6 a7 h7 a8 h8 a9 h9 a10 h10 a11 h11 a12 h12 hc0 hc1 x0 x1 x2 x3 x4 x5 x6 = k0_pay3 x0 x1 x2 x3 := by
  unfold sout0_A_1
  rw [View.read_writes_eq_canon _ _ _ (scover0_A_1 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero off0]
  simp only [View.readAt_eq_ld, h2.read_unread, h3.read_unread, h4.read_unread, h5.read_unread, View.ld_unit_zero (S := S512x1024) off0, View.ld_unit_zero (S := S1024x1024) off0, View.ld_unit_zero (S := S1x1024) off0]

theorem first_acc (hc0 hc1) :
    sout0_A_2 c i a2 h2 a3 h3 a4 h4 a5 h5 a6 h6 a7 h7 a8 h8 a9 h9 a10 h10 a11 h11 a12 h12 hc0 hc1 x0 x1 x2 x3 x4 x5 x6
      = k0_pay5 (k0_pay3 x0 x1 x2 x3) x4 k0_pay4 x5 := by
  unfold sout0_A_2
  rw [View.read_writes_eq_canon _ _ _ (scover0_A_2 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_cons_unit_zero (S := S512x1024) off0]
  simp only [View.readCov_unit_zero (S := S512x1024) _ off0, View.readAt_eq_ld, h2.read_unread, h3.read_unread, h4.read_unread, h5.read_unread, h6.read_unread, h7.read_unread,
    View.ld_unit_zero (S := S512x1024) off0, View.ld_unit_zero (S := S1024x1024) off0, View.ld_unit_zero (S := S1x1024) off0]

theorem mid_acc (hc0 hc1) :
    sout0_B_2 c i a2 h2 a3 h3 a4 h4 a5 h5 a6 h6 a7 h7 a8 h8 a9 h9 a10 h10 a11 h11 a12 h12 hc0 hc1 x0 x1 x2 x3 x4 x5 x6 s0 s1 s2 = k0_pay5 s1 x4 s2 x5 := by
  unfold sout0_B_2
  rw [View.read_writes_eq_canon _ _ _ (scover0_B_2 c i a2 h2 a3 h3 a4 h4 a5 h5 a6 h6 a7 h7 a8 h8 a9 h9 a10 h10 a11 h11 a12 h12 hc0 hc1 x0 x1 x2 x3 x4 x5 x6 s0 s1 s2)]
  unfold kernelRun0_B
  dsimp only
  sl_unfold_words
  rw [View.canon_unit_zero off0]
  simp only [View.readAt_eq_ld, h6.read_unread, h7.read_unread, h11.read_unread, h12.read_unread, View.ld_unit_zero (S := S512x1024) off0, View.ld_unit_zero (S := S1024x1024) off0]

theorem last_out (hc0 hc1) :
    out0_C_7 c i a2 h2 a3 h3 a4 h4 a5 h5 a6 h6 a7 h7 a8 h8 a9 h9 a10 h10 a11 h11 a12 h12 hc0 hc1 x0 x1 x2 x3 x4 x5 x6 s0 s1 s2
      = k0_pay6 s0 (k0_pay5 s1 x4 s2 x5) := by
  unfold out0_C_7
  rw [View.read_writes_eq_canon _ _ _ (cover0_C_7 c i a2 h2 a3 h3 a4 h4 a5 h5 a6 h6 a7 h7 a8 h8 a9 h9 a10 h10 a11 h11 a12 h12 hc0 hc1 x0 x1 x2 x3 x4 x5 x6 s0 s1 s2)]
  unfold kernelRun0_C
  dsimp only
  sl_unfold_words
  rw [View.canon_unit_zero off0]
  simp only [View.readCov_unit_zero (S := S512x1024) _ off0, View.readAt_eq_ld, h6.read_unread, h7.read_unread, h8.read_unread, h10.read_unread, h11.read_unread, h12.read_unread,
    View.ld_unit_zero (S := S512x1024) off0, View.ld_unit_zero (S := S1024x1024) off0, View.ld_unit_zero (S := S1x1024) off0]
end Cases

variable (m : (ℓ : Loc nD τ sig) → Buf (Elt F) ℓ)

/-- One row tile: what its last step stores, from the blocks of its four steps. -/
theorem tile_out (c : Dev nD) (t0 t1 t2 t3 : Fin cfg0.N) (e0 : t0.val % 4 = 0) (e1 : t1.val = t0.val + 1) (e2 : t2.val = t1.val + 1) (e3 : t3.val = t2.val + 1) :
    (outsAt0 m c t3.val t3.isLt).1
      = k0_pay6 (k0_pay2 (iblk m c 0 t0) (iblk m c 1 t0) (iblk m c 2 t0))
          (k0_pay5 (k0_pay3 (iblk m c 0 t0) (iblk m c 1 t0) (iblk m c 2 t0) (iblk m c 3 t0)) (iblk m c 4 t3)
            (k0_pay5 (k0_pay3 (iblk m c 0 t0) (iblk m c 1 t0) (iblk m c 2 t0) (iblk m c 3 t0)) (iblk m c 4 t2)
              (k0_pay5 (k0_pay3 (iblk m c 0 t0) (iblk m c 1 t0) (iblk m c 2 t0) (iblk m c 3 t0)) (iblk m c 4 t1)
                (k0_pay5 (k0_pay3 (iblk m c 0 t0) (iblk m c 1 t0) (iblk m c 2 t0) (iblk m c 3 t0)) (iblk m c 4 t0) k0_pay4 (iblk m c 5 t0))
                (iblk m c 5 t1)) (iblk m c 5 t2)) (iblk m c 5 t3)) := by
  have p1 : ∀ h, outsAt0 m c (t1.val - 1) h = outsAt0 m c t0.val t0.isLt := by
    have : t1.val - 1 = t0.val := by omega
    rw [this]; intro _; rfl
  have p2 : ∀ h, outsAt0 m c (t2.val - 1) h = outsAt0 m c t1.val t1.isLt := by
    have : t2.val - 1 = t1.val := by omega
    rw [this]; intro _; rfl
  have p3 : ∀ h, outsAt0 m c (t3.val - 1) h = outsAt0 m c t2.val t2.isLt := by
    have : t3.val - 1 = t2.val := by omega
    rw [this]; intro _; rfl
  have q0 := outsAt0_A m c t0 e0 (by omega)
  have q1 := outsAt0_B m c t1 (by omega) (by omega)
  have q2 := outsAt0_B m c t2 (by omega) (by omega)
  have q3 := outsAt0_C m c t3 (by omega) (by omega)
  rw [first_x, first_h, first_acc] at q0
  rw [mid_acc, p1, q0] at q1
  rw [mid_acc, p2, q1] at q2
  rw [last_out, p3, q2] at q3
  rw [q3]
  rfl

end Cert.Proof.Lay

end
-- ==== Proof.LayPay.lean ====
/- The payloads of an inner layer's second half, one element at a time. -/
module

public import proofs.«01_k».proof.Proof.Gen.Kernel3Ideal.Skeleton
public import proofs.«01_k».proof.Proof.OutSpec

@[expose] public section

set_option maxRecDepth 16384

noncomputable section

namespace Cert.Proof.Lay

open Cert.Kernel3Ideal Cert.Kernel3Ideal.Gen
open Idealize.ShloMosaic Idealize.SL.Sem
open Cert.Proof.OutSpec

theorem pay1_at (x : FVec Ideal S512x1024 .f32) (a : FVec Ideal S512x1024 .bf16) (w : FVec Ideal S1024x1024 .bf16) (r : Fin 512) (n : Fin 1024) :
    k0_pay1 (F := Ideal) x a w (ix2 r n) = add (fun n => x (ix2 r n)) (fun n => a (ix2 r n)) (fun k n => w (ix2 k n)) n := by
  pointwise [k0_pay1]
  rfl
theorem pay2_at (x : FVec Ideal S512x1024 .f32) (a : FVec Ideal S512x1024 .bf16) (w : FVec Ideal S1024x1024 .bf16) (r : Fin 512) (n : Fin 1024) :
    k0_pay2 (F := Ideal) x a w (ix2 r n) = add (fun n => x (ix2 r n)) (fun n => a (ix2 r n)) (fun k n => w (ix2 k n)) n := by
  pointwise [k0_pay2]
  exact pay1_at x a w r n
theorem pay3_at (x : FVec Ideal S512x1024 .f32) (a : FVec Ideal S512x1024 .bf16) (w : FVec Ideal S1024x1024 .bf16) (g : FVec Ideal S1x1024 .f32) (r : Fin 512) (n : Fin 1024) :
    k0_pay3 (F := Ideal) x a w g (ix2 r n)
      = rms (add (fun n => x (ix2 r n)) (fun n => a (ix2 r n)) (fun k n => w (ix2 k n))) (g (ix2 (0 : Fin 1) n)) n := by
  pointwise [k0_pay3]
  simp only [pay1_at]
  rfl
theorem pay4_at (r : Fin 512) (n : Fin 1024) : k0_pay4 (F := Ideal) (ix2 r n) = (0 : EReal) := by
  pointwise [k0_pay4]
theorem pay5_at (h : FVec Ideal S512x1024 .bf16) (w1 w2 : FVec Ideal S1024x1024 .bf16) (s : FVec Ideal S512x1024 .f32) (r : Fin 512) (n : Fin 1024) :
    k0_pay5 (F := Ideal) h w1 s w2 (ix2 r n)
      = s (ix2 r n) + ∑ j : Fin 1024, sqp (∑ k : Fin 1024, h (ix2 r k) * w1 (ix2 k j)) * w2 (ix2 j n) := by
  pointwise [k0_pay5]
  rfl
theorem pay6_at (x s : FVec Ideal S512x1024 .f32) (r : Fin 512) (n : Fin 1024) :
    k0_pay6 (F := Ideal) x s (ix2 r n) = x (ix2 r n) + s (ix2 r n) := by
  pointwise [k0_pay6]

end Cert.Proof.Lay
end
-- ==== Proof.LayRef.lean ====
/- The reference of an inner layer's second half in steps, and its steps one element at a time. -/
module

public import proofs.«01_k».proof.Proof.Gen.Reference3Ideal.Run
public import proofs.«01_k».proof.Proof.OutSpec

@[expose] public section

set_option maxRecDepth 16384

noncomputable section

namespace Cert.Proof.LayRef

open Idealize.ShloMosaic Idealize.SL.Sem Cert.Reference3Ideal Cert.Reference3Ideal.Facts Cert.Reference3Ideal.Gen

/-- The residual stream with the attention's product added. -/
def mid (x a : FVec Ideal S2x8192x1024 .f32) (w : FVec Ideal S1024x1024 .f32) : FVec Ideal S2x8192x1024 .f32 :=
  addf x (Host.dotGeneral dot_S2x8192x1024_S1024x1024_S2x8192x1024_2_0_01_1_n_n none a w)

/-- The root mean square normalization of a row. -/
def nrm (y : FVec Ideal S2x8192x1024 .f32) (g : FVec Ideal S1024 .f32) : FVec Ideal S2x8192x1024 .f32 :=
  mulf (mulf y (broadcastInDim S2x8192x1024 ![0, 1, 2] bcast_S2x8192x1_S2x8192x1024_0_1_2
      (Host.rsqrt (addf (Host.divf (broadcastInDim S2x8192x1 ![0, 1] bcast_S2x8192_S2x8192x1_0_1
          (Host.reduceAdd (mulf y y) (constant S_ .f32 0x00000000#32) reducesTo_S2x8192x1024_S2x8192_d2 h_S_))
        (broadcastInDim S2x8192x1 ![] bcast_S_S2x8192x1 (constant S_ .f32 0x44800000#32)))
        (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The hidden layer: the positive part of the product. -/
def hid (h : FVec Ideal S2x8192x1024 .f32) (w1 : FVec Ideal S1024x4096 .f32) : FVec Ideal S2x8192x4096 .f32 :=
  maximumf (Host.dotGeneral dot_S2x8192x1024_S1024x4096_S2x8192x4096_2_0_01_1_n_n none h w1)
    (broadcastInDim S2x8192x4096 ![] bcast_S_S2x8192x4096 (constant S_ .f32 0x00000000#32))

/-- The feed-forward layer's sum. -/
def ffn (u : FVec Ideal S2x8192x4096 .f32) (w2 : FVec Ideal S4096x1024 .f32) : FVec Ideal S2x8192x1024 .f32 :=
  Host.dotGeneral dot_S2x8192x4096_S4096x1024_S2x8192x1024_2_0_01_1_n_n none (mulf u u) w2

/-- The result before its rows are laid out flat. -/
def fin3 (x a : FVec Ideal S2x8192x1024 .f32) (w : FVec Ideal S1024x1024 .f32) (g : FVec Ideal S1024 .f32) (w1 : FVec Ideal S1024x4096 .f32)
    (w2 : FVec Ideal S4096x1024 .f32) : FVec Ideal S2x8192x1024 .f32 :=
  addf (mid x a w) (ffn (hid (nrm (mid x a w) g) w1) w2)

/-- The result. -/
def res (x a : FVec Ideal S2x8192x1024 .f32) (w : FVec Ideal S1024x1024 .f32) (g : FVec Ideal S1024 .f32) (w1 : FVec Ideal S1024x4096 .f32)
    (w2 : FVec Ideal S4096x1024 .f32) : FVec Ideal S16384x1024 .f32 :=
  shapeCast S16384x1024 (fin3 x a w g w1 w2) shapeCasts_S2x8192x1024_S16384x1024

/-- The run leaves that value, and the arguments as they were. -/
theorem run_fin (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v21)
        = res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Value.run m ρ

theorem mid_at (x a : FVec Ideal S2x8192x1024 .f32) (w : FVec Ideal S1024x1024 .f32) (b : Fin 2) (s : Fin 8192) (n : Fin 1024) :
    mid x a w (ix3 b s n) = OutSpec.add (fun n => x (ix3 b s n)) (fun n => a (ix3 b s n)) (fun k n => w (ix2 k n)) n := by
  pointwise [mid]
  rfl
theorem nrm_at (y : FVec Ideal S2x8192x1024 .f32) (g : FVec Ideal S1024 .f32) (b : Fin 2) (s : Fin 8192) (n : Fin 1024) :
    nrm y g (ix3 b s n) = OutSpec.rms (fun n => y (ix3 b s n)) (g (ix1 n)) n := by
  pointwise [nrm]
  rfl
theorem hid_at (h : FVec Ideal S2x8192x1024 .f32) (w1 : FVec Ideal S1024x4096 .f32) (b : Fin 2) (s : Fin 8192) (j : Fin 4096) :
    hid h w1 (ix3 b s j) = max (∑ k : Fin 1024, h (ix3 b s k) * w1 (ix2 k j)) 0 := by
  pointwise [hid]
theorem ffn_at (u : FVec Ideal S2x8192x4096 .f32) (w2 : FVec Ideal S4096x1024 .f32) (b : Fin 2) (s : Fin 8192) (n : Fin 1024) :
    ffn u w2 (ix3 b s n) = ∑ j : Fin 4096, u (ix3 b s j) * u (ix3 b s j) * w2 (ix2 j n) := by
  pointwise [ffn]

/-- The reference's result at row `s` of sequence `b`, column `n`. -/
theorem fin3_at (x a : FVec Ideal S2x8192x1024 .f32) (w : FVec Ideal S1024x1024 .f32) (g : FVec Ideal S1024 .f32) (w1 : FVec Ideal S1024x4096 .f32)
    (w2 : FVec Ideal S4096x1024 .f32) (b : Fin 2) (s : Fin 8192) (n : Fin 1024) :
    fin3 x a w g w1 w2 (ix3 b s n)
      = OutSpec.lay (fun n => x (ix3 b s n)) (fun n => a (ix3 b s n)) (fun k n => w (ix2 k n)) (fun n => g (ix1 n)) (fun k j => w1 (ix2 k j))
          (fun j n => w2 (ix2 j n)) n := by
  show mid x a w (ix3 b s n) + ffn (hid (nrm (mid x a w) g) w1) w2 (ix3 b s n) = _
  rw [ffn_at]
  simp only [hid_at, nrm_at, mid_at]
  rfl

end Cert.Proof.LayRef
end
-- ==== Proof.LayValue.lean ====
/- What an inner layer's second half leaves in its result. -/
module

public import proofs.«01_k».proof.Proof.LayCase
public import proofs.«01_k».proof.Proof.LayPay
public import proofs.«01_k».proof.Proof.LayRef
public import Idealize.ShloMosaic.Lib.ValueLayout

@[expose] public section

set_option maxRecDepth 16384

noncomputable section

namespace Cert.Proof.Lay

open Cert.Kernel3Ideal Cert.Kernel3Ideal.Gen
open Idealize.ShloMosaic Idealize.ShloMosaic.TcCoe Idealize.ShloMosaic.Tactic
open Idealize.ShloMosaic.Pipeline
open Cert.Proof.OutSpec

theorem crow : ∀ t : Fin grid0.N, (grid0.coords t 0).val = t.val / 4 := by decide +kernel
theorem ctile : ∀ t : Fin grid0.N, (grid0.coords t 1).val = t.val % 4 := by decide +kernel

theorem tr0 (i : grid0.Coords) : cc0_transform_0 i = ![(i 0).val, 0] := by
  have hi : (i 0).val < 32 := (i 0).isLt
  funext a
  fin_cases a
  · show (BitVec.ofNat 32 (i 0).val).toNat = (i 0).val
    simp only [BitVec.toNat_ofNat]; omega
  · rfl
theorem tr1 (i : grid0.Coords) : cc0_transform_1 i = ![(i 0).val, 0] := tr0 i
theorem tr7 (i : grid0.Coords) : cc0_transform_7 i = ![(i 0).val, 0] := tr0 i
theorem tr2 (i : grid0.Coords) : cc0_transform_2 i = ![0, 0] := by funext a; fin_cases a <;> rfl
theorem tr3 (i : grid0.Coords) : cc0_transform_3 i = ![0, 0] := by funext a; fin_cases a <;> rfl
theorem tr4 (i : grid0.Coords) : cc0_transform_4 i = ![0, (i 1).val] := by
  have hi : (i 1).val < 4 := (i 1).isLt
  funext a
  fin_cases a
  · rfl
  · show (BitVec.ofNat 32 (i 1).val).toNat = (i 1).val
    simp only [BitVec.toNat_ofNat]; omega
theorem tr5 (i : grid0.Coords) : cc0_transform_5 i = ![(i 1).val, 0] := by
  have hi : (i 1).val < 4 := (i 1).isLt
  funext a
  fin_cases a
  · show (BitVec.ofNat 32 (i 1).val).toNat = (i 1).val
    simp only [BitVec.toNat_ofNat]; omega
  · rfl

theorem flat (x : FVec Ideal S2x8192x1024 .f32) (b : Fin 2) (s : Fin 8192) (n : Fin 1024) (R : Fin 16384) (hR : R.val = 8192 * b.val + s.val) :
    shapeCast S16384x1024 x shapeCasts_S2x8192x1024_S16384x1024 (ix2 R n) = x (ix3 b s n) :=
  shapeCast_apply _ _ _ _ (by
    rw [Shape.rowMajor_val_three, Shape.rowMajor_val_two]
    show (b.val * 8192 + s.val) * 1024 + n.val = R.val * 1024 + n.val
    omega)
theorem flat1 (x : FVec Ideal S1024 .f32) (n : Fin 1024) :
    shapeCast S1x1024 x shapeCasts_S1024_S1x1024 (ix2 (0 : Fin 1) n) = x (ix1 n) :=
  shapeCast_apply _ _ _ _ (by
    rw [Shape.rowMajor_val_one, Shape.rowMajor_val_two]
    show n.val = 0 * 1024 + n.val
    omega)

variable (m : (ℓ : Loc nD τ sig) → Buf (Elt Ideal) ℓ)

abbrev B0 (c : Dev nD) : FVec Ideal S2x8192x1024 .f32 := m ((c.tc : Thread nD τ).loc main_arg0)
abbrev B1 (c : Dev nD) : FVec Ideal S2x8192x1024 .f32 := m ((c.tc : Thread nD τ).loc main_arg1)
abbrev B2 (c : Dev nD) : FVec Ideal S1024x1024 .f32 := m ((c.tc : Thread nD τ).loc main_arg2)
abbrev B3 (c : Dev nD) : FVec Ideal S1024 .f32 := m ((c.tc : Thread nD τ).loc main_arg3)
abbrev B4 (c : Dev nD) : FVec Ideal S1024x4096 .f32 := m ((c.tc : Thread nD τ).loc main_arg4)
abbrev B5 (c : Dev nD) : FVec Ideal S4096x1024 .f32 := m ((c.tc : Thread nD τ).loc main_arg5)
abbrev B6 (c : Dev nD) : FVec Ideal S1024 .f32 := m ((c.tc : Thread nD τ).loc main_arg6)

section Blocks
variable (c : Dev nD) (t : Fin cfg0.N)

theorem iblk0_at (b : Fin 2) (s : Fin 8192) (r : Fin 512) (n : Fin 1024) (h : 512 * (t.val / 4) + r.val = 8192 * b.val + s.val) :
    iblk m c 0 t (ix2 r n) = B0 m c (ix3 b s n) := by
  have hR : 512 * (t.val / 4) + r.val < 16384 := by have := b.isLt; have := s.isLt; omega
  refine Eq.trans ?_ (flat (B0 m c) b s n ⟨512 * (t.val / 4) + r.val, hR⟩ h)
  show shapeCast S16384x1024 (B0 m c) shapeCasts_S2x8192x1024_S16384x1024 (((cfg0.win 0).rect t).emb (ix2 r n)) = _
  refine congrArg _ (funext fun a => Fin.ext ?_)
  refine ((cfg0.win 0).rect_emb_val t (ix2 r n) a rfl).trans ?_
  show cc0_transform_0 (grid0.coords t) a * _ + _ = _
  rw [tr0, crow]
  fin_cases a
  · show t.val / 4 * 512 + r.val = 512 * (t.val / 4) + r.val; omega
  · show 0 * 1024 + n.val = n.val; omega
theorem iblk1_at (b : Fin 2) (s : Fin 8192) (r : Fin 512) (n : Fin 1024) (h : 512 * (t.val / 4) + r.val = 8192 * b.val + s.val) :
    iblk m c 1 t (ix2 r n) = B1 m c (ix3 b s n) := by
  have hR : 512 * (t.val / 4) + r.val < 16384 := by have := b.isLt; have := s.isLt; omega
  refine Eq.trans ?_ (flat (B1 m c) b s n ⟨512 * (t.val / 4) + r.val, hR⟩ h)
  show shapeCast S16384x1024 (B1 m c) shapeCasts_S2x8192x1024_S16384x1024 (((cfg0.win 1).rect t).emb (ix2 r n)) = _
  refine congrArg _ (funext fun a => Fin.ext ?_)
  refine ((cfg0.win 1).rect_emb_val t (ix2 r n) a rfl).trans ?_
  show cc0_transform_1 (grid0.coords t) a * _ + _ = _
  rw [tr1, crow]
  fin_cases a
  · show t.val / 4 * 512 + r.val = 512 * (t.val / 4) + r.val; omega
  · show 0 * 1024 + n.val = n.val; omega
theorem iblk2_at (k n : Fin 1024) : iblk m c 2 t (ix2 k n) = B2 m c (ix2 k n) := by
  show B2 m c (((cfg0.win 2).rect t).emb (ix2 k n)) = _
  refine congrArg _ (funext fun a => Fin.ext ?_)
  refine ((cfg0.win 2).rect_emb_val t (ix2 k n) a rfl).trans ?_
  show cc0_transform_2 (grid0.coords t) a * _ + _ = _
  rw [tr2]
  fin_cases a
  · show 0 * 1024 + k.val = k.val; omega
  · show 0 * 1024 + n.val = n.val; omega
theorem iblk3_at (n : Fin 1024) : iblk m c 3 t (ix2 (0 : Fin 1) n) = B3 m c (ix1 n) := by
  refine Eq.trans ?_ (flat1 (B3 m c) n)
  show shapeCast S1x1024 (B3 m c) shapeCasts_S1024_S1x1024 (((cfg0.win 3).rect t).emb (ix2 (0 : Fin 1) n)) = _
  refine congrArg _ (funext fun a => Fin.ext ?_)
  refine ((cfg0.win 3).rect_emb_val t (ix2 (0 : Fin 1) n) a rfl).trans ?_
  show cc0_transform_3 (grid0.coords t) a * _ + _ = _
  rw [tr3]
  fin_cases a
  · rfl
  · show 0 * 1024 + n.val = n.val; omega
theorem iblk4_at (f : Fin 4) (hf : t.val % 4 = f.val) (k j : Fin 1024) : iblk m c 4 t (ix2 k j) = B4 m c (ix2 k (at4 f j)) := by
  show B4 m c (((cfg0.win 4).rect t).emb (ix2 k j)) = _
  refine congrArg _ (funext fun a => Fin.ext ?_)
  refine ((cfg0.win 4).rect_emb_val t (ix2 k j) a rfl).trans ?_
  show cc0_transform_4 (grid0.coords t) a * _ + _ = _
  rw [tr4, ctile]
  fin_cases a
  · show 0 * 1024 + k.val = k.val; omega
  · show t.val % 4 * 1024 + j.val = 1024 * f.val + j.val; omega
theorem iblk5_at (f : Fin 4) (hf : t.val % 4 = f.val) (j n : Fin 1024) : iblk m c 5 t (ix2 j n) = B5 m c (ix2 (at4 f j) n) := by
  show B5 m c (((cfg0.win 5).rect t).emb (ix2 j n)) = _
  refine congrArg _ (funext fun a => Fin.ext ?_)
  refine ((cfg0.win 5).rect_emb_val t (ix2 j n) a rfl).trans ?_
  show cc0_transform_5 (grid0.coords t) a * _ + _ = _
  rw [tr5, ctile]
  fin_cases a
  · show t.val % 4 * 1024 + j.val = 1024 * f.val + j.val; omega
  · show 0 * 1024 + n.val = n.val; omega

theorem out_emb (r : Fin 512) (n : Fin 1024) (R : Fin 16384) (h : R.val = 512 * (t.val / 4) + r.val) :
    ((cfg0.win 7).blk t).view.emb (ix2 r n) = ix2 R n := by
  refine funext fun a => Fin.ext ?_
  refine ((cfg0.win 7).rect_emb_val t (ix2 r n) a rfl).trans ?_
  show cc0_transform_7 (grid0.coords t) a * _ + _ = _
  rw [tr7, crow]
  fin_cases a
  · show t.val / 4 * 512 + r.val = R.val; omega
  · show 0 * 1024 + n.val = n.val; omega
end Blocks

/-- What the last step of a row tile stores at row `r`, column `n`. -/
theorem tile_at (c : Dev nD) (t : Fin cfg0.N) (ht : t.val % 4 = 3) (b : Fin 2) (s : Fin 8192) (r : Fin 512) (n : Fin 1024)
    (h : 512 * (t.val / 4) + r.val = 8192 * b.val + s.val) :
    (outsAt0 m c t.val t.isLt).1 (ix2 r n)
      = lay (fun n => B0 m c (ix3 b s n)) (fun n => B1 m c (ix3 b s n)) (fun k n => B2 m c (ix2 k n)) (fun n => B3 m c (ix1 n))
          (fun k j => B4 m c (ix2 k j)) (fun j n => B5 m c (ix2 j n)) n := by
  have hN : t.val < cfg0.N := t.isLt
  have q0 : (t.val - 3) % 4 = 0 := by omega
  have q1 : (t.val - 2) % 4 = 1 := by omega
  have q2 : (t.val - 1) % 4 = 2 := by omega
  have d0 : 512 * ((t.val - 3) / 4) + r.val = 8192 * b.val + s.val := by omega
  let t0 : Fin cfg0.N := ⟨t.val - 3, by omega⟩
  let t1 : Fin cfg0.N := ⟨t.val - 2, by omega⟩
  let t2 : Fin cfg0.N := ⟨t.val - 1, by omega⟩
  rw [tile_out m c t0 t1 t2 t q0 (show t.val - 2 = t.val - 3 + 1 by omega) (show t.val - 1 = t.val - 2 + 1 by omega) (show t.val = t.val - 1 + 1 by omega)]
  have z0 : ∀ n, iblk m c 0 t0 (ix2 r n) = B0 m c (ix3 b s n) := fun n => iblk0_at m c t0 b s r n d0
  have z1 : ∀ n, iblk m c 1 t0 (ix2 r n) = B1 m c (ix3 b s n) := fun n => iblk1_at m c t0 b s r n d0
  have w10 := iblk4_at m c t0 0 q0
  have w11 := iblk4_at m c t1 1 q1
  have w12 := iblk4_at m c t2 2 q2
  have w13 := iblk4_at m c t 3 ht
  have w20 := iblk5_at m c t0 0 q0
  have w21 := iblk5_at m c t1 1 q1
  have w22 := iblk5_at m c t2 2 q2
  have w23 := iblk5_at m c t 3 ht
  rw [pay6_at]
  simp only [pay2_at, pay5_at, pay4_at, pay3_at, z0, z1, iblk2_at, iblk3_at, w10, w11, w12, w13, w20, w21, w22, w23]
  unfold lay
  simp only [← parts_eq]
  rfl

theorem blk_ix (y : S512x1024.Idx) : ∃ (r : Fin 512) (n : Fin 1024), y = ix2 r n := by
  refine ⟨y 0, y 1, funext fun a => ?_⟩
  fin_cases a <;> rfl
theorem arr_ix (y : S16384x1024.Idx) : ∃ (R : Fin 16384) (n : Fin 1024), y = ix2 R n := by
  refine ⟨y 0, y 1, funext fun a => ?_⟩
  fin_cases a <;> rfl

/-- The reference's result, as a value of this program's arguments. -/
def outVal (c : Dev nD) : FVec Ideal S16384x1024 .f32 :=
  shapeCast S16384x1024 (LayRef.fin3 (B0 m c) (B1 m c) (B2 m c) (B3 m c) (B4 m c) (B5 m c)) shapeCasts_S2x8192x1024_S16384x1024

theorem arr_eq (c : Dev nD) : (dats m 0 c).arrAt 7 cfg0.N = outVal m c := by
  refine (dats m 0 c).arrAt_eq_of_emb 7 (outVal m c) (fun t hf y => ?_) (fun i => ?_)
  · obtain ⟨r, n, e⟩ := blk_ix y
    subst e
    have ht := (flush0_7 t).mp hf
    have hN : t.val < 128 := lt_of_lt_of_eq t.isLt (show cfg0.N = 128 from N_0)
    have hr := r.isLt
    rw [out_emb t r n ⟨512 * (t.val / 4) + r.val, by omega⟩ rfl]
    have e := tile_at m c t ht ⟨(512 * (t.val / 4) + r.val) / 8192, by omega⟩ ⟨(512 * (t.val / 4) + r.val) % 8192, by omega⟩ r n
      (show 512 * (t.val / 4) + r.val = 8192 * ((512 * (t.val / 4) + r.val) / 8192) + (512 * (t.val / 4) + r.val) % 8192 by omega)
    refine (show _ = (outsAt0 m c t.val t.isLt).1 (ix2 r n) from rfl).trans (e.trans ?_)
    unfold outVal
    rw [flat _ ⟨(512 * (t.val / 4) + r.val) / 8192, by omega⟩ ⟨(512 * (t.val / 4) + r.val) % 8192, by omega⟩ n _
      (show 512 * (t.val / 4) + r.val = 8192 * ((512 * (t.val / 4) + r.val) / 8192) + (512 * (t.val / 4) + r.val) % 8192 by omega), LayRef.fin3_at]
  · obtain ⟨R, n, e⟩ := arr_ix i
    subst e
    have hR := R.isLt
    have hb : 4 * (R.val / 512) + 3 < cfg0.N := lt_of_lt_of_eq (show _ < 128 by omega) (show 128 = cfg0.N from N_0.symm)
    refine ⟨⟨4 * (R.val / 512) + 3, hb⟩, (flush0_7 _).mpr (show (4 * (R.val / 512) + 3) % 4 = 3 by omega), ?_⟩
    rw [← out_emb ⟨4 * (R.val / 512) + 3, hb⟩ ⟨R.val % 512, by omega⟩ n R (show R.val = 512 * ((4 * (R.val / 512) + 3) / 4) + R.val % 512 by omega)]
    exact View.emb_mem_set _ _

/-- The run leaves that value, and the arguments as they were. -/
theorem value_run (ρ : Dev nD → PrngReg) :
    θ_run defs (onTc (τ := τ) (main (F := Ideal))) ⟨m, fun _ => 0, ρ⟩ (fun r => ∀ c : Dev nD,
      r.2.mem ((c.tc : Thread nD τ).loc main_v8) = outVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (arr_eq m c), h.2 c⟩) (θ_run_and (run_main m ρ) (unchanged m ρ))

end Cert.Proof.Lay

end
-- ==== Proof.SmpCase.lean ====
/- What one step of the layer's second half of the sample's rows leaves in its buffers, as the step's own payloads. -/
module

public import proofs.«01_k».proof.Proof.Gen.Kernel4Ideal.Frame
public import Idealize.ShloMosaic.Lib.Pipeline.ValueKit

@[expose] public section

set_option maxRecDepth 16384

noncomputable section

namespace Cert.Proof.Smp

open Cert.Kernel4Ideal Cert.Kernel4Ideal.Gen
open Idealize.ShloMosaic Idealize.ShloMosaic.TcCoe Idealize.ShloMosaic.Tactic
open Idealize.ShloMosaic.Pipeline

variable {F : FTy → Type} [FloatOps F]

theorem off0 : (![0, 0] : Fin 2 → Nat) = fun _ => 0 := funext fun a => by fin_cases a <;> rfl

section Cases
variable (c : Dev nD) (i : grid0.Coords)
  (a2 : Memref sig .tc .vmem S32x1024 .f32) (h2 : a2.IsWhole) (a3 : Memref sig .tc .vmem S32x1024 .bf16) (h3 : a3.IsWhole)
  (a4 : Memref sig .tc .vmem S1024x1024 .bf16) (h4 : a4.IsWhole) (a5 : Memref sig .tc .vmem S1x1024 .f32) (h5 : a5.IsWhole)
  (a6 : Memref sig .tc .vmem S1024x1024 .bf16) (h6 : a6.IsWhole) (a7 : Memref sig .tc .vmem S1024x1024 .bf16) (h7 : a7.IsWhole)
  (a8 : Memref sig .tc .vmem S1x1024 .f32) (h8 : a8.IsWhole) (a9 : Memref sig .tc .vmem S32x1024 .f32) (h9 : a9.IsWhole)
  (a10 : Memref sig .tc .vmem S32x1024 .f32) (h10 : a10.IsWhole) (a11 : Memref sig .tc .vmem S32x1024 .bf16) (h11 : a11.IsWhole)
  (a12 : Memref sig .tc .vmem S32x1024 .f32) (h12 : a12.IsWhole)
  (x0 : Vec F S32x1024 .f32) (x1 : Vec F S32x1024 .bf16) (x2 : Vec F S1024x1024 .bf16) (x3 : Vec F S1x1024 .f32)
  (x4 : Vec F S1024x1024 .bf16) (x5 : Vec F S1024x1024 .bf16) (x6 : Vec F S1x1024 .f32)
  (s0 : Vec F S32x1024 .f32) (s1 : Vec F S32x1024 .bf16) (s2 : Vec F S32x1024 .f32)

theorem first_x (hc0 hc1) :
    sout0_A_0 c i a2 h2 a3 h3 a4 h4 a5 h5 a6 h6 a7 h7 a8 h8 a9 h9 a10 h10 a11 h11 a12 h12 hc0 hc1 x0 x1 x2 x3 x4 x5 x6 = k0_pay2 x0 x1 x2 := by
  unfold sout0_A_0
  rw [View.read_writes_eq_canon _ _ _ (scover0_A_0 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero off0]
  simp only [View.readAt_eq_ld, h2.read_unread, h3.read_unread, h4.read_unread, View.ld_unit_zero (S := S32x1024) off0, View.ld_unit_zero (S := S1024x1024) off0]

theorem first_h (hc0 hc1) :
    sout0_A_1 c i a2 h2 a3 h3 a4 h4 a5 h5 a6 h6 a7 h7 a8 h8 a9 h9 a10 h10 a11 h11 a12 h12 hc0 hc1 x0 x1 x2 x3 x4 x5 x6 = k0_pay3 x0 x1 x2 x3 := by
  unfold sout0_A_1
  rw [View.read_writes_eq_canon _ _ _ (scover0_A_1 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_unit_zero off0]
  simp only [View.readAt_eq_ld, h2.read_unread, h3.read_unread, h4.read_unread, h5.read_unread, View.ld_unit_zero (S := S32x1024) off0, View.ld_unit_zero (S := S1024x1024) off0, View.ld_unit_zero (S := S1x1024) off0]

theorem first_acc (hc0 hc1) :
    sout0_A_2 c i a2 h2 a3 h3 a4 h4 a5 h5 a6 h6 a7 h7 a8 h8 a9 h9 a10 h10 a11 h11 a12 h12 hc0 hc1 x0 x1 x2 x3 x4 x5 x6
      = k0_pay5 (k0_pay3 x0 x1 x2 x3) x4 k0_pay4 x5 := by
  unfold sout0_A_2
  rw [View.read_writes_eq_canon _ _ _ (scover0_A_2 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  rw [View.canon_cons_unit_zero (S := S32x1024) off0]
  simp only [View.readCov_unit_zero (S := S32x1024) _ off0, View.readAt_eq_ld, h2.read_unread, h3.read_unread, h4.read_unread, h5.read_unread, h6.read_unread, h7.read_unread,
    View.ld_unit_zero (S := S32x1024) off0, View.ld_unit_zero (S := S1024x1024) off0, View.ld_unit_zero (S := S1x1024) off0]

theorem mid_acc (hc0 hc1) :
    sout0_B_2 c i a2 h2 a3 h3 a4 h4 a5 h5 a6 h6 a7 h7 a8 h8 a9 h9 a10 h10 a11 h11 a12 h12 hc0 hc1 x0 x1 x2 x3 x4 x5 x6 s0 s1 s2 = k0_pay5 s1 x4 s2 x5 := by
  unfold sout0_B_2
  rw [View.read_writes_eq_canon _ _ _ (scover0_B_2 c i a2 h2 a3 h3 a4 h4 a5 h5 a6 h6 a7 h7 a8 h8 a9 h9 a10 h10 a11 h11 a12 h12 hc0 hc1 x0 x1 x2 x3 x4 x5 x6 s0 s1 s2)]
  unfold kernelRun0_B
  dsimp only
  sl_unfold_words
  rw [View.canon_unit_zero off0]
  simp only [View.readAt_eq_ld, h6.read_unread, h7.read_unread, h11.read_unread, h12.read_unread, View.ld_unit_zero (S := S32x1024) off0, View.ld_unit_zero (S := S1024x1024) off0]

theorem last_out (hc0 hc1) :
    out0_C_7 c i a2 h2 a3 h3 a4 h4 a5 h5 a6 h6 a7 h7 a8 h8 a9 h9 a10 h10 a11 h11 a12 h12 hc0 hc1 x0 x1 x2 x3 x4 x5 x6 s0 s1 s2
      = k0_pay6 s0 (k0_pay5 s1 x4 s2 x5) x6 := by
  unfold out0_C_7
  rw [View.read_writes_eq_canon _ _ _ (cover0_C_7 c i a2 h2 a3 h3 a4 h4 a5 h5 a6 h6 a7 h7 a8 h8 a9 h9 a10 h10 a11 h11 a12 h12 hc0 hc1 x0 x1 x2 x3 x4 x5 x6 s0 s1 s2)]
  unfold kernelRun0_C
  dsimp only
  sl_unfold_words
  rw [View.canon_unit_zero off0]
  simp only [View.readCov_unit_zero (S := S32x1024) _ off0, View.readAt_eq_ld, h6.read_unread, h7.read_unread, h8.read_unread, h10.read_unread, h11.read_unread, h12.read_unread,
    View.ld_unit_zero (S := S32x1024) off0, View.ld_unit_zero (S := S1024x1024) off0, View.ld_unit_zero (S := S1x1024) off0]
end Cases

variable (m : (ℓ : Loc nD τ sig) → Buf (Elt F) ℓ)

/-- One row tile: what its last step stores, from the blocks of its four steps. -/
theorem tile_out (c : Dev nD) (t0 t1 t2 t3 : Fin cfg0.N) (e0 : t0.val % 4 = 0) (e1 : t1.val = t0.val + 1) (e2 : t2.val = t1.val + 1) (e3 : t3.val = t2.val + 1) :
    (outsAt0 m c t3.val t3.isLt).1
      = k0_pay6 (k0_pay2 (iblk m c 0 t0) (iblk m c 1 t0) (iblk m c 2 t0))
          (k0_pay5 (k0_pay3 (iblk m c 0 t0) (iblk m c 1 t0) (iblk m c 2 t0) (iblk m c 3 t0)) (iblk m c 4 t3)
            (k0_pay5 (k0_pay3 (iblk m c 0 t0) (iblk m c 1 t0) (iblk m c 2 t0) (iblk m c 3 t0)) (iblk m c 4 t2)
              (k0_pay5 (k0_pay3 (iblk m c 0 t0) (iblk m c 1 t0) (iblk m c 2 t0) (iblk m c 3 t0)) (iblk m c 4 t1)
                (k0_pay5 (k0_pay3 (iblk m c 0 t0) (iblk m c 1 t0) (iblk m c 2 t0) (iblk m c 3 t0)) (iblk m c 4 t0) k0_pay4 (iblk m c 5 t0))
                (iblk m c 5 t1)) (iblk m c 5 t2)) (iblk m c 5 t3)) (iblk m c 6 t3) := by
  have p1 : ∀ h, outsAt0 m c (t1.val - 1) h = outsAt0 m c t0.val t0.isLt := by
    have : t1.val - 1 = t0.val := by omega
    rw [this]; intro _; rfl
  have p2 : ∀ h, outsAt0 m c (t2.val - 1) h = outsAt0 m c t1.val t1.isLt := by
    have : t2.val - 1 = t1.val := by omega
    rw [this]; intro _; rfl
  have p3 : ∀ h, outsAt0 m c (t3.val - 1) h = outsAt0 m c t2.val t2.isLt := by
    have : t3.val - 1 = t2.val := by omega
    rw [this]; intro _; rfl
  have q0 := outsAt0_A m c t0 e0 (by omega)
  have q1 := outsAt0_B m c t1 (by omega) (by omega)
  have q2 := outsAt0_B m c t2 (by omega) (by omega)
  have q3 := outsAt0_C m c t3 (by omega) (by omega)
  rw [first_x, first_h, first_acc] at q0
  rw [mid_acc, p1, q0] at q1
  rw [mid_acc, p2, q1] at q2
  rw [last_out, p3, q2] at q3
  rw [q3]
  rfl

end Cert.Proof.Smp

end
-- ==== Proof.SmpPay.lean ====
/- The payloads of the layer's second half, one element at a time, of the sample's rows. -/
module

public import proofs.«01_k».proof.Proof.Gen.Kernel4Ideal.Skeleton
public import proofs.«01_k».proof.Proof.OutSpec

@[expose] public section

set_option maxRecDepth 16384

noncomputable section

namespace Cert.Proof.Smp

open Cert.Kernel4Ideal Cert.Kernel4Ideal.Gen
open Idealize.ShloMosaic Idealize.SL.Sem
open Cert.Proof.OutSpec

theorem pay1_at (x : FVec Ideal S32x1024 .f32) (a : FVec Ideal S32x1024 .bf16) (w : FVec Ideal S1024x1024 .bf16) (r : Fin 32) (n : Fin 1024) :
    k0_pay1 (F := Ideal) x a w (ix2 r n) = add (fun n => x (ix2 r n)) (fun n => a (ix2 r n)) (fun k n => w (ix2 k n)) n := by
  pointwise [k0_pay1]
  rfl
theorem pay2_at (x : FVec Ideal S32x1024 .f32) (a : FVec Ideal S32x1024 .bf16) (w : FVec Ideal S1024x1024 .bf16) (r : Fin 32) (n : Fin 1024) :
    k0_pay2 (F := Ideal) x a w (ix2 r n) = add (fun n => x (ix2 r n)) (fun n => a (ix2 r n)) (fun k n => w (ix2 k n)) n := by
  pointwise [k0_pay2]
  exact pay1_at x a w r n
theorem pay3_at (x : FVec Ideal S32x1024 .f32) (a : FVec Ideal S32x1024 .bf16) (w : FVec Ideal S1024x1024 .bf16) (g : FVec Ideal S1x1024 .f32) (r : Fin 32) (n : Fin 1024) :
    k0_pay3 (F := Ideal) x a w g (ix2 r n)
      = rms (add (fun n => x (ix2 r n)) (fun n => a (ix2 r n)) (fun k n => w (ix2 k n))) (g (ix2 (0 : Fin 1) n)) n := by
  pointwise [k0_pay3]
  simp only [pay1_at]
  rfl
theorem pay4_at (r : Fin 32) (n : Fin 1024) : k0_pay4 (F := Ideal) (ix2 r n) = (0 : EReal) := by
  pointwise [k0_pay4]
theorem pay5_at (h : FVec Ideal S32x1024 .bf16) (w1 w2 : FVec Ideal S1024x1024 .bf16) (s : FVec Ideal S32x1024 .f32) (r : Fin 32) (n : Fin 1024) :
    k0_pay5 (F := Ideal) h w1 s w2 (ix2 r n)
      = s (ix2 r n) + ∑ j : Fin 1024, sqp (∑ k : Fin 1024, h (ix2 r k) * w1 (ix2 k j)) * w2 (ix2 j n) := by
  pointwise [k0_pay5]
  rfl
theorem pay6_at (x s : FVec Ideal S32x1024 .f32) (g : FVec Ideal S1x1024 .f32) (r : Fin 32) (n : Fin 1024) :
    k0_pay6 (F := Ideal) x s g (ix2 r n) = rms (fun n => x (ix2 r n) + s (ix2 r n)) (g (ix2 (0 : Fin 1) n)) n := by
  pointwise [k0_pay6]
  rfl

end Cert.Proof.Smp
end
-- ==== Proof.SmpRef.lean ====
/- The reference of the layer's second half of the sample's rows in steps, and its steps one element at a time. -/
module

public import proofs.«01_k».proof.Proof.Gen.Reference4Ideal.Run
public import proofs.«01_k».proof.Proof.OutSpec

@[expose] public section

set_option maxRecDepth 16384

noncomputable section

namespace Cert.Proof.SmpRef

open Idealize.ShloMosaic Idealize.SL.Sem Cert.Reference4Ideal Cert.Reference4Ideal.Facts Cert.Reference4Ideal.Gen

/-- The residual stream with the attention's product added. -/
def mid (x a : FVec Ideal S32x1x1024 .f32) (w : FVec Ideal S1024x1024 .f32) : FVec Ideal S32x1x1024 .f32 :=
  addf x (Host.dotGeneral dot_S32x1x1024_S1024x1024_S32x1x1024_2_0_01_1_n_n none a w)

/-- The root mean square normalization of a row. -/
def nrm (y : FVec Ideal S32x1x1024 .f32) (g : FVec Ideal S1024 .f32) : FVec Ideal S32x1x1024 .f32 :=
  mulf (mulf y (broadcastInDim S32x1x1024 ![0, 1, 2] bcast_S32x1x1_S32x1x1024_0_1_2
      (Host.rsqrt (addf (Host.divf (broadcastInDim S32x1x1 ![0, 1] bcast_S32x1_S32x1x1_0_1
          (Host.reduceAdd (mulf y y) (constant S_ .f32 0x00000000#32) reducesTo_S32x1x1024_S32x1_d2 h_S_))
        (broadcastInDim S32x1x1 ![] bcast_S_S32x1x1 (constant S_ .f32 0x44800000#32)))
        (broadcastInDim S32x1x1 ![] bcast_S_S32x1x1 (constant S_ .f32 0x358637BD#32))))))
    (broadcastInDim S32x1x1024 ![0, 1, 2] bcast_S1x1x1024_S32x1x1024_0_1_2 (broadcastInDim S1x1x1024 ![2] bcast_S1024_S1x1x1024_2 g))

/-- The hidden layer: the positive part of the product. -/
def hid (h : FVec Ideal S32x1x1024 .f32) (w1 : FVec Ideal S1024x4096 .f32) : FVec Ideal S32x1x4096 .f32 :=
  maximumf (Host.dotGeneral dot_S32x1x1024_S1024x4096_S32x1x4096_2_0_01_1_n_n none h w1)
    (broadcastInDim S32x1x4096 ![] bcast_S_S32x1x4096 (constant S_ .f32 0x00000000#32))

/-- The feed-forward layer's sum. -/
def ffn (u : FVec Ideal S32x1x4096 .f32) (w2 : FVec Ideal S4096x1024 .f32) : FVec Ideal S32x1x1024 .f32 :=
  Host.dotGeneral dot_S32x1x4096_S4096x1024_S32x1x1024_2_0_01_1_n_n none (mulf u u) w2

/-- The result before its rows are laid out flat. -/
def fin3 (x a : FVec Ideal S32x1x1024 .f32) (w : FVec Ideal S1024x1024 .f32) (g : FVec Ideal S1024 .f32) (w1 : FVec Ideal S1024x4096 .f32)
    (w2 : FVec Ideal S4096x1024 .f32) (fg : FVec Ideal S1024 .f32) : FVec Ideal S32x1x1024 .f32 :=
  nrm (addf (mid x a w) (ffn (hid (nrm (mid x a w) g) w1) w2)) fg

theorem res_eq (m : (ℓ : Loc nD τ sig) → Buf (Elt Ideal) ℓ) (c : Dev nD) :
    Value.res_main_v34 (F := Ideal) m c
      = shapeCast S32x1024 (fin3 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))) shapeCasts_S32x1x1024_S32x1024 := rfl

theorem mid_at (x a : FVec Ideal S32x1x1024 .f32) (w : FVec Ideal S1024x1024 .f32) (b : Fin 32) (s : Fin 1) (n : Fin 1024) :
    mid x a w (ix3 b s n) = OutSpec.add (fun n => x (ix3 b s n)) (fun n => a (ix3 b s n)) (fun k n => w (ix2 k n)) n := by
  pointwise [mid]
  rfl
theorem nrm_at (y : FVec Ideal S32x1x1024 .f32) (g : FVec Ideal S1024 .f32) (b : Fin 32) (s : Fin 1) (n : Fin 1024) :
    nrm y g (ix3 b s n) = OutSpec.rms (fun n => y (ix3 b s n)) (g (ix1 n)) n := by
  obtain rfl : s = 0 := Subsingleton.elim s 0
  pointwise [nrm]
  rfl
theorem hid_at (h : FVec Ideal S32x1x1024 .f32) (w1 : FVec Ideal S1024x4096 .f32) (b : Fin 32) (s : Fin 1) (j : Fin 4096) :
    hid h w1 (ix3 b s j) = max (∑ k : Fin 1024, h (ix3 b s k) * w1 (ix2 k j)) 0 := by
  pointwise [hid]
theorem ffn_at (u : FVec Ideal S32x1x4096 .f32) (w2 : FVec Ideal S4096x1024 .f32) (b : Fin 32) (s : Fin 1) (n : Fin 1024) :
    ffn u w2 (ix3 b s n) = ∑ j : Fin 4096, u (ix3 b s j) * u (ix3 b s j) * w2 (ix2 j n) := by
  pointwise [ffn]

/-- The reference's result at row `s` of sequence `b`, column `n`. -/
theorem fin3_at (x a : FVec Ideal S32x1x1024 .f32) (w : FVec Ideal S1024x1024 .f32) (g : FVec Ideal S1024 .f32) (w1 : FVec Ideal S1024x4096 .f32)
    (w2 : FVec Ideal S4096x1024 .f32) (fg : FVec Ideal S1024 .f32) (b : Fin 32) (s : Fin 1) (n : Fin 1024) :
    fin3 x a w g w1 w2 fg (ix3 b s n)
      = OutSpec.row (fun n => x (ix3 b s n)) (fun n => a (ix3 b s n)) (fun k n => w (ix2 k n)) (fun n => g (ix1 n)) (fun k j => w1 (ix2 k j))
          (fun j n => w2 (ix2 j n)) (fun n => fg (ix1 n)) n := by
  have e : ∀ n, addf (mid x a w) (ffn (hid (nrm (mid x a w) g) w1) w2) (ix3 b s n)
      = OutSpec.add (fun n => x (ix3 b s n)) (fun n => a (ix3 b s n)) (fun k n => w (ix2 k n)) n
        + OutSpec.up (fun k => OutSpec.rms (OutSpec.add (fun n => x (ix3 b s n)) (fun n => a (ix3 b s n)) (fun k n => w (ix2 k n))) (g (ix1 k)) k)
            (fun k j => w1 (ix2 k j)) (fun j n => w2 (ix2 j n)) n := fun n => by
    show mid x a w (ix3 b s n) + ffn (hid (nrm (mid x a w) g) w1) w2 (ix3 b s n) = _
    rw [ffn_at]
    simp only [hid_at, nrm_at, mid_at]
    rfl
  unfold fin3
  rw [nrm_at]
  simp only [e]
  rfl

end Cert.Proof.SmpRef
end
-- ==== Proof.SmpValue.lean ====
/- What the layer's second half leaves in its result, of the sample's rows. -/
module

public import proofs.«01_k».proof.Proof.SmpCase
public import proofs.«01_k».proof.Proof.SmpPay
public import proofs.«01_k».proof.Proof.SmpRef
public import Idealize.ShloMosaic.Lib.ValueLayout

@[expose] public section

set_option maxRecDepth 16384

noncomputable section

namespace Cert.Proof.Smp

open Cert.Kernel4Ideal Cert.Kernel4Ideal.Gen
open Idealize.ShloMosaic Idealize.ShloMosaic.TcCoe Idealize.ShloMosaic.Tactic
open Idealize.ShloMosaic.Pipeline
open Cert.Proof.OutSpec

theorem crow : ∀ t : Fin grid0.N, (grid0.coords t 0).val = t.val / 4 := by decide +kernel
theorem ctile : ∀ t : Fin grid0.N, (grid0.coords t 1).val = t.val % 4 := by decide +kernel

theorem tr0 (i : grid0.Coords) : cc0_transform_0 i = ![(i 0).val, 0] := by
  have hi : (i 0).val < 1 := (i 0).isLt
  funext a
  fin_cases a
  · show (BitVec.ofNat 32 (i 0).val).toNat = (i 0).val
    simp only [BitVec.toNat_ofNat]; omega
  · rfl
theorem tr1 (i : grid0.Coords) : cc0_transform_1 i = ![(i 0).val, 0] := tr0 i
theorem tr7 (i : grid0.Coords) : cc0_transform_7 i = ![(i 0).val, 0] := tr0 i
theorem tr2 (i : grid0.Coords) : cc0_transform_2 i = ![0, 0] := by funext a; fin_cases a <;> rfl
theorem tr3 (i : grid0.Coords) : cc0_transform_3 i = ![0, 0] := by funext a; fin_cases a <;> rfl
theorem tr6 (i : grid0.Coords) : cc0_transform_6 i = ![0, 0] := by funext a; fin_cases a <;> rfl
theorem tr4 (i : grid0.Coords) : cc0_transform_4 i = ![0, (i 1).val] := by
  have hi : (i 1).val < 4 := (i 1).isLt
  funext a
  fin_cases a
  · rfl
  · show (BitVec.ofNat 32 (i 1).val).toNat = (i 1).val
    simp only [BitVec.toNat_ofNat]; omega
theorem tr5 (i : grid0.Coords) : cc0_transform_5 i = ![(i 1).val, 0] := by
  have hi : (i 1).val < 4 := (i 1).isLt
  funext a
  fin_cases a
  · show (BitVec.ofNat 32 (i 1).val).toNat = (i 1).val
    simp only [BitVec.toNat_ofNat]; omega
  · rfl

theorem flat (x : FVec Ideal S32x1x1024 .f32) (b : Fin 32) (s : Fin 1) (n : Fin 1024) (R : Fin 32) (hR : R.val = 1 * b.val + s.val) :
    shapeCast S32x1024 x shapeCasts_S32x1x1024_S32x1024 (ix2 R n) = x (ix3 b s n) :=
  shapeCast_apply _ _ _ _ (by
    rw [Shape.rowMajor_val_three, Shape.rowMajor_val_two]
    show (b.val * 1 + s.val) * 1024 + n.val = R.val * 1024 + n.val
    omega)
theorem flat1 (x : FVec Ideal S1024 .f32) (n : Fin 1024) :
    shapeCast S1x1024 x shapeCasts_S1024_S1x1024 (ix2 (0 : Fin 1) n) = x (ix1 n) :=
  shapeCast_apply _ _ _ _ (by
    rw [Shape.rowMajor_val_one, Shape.rowMajor_val_two]
    show n.val = 0 * 1024 + n.val
    omega)

variable (m : (ℓ : Loc nD τ sig) → Buf (Elt Ideal) ℓ)

abbrev B0 (c : Dev nD) : FVec Ideal S32x1x1024 .f32 := m ((c.tc : Thread nD τ).loc main_arg0)
abbrev B1 (c : Dev nD) : FVec Ideal S32x1x1024 .f32 := m ((c.tc : Thread nD τ).loc main_arg1)
abbrev B2 (c : Dev nD) : FVec Ideal S1024x1024 .f32 := m ((c.tc : Thread nD τ).loc main_arg2)
abbrev B3 (c : Dev nD) : FVec Ideal S1024 .f32 := m ((c.tc : Thread nD τ).loc main_arg3)
abbrev B4 (c : Dev nD) : FVec Ideal S1024x4096 .f32 := m ((c.tc : Thread nD τ).loc main_arg4)
abbrev B5 (c : Dev nD) : FVec Ideal S4096x1024 .f32 := m ((c.tc : Thread nD τ).loc main_arg5)
abbrev B6 (c : Dev nD) : FVec Ideal S1024 .f32 := m ((c.tc : Thread nD τ).loc main_arg6)

section Blocks
variable (c : Dev nD) (t : Fin cfg0.N)

theorem iblk0_at (b : Fin 32) (s : Fin 1) (r : Fin 32) (n : Fin 1024) (h : 32 * (t.val / 4) + r.val = 1 * b.val + s.val) :
    iblk m c 0 t (ix2 r n) = B0 m c (ix3 b s n) := by
  have hR : 32 * (t.val / 4) + r.val < 32 := by have := b.isLt; have := s.isLt; omega
  refine Eq.trans ?_ (flat (B0 m c) b s n ⟨32 * (t.val / 4) + r.val, hR⟩ h)
  show shapeCast S32x1024 (B0 m c) shapeCasts_S32x1x1024_S32x1024 (((cfg0.win 0).rect t).emb (ix2 r n)) = _
  refine congrArg _ (funext fun a => Fin.ext ?_)
  refine ((cfg0.win 0).rect_emb_val t (ix2 r n) a rfl).trans ?_
  show cc0_transform_0 (grid0.coords t) a * _ + _ = _
  rw [tr0, crow]
  fin_cases a
  · show t.val / 4 * 32 + r.val = 32 * (t.val / 4) + r.val; omega
  · show 0 * 1024 + n.val = n.val; omega
theorem iblk1_at (b : Fin 32) (s : Fin 1) (r : Fin 32) (n : Fin 1024) (h : 32 * (t.val / 4) + r.val = 1 * b.val + s.val) :
    iblk m c 1 t (ix2 r n) = B1 m c (ix3 b s n) := by
  have hR : 32 * (t.val / 4) + r.val < 32 := by have := b.isLt; have := s.isLt; omega
  refine Eq.trans ?_ (flat (B1 m c) b s n ⟨32 * (t.val / 4) + r.val, hR⟩ h)
  show shapeCast S32x1024 (B1 m c) shapeCasts_S32x1x1024_S32x1024 (((cfg0.win 1).rect t).emb (ix2 r n)) = _
  refine congrArg _ (funext fun a => Fin.ext ?_)
  refine ((cfg0.win 1).rect_emb_val t (ix2 r n) a rfl).trans ?_
  show cc0_transform_1 (grid0.coords t) a * _ + _ = _
  rw [tr1, crow]
  fin_cases a
  · show t.val / 4 * 32 + r.val = 32 * (t.val / 4) + r.val; omega
  · show 0 * 1024 + n.val = n.val; omega
theorem iblk2_at (k n : Fin 1024) : iblk m c 2 t (ix2 k n) = B2 m c (ix2 k n) := by
  show B2 m c (((cfg0.win 2).rect t).emb (ix2 k n)) = _
  refine congrArg _ (funext fun a => Fin.ext ?_)
  refine ((cfg0.win 2).rect_emb_val t (ix2 k n) a rfl).trans ?_
  show cc0_transform_2 (grid0.coords t) a * _ + _ = _
  rw [tr2]
  fin_cases a
  · show 0 * 1024 + k.val = k.val; omega
  · show 0 * 1024 + n.val = n.val; omega
theorem iblk3_at (n : Fin 1024) : iblk m c 3 t (ix2 (0 : Fin 1) n) = B3 m c (ix1 n) := by
  refine Eq.trans ?_ (flat1 (B3 m c) n)
  show shapeCast S1x1024 (B3 m c) shapeCasts_S1024_S1x1024 (((cfg0.win 3).rect t).emb (ix2 (0 : Fin 1) n)) = _
  refine congrArg _ (funext fun a => Fin.ext ?_)
  refine ((cfg0.win 3).rect_emb_val t (ix2 (0 : Fin 1) n) a rfl).trans ?_
  show cc0_transform_3 (grid0.coords t) a * _ + _ = _
  rw [tr3]
  fin_cases a
  · rfl
  · show 0 * 1024 + n.val = n.val; omega
theorem iblk6_at (n : Fin 1024) : iblk m c 6 t (ix2 (0 : Fin 1) n) = B6 m c (ix1 n) := by
  refine Eq.trans ?_ (flat1 (B6 m c) n)
  show shapeCast S1x1024 (B6 m c) shapeCasts_S1024_S1x1024 (((cfg0.win 6).rect t).emb (ix2 (0 : Fin 1) n)) = _
  refine congrArg _ (funext fun a => Fin.ext ?_)
  refine ((cfg0.win 6).rect_emb_val t (ix2 (0 : Fin 1) n) a rfl).trans ?_
  show cc0_transform_6 (grid0.coords t) a * _ + _ = _
  rw [tr6]
  fin_cases a
  · rfl
  · show 0 * 1024 + n.val = n.val; omega
theorem iblk4_at (f : Fin 4) (hf : t.val % 4 = f.val) (k j : Fin 1024) : iblk m c 4 t (ix2 k j) = B4 m c (ix2 k (at4 f j)) := by
  show B4 m c (((cfg0.win 4).rect t).emb (ix2 k j)) = _
  refine congrArg _ (funext fun a => Fin.ext ?_)
  refine ((cfg0.win 4).rect_emb_val t (ix2 k j) a rfl).trans ?_
  show cc0_transform_4 (grid0.coords t) a * _ + _ = _
  rw [tr4, ctile]
  fin_cases a
  · show 0 * 1024 + k.val = k.val; omega
  · show t.val % 4 * 1024 + j.val = 1024 * f.val + j.val; omega
theorem iblk5_at (f : Fin 4) (hf : t.val % 4 = f.val) (j n : Fin 1024) : iblk m c 5 t (ix2 j n) = B5 m c (ix2 (at4 f j) n) := by
  show B5 m c (((cfg0.win 5).rect t).emb (ix2 j n)) = _
  refine congrArg _ (funext fun a => Fin.ext ?_)
  refine ((cfg0.win 5).rect_emb_val t (ix2 j n) a rfl).trans ?_
  show cc0_transform_5 (grid0.coords t) a * _ + _ = _
  rw [tr5, ctile]
  fin_cases a
  · show t.val % 4 * 1024 + j.val = 1024 * f.val + j.val; omega
  · show 0 * 1024 + n.val = n.val; omega

theorem out_emb (r : Fin 32) (n : Fin 1024) (R : Fin 32) (h : R.val = 32 * (t.val / 4) + r.val) :
    ((cfg0.win 7).blk t).view.emb (ix2 r n) = ix2 R n := by
  refine funext fun a => Fin.ext ?_
  refine ((cfg0.win 7).rect_emb_val t (ix2 r n) a rfl).trans ?_
  show cc0_transform_7 (grid0.coords t) a * _ + _ = _
  rw [tr7, crow]
  fin_cases a
  · show t.val / 4 * 32 + r.val = R.val; omega
  · show 0 * 1024 + n.val = n.val; omega
end Blocks

/-- What the last step of a row tile stores at row `r`, column `n`. -/
theorem tile_at (c : Dev nD) (t : Fin cfg0.N) (ht : t.val % 4 = 3) (b : Fin 32) (s : Fin 1) (r : Fin 32) (n : Fin 1024)
    (h : 32 * (t.val / 4) + r.val = 1 * b.val + s.val) :
    (outsAt0 m c t.val t.isLt).1 (ix2 r n)
      = row (fun n => B0 m c (ix3 b s n)) (fun n => B1 m c (ix3 b s n)) (fun k n => B2 m c (ix2 k n)) (fun n => B3 m c (ix1 n))
          (fun k j => B4 m c (ix2 k j)) (fun j n => B5 m c (ix2 j n)) (fun n => B6 m c (ix1 n)) n := by
  have hN : t.val < cfg0.N := t.isLt
  have q0 : (t.val - 3) % 4 = 0 := by omega
  have q1 : (t.val - 2) % 4 = 1 := by omega
  have q2 : (t.val - 1) % 4 = 2 := by omega
  have d0 : 32 * ((t.val - 3) / 4) + r.val = 1 * b.val + s.val := by omega
  let t0 : Fin cfg0.N := ⟨t.val - 3, by omega⟩
  let t1 : Fin cfg0.N := ⟨t.val - 2, by omega⟩
  let t2 : Fin cfg0.N := ⟨t.val - 1, by omega⟩
  rw [tile_out m c t0 t1 t2 t q0 (show t.val - 2 = t.val - 3 + 1 by omega) (show t.val - 1 = t.val - 2 + 1 by omega) (show t.val = t.val - 1 + 1 by omega)]
  have z0 : ∀ n, iblk m c 0 t0 (ix2 r n) = B0 m c (ix3 b s n) := fun n => iblk0_at m c t0 b s r n d0
  have z1 : ∀ n, iblk m c 1 t0 (ix2 r n) = B1 m c (ix3 b s n) := fun n => iblk1_at m c t0 b s r n d0
  have w10 := iblk4_at m c t0 0 q0
  have w11 := iblk4_at m c t1 1 q1
  have w12 := iblk4_at m c t2 2 q2
  have w13 := iblk4_at m c t 3 ht
  have w20 := iblk5_at m c t0 0 q0
  have w21 := iblk5_at m c t1 1 q1
  have w22 := iblk5_at m c t2 2 q2
  have w23 := iblk5_at m c t 3 ht
  rw [pay6_at]
  simp only [pay2_at, pay5_at, pay4_at, pay3_at, z0, z1, iblk2_at, iblk3_at, iblk6_at, w10, w11, w12, w13, w20, w21, w22, w23]
  unfold row
  simp only [← parts_eq]
  rfl

theorem blk_ix (y : S32x1024.Idx) : ∃ (r : Fin 32) (n : Fin 1024), y = ix2 r n := by
  refine ⟨y 0, y 1, funext fun a => ?_⟩
  fin_cases a <;> rfl
theorem arr_ix (y : S32x1024.Idx) : ∃ (R : Fin 32) (n : Fin 1024), y = ix2 R n := by
  refine ⟨y 0, y 1, funext fun a => ?_⟩
  fin_cases a <;> rfl

/-- The reference's result, as a value of this program's arguments. -/
def outVal (c : Dev nD) : FVec Ideal S32x1024 .f32 :=
  shapeCast S32x1024 (SmpRef.fin3 (B0 m c) (B1 m c) (B2 m c) (B3 m c) (B4 m c) (B5 m c) (B6 m c)) shapeCasts_S32x1x1024_S32x1024

theorem arr_eq (c : Dev nD) : (dats m 0 c).arrAt 7 cfg0.N = outVal m c := by
  refine (dats m 0 c).arrAt_eq_of_emb 7 (outVal m c) (fun t hf y => ?_) (fun i => ?_)
  · obtain ⟨r, n, e⟩ := blk_ix y
    subst e
    have ht := (flush0_7 t).mp hf
    have hN : t.val < 4 := lt_of_lt_of_eq t.isLt (show cfg0.N = 4 from N_0)
    have hr := r.isLt
    rw [out_emb t r n ⟨32 * (t.val / 4) + r.val, by omega⟩ rfl]
    have e := tile_at m c t ht ⟨(32 * (t.val / 4) + r.val) / 1, by omega⟩ ⟨(32 * (t.val / 4) + r.val) % 1, by omega⟩ r n
      (show 32 * (t.val / 4) + r.val = 1 * ((32 * (t.val / 4) + r.val) / 1) + (32 * (t.val / 4) + r.val) % 1 by omega)
    refine (show _ = (outsAt0 m c t.val t.isLt).1 (ix2 r n) from rfl).trans (e.trans ?_)
    unfold outVal
    rw [flat _ ⟨(32 * (t.val / 4) + r.val) / 1, by omega⟩ ⟨(32 * (t.val / 4) + r.val) % 1, by omega⟩ n _
      (show 32 * (t.val / 4) + r.val = 1 * ((32 * (t.val / 4) + r.val) / 1) + (32 * (t.val / 4) + r.val) % 1 by omega), SmpRef.fin3_at]
  · obtain ⟨R, n, e⟩ := arr_ix i
    subst e
    have hR := R.isLt
    have hb : 4 * (R.val / 32) + 3 < cfg0.N := lt_of_lt_of_eq (show _ < 4 by omega) (show 4 = cfg0.N from N_0.symm)
    refine ⟨⟨4 * (R.val / 32) + 3, hb⟩, (flush0_7 _).mpr (show (4 * (R.val / 32) + 3) % 4 = 3 by omega), ?_⟩
    rw [← out_emb ⟨4 * (R.val / 32) + 3, hb⟩ ⟨R.val % 32, by omega⟩ n R (show R.val = 32 * ((4 * (R.val / 32) + 3) / 4) + R.val % 32 by omega)]
    exact View.emb_mem_set _ _

/-- The run leaves that value, and the arguments as they were. -/
theorem value_run (ρ : Dev nD → PrngReg) :
    θ_run defs (onTc (τ := τ) (main (F := Ideal))) ⟨m, fun _ => 0, ρ⟩ (fun r => ∀ c : Dev nD,
      r.2.mem ((c.tc : Thread nD τ).loc main_v8) = outVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (arr_eq m c), h.2 c⟩) (θ_run_and (run_main m ρ) (unchanged m ρ))

end Cert.Proof.Smp

end
-- ==== Proof.lean ====
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_drawn
public import proofs.«01_k».proof.Proof.Good
public import proofs.«01_k».proof.Proof.KGood
public import proofs.«01_k».proof.Proof.Value
public import proofs.«01_k».proof.Proof.Gen.Kernel2.Frame
public import proofs.«01_k».proof.Proof.Gen.Reference2Ideal.Run
public import proofs.«01_k».proof.Proof.OutValue
public import proofs.«01_k».proof.Proof.Gen.Kernel3.Frame
public import proofs.«01_k».proof.Proof.Gen.Reference3Ideal.Run
public import proofs.«01_k».proof.Proof.LayValue
public import proofs.«01_k».proof.Proof.Gen.Kernel4.Frame
public import proofs.«01_k».proof.Proof.Gen.Reference4Ideal.Run
public import proofs.«01_k».proof.Proof.SmpValue

@[expose] public section

noncomputable section

namespace Cert.Proof

open Idealize.ShloMosaic

/-- The reference's run leaves the same value, for arguments that agree. -/
theorem ref_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = KernelIdeal.A0 m c)
    (e1 : m' ((c.tc : Thread Cert.ReferenceIdeal.nD Cert.ReferenceIdeal.τ).loc Cert.ReferenceIdeal.main_arg1) = KernelIdeal.A1 m c)
    (e2 : m' ((c.tc : Thread Cert.ReferenceIdeal.nD Cert.ReferenceIdeal.τ).loc Cert.ReferenceIdeal.main_arg2) = KernelIdeal.A2 m c)
    (e3 : m' ((c.tc : Thread Cert.ReferenceIdeal.nD Cert.ReferenceIdeal.τ).loc Cert.ReferenceIdeal.main_arg3) = KernelIdeal.A3 m c)
    (e4 : m' ((c.tc : Thread Cert.ReferenceIdeal.nD Cert.ReferenceIdeal.τ).loc Cert.ReferenceIdeal.main_arg4) = KernelIdeal.A4 m c)
    (e5 : m' ((c.tc : Thread Cert.ReferenceIdeal.nD Cert.ReferenceIdeal.τ).loc Cert.ReferenceIdeal.main_arg5) = KernelIdeal.A5 m c)
    (e6 : m' ((c.tc : Thread Cert.ReferenceIdeal.nD Cert.ReferenceIdeal.τ).loc Cert.ReferenceIdeal.main_arg6) = KernelIdeal.A6 m c) :
    Cert.ReferenceIdeal.Value.res_main_v91 (F := Ideal) m' c = KernelIdeal.refVal m c := by
  rw [Ref.res_eq, e0, e1, e2, e3, e4, e5, e6]
  rfl

/-- The second reference's run leaves the same value, for arguments that agree. -/
theorem out_same (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (e0 : m' ((c.tc : Thread Cert.Reference2Ideal.nD Cert.Reference2Ideal.τ).loc Cert.Reference2Ideal.main_arg0) = Out.B0 m c)
    (e1 : m' ((c.tc : Thread Cert.Reference2Ideal.nD Cert.Reference2Ideal.τ).loc Cert.Reference2Ideal.main_arg1) = Out.B1 m c)
    (e2 : m' ((c.tc : Thread Cert.Reference2Ideal.nD Cert.Reference2Ideal.τ).loc Cert.Reference2Ideal.main_arg2) = Out.B2 m c)
    (e3 : m' ((c.tc : Thread Cert.Reference2Ideal.nD Cert.Reference2Ideal.τ).loc Cert.Reference2Ideal.main_arg3) = Out.B3 m c)
    (e4 : m' ((c.tc : Thread Cert.Reference2Ideal.nD Cert.Reference2Ideal.τ).loc Cert.Reference2Ideal.main_arg4) = Out.B4 m c)
    (e5 : m' ((c.tc : Thread Cert.Reference2Ideal.nD Cert.Reference2Ideal.τ).loc Cert.Reference2Ideal.main_arg5) = Out.B5 m c)
    (e6 : m' ((c.tc : Thread Cert.Reference2Ideal.nD Cert.Reference2Ideal.τ).loc Cert.Reference2Ideal.main_arg6) = Out.B6 m c) :
    Cert.Reference2Ideal.Value.res_main_v34 (F := Ideal) m' c = Out.outVal m c := by
  rw [OutRef.res_eq, e0, e1, e2, e3, e4, e5, e6]
  rfl

/-- The third reference's value, for arguments that agree. -/
theorem lay_same (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (e0 : m' ((c.tc : Thread Cert.Reference3Ideal.nD Cert.Reference3Ideal.τ).loc Cert.Reference3Ideal.main_arg0) = Lay.B0 m c)
    (e1 : m' ((c.tc : Thread Cert.Reference3Ideal.nD Cert.Reference3Ideal.τ).loc Cert.Reference3Ideal.main_arg1) = Lay.B1 m c)
    (e2 : m' ((c.tc : Thread Cert.Reference3Ideal.nD Cert.Reference3Ideal.τ).loc Cert.Reference3Ideal.main_arg2) = Lay.B2 m c)
    (e3 : m' ((c.tc : Thread Cert.Reference3Ideal.nD Cert.Reference3Ideal.τ).loc Cert.Reference3Ideal.main_arg3) = Lay.B3 m c)
    (e4 : m' ((c.tc : Thread Cert.Reference3Ideal.nD Cert.Reference3Ideal.τ).loc Cert.Reference3Ideal.main_arg4) = Lay.B4 m c)
    (e5 : m' ((c.tc : Thread Cert.Reference3Ideal.nD Cert.Reference3Ideal.τ).loc Cert.Reference3Ideal.main_arg5) = Lay.B5 m c) :
    LayRef.res (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg4))
        (m' ((c.tc : Thread Cert.Reference3Ideal.nD Cert.Reference3Ideal.τ).loc Cert.Reference3Ideal.main_arg5))
      = Lay.outVal m c := by
  rw [e0, e1, e2, e3, e4, e5]
  rfl

/-- The fourth reference's run leaves the same value, for arguments that agree. -/
theorem smp_same (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (e0 : m' ((c.tc : Thread Cert.Reference4Ideal.nD Cert.Reference4Ideal.τ).loc Cert.Reference4Ideal.main_arg0) = Smp.B0 m c)
    (e1 : m' ((c.tc : Thread Cert.Reference4Ideal.nD Cert.Reference4Ideal.τ).loc Cert.Reference4Ideal.main_arg1) = Smp.B1 m c)
    (e2 : m' ((c.tc : Thread Cert.Reference4Ideal.nD Cert.Reference4Ideal.τ).loc Cert.Reference4Ideal.main_arg2) = Smp.B2 m c)
    (e3 : m' ((c.tc : Thread Cert.Reference4Ideal.nD Cert.Reference4Ideal.τ).loc Cert.Reference4Ideal.main_arg3) = Smp.B3 m c)
    (e4 : m' ((c.tc : Thread Cert.Reference4Ideal.nD Cert.Reference4Ideal.τ).loc Cert.Reference4Ideal.main_arg4) = Smp.B4 m c)
    (e5 : m' ((c.tc : Thread Cert.Reference4Ideal.nD Cert.Reference4Ideal.τ).loc Cert.Reference4Ideal.main_arg5) = Smp.B5 m c)
    (e6 : m' ((c.tc : Thread Cert.Reference4Ideal.nD Cert.Reference4Ideal.τ).loc Cert.Reference4Ideal.main_arg6) = Smp.B6 m c) :
    Cert.Reference4Ideal.Value.res_main_v34 (F := Ideal) m' c = Smp.outVal m c := by
  rw [SmpRef.res_eq, e0, e1, e2, e3, e4, e5, e6]
  rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_drawn.Gen.facts, PreFin.facts,
    fun m g hP => Kernel.frame_run m g hP,
    fun m g hP => KernelIdeal.frame_run m g hP,
    fun m g hP => KernelIdeal.frame_run m g (KernelIdeal.pre_of m hP),
    fun m g _ => (θ_run _ _ _).mono (fun r h => ⟨fun c => (h c).2, sem_eq_zero_of_no_sems (by decide) r.2⟩) (Cert.ReferenceIdeal.Value.run m g),
    fun m g _ => (θ_run _ _ _).mono (fun r h => ⟨fun c => (h c).2, sem_eq_zero_of_no_sems (by decide) r.2⟩) (Cert.ReferenceIdeal.Value.run m g),
    fun m g _ => Cert.Kernel2.Gen.frame m g,
    fun m g _ => Cert.Kernel2Ideal.Gen.frame m g,
    fun m g _ => (θ_run _ _ _).mono (fun r h => ⟨fun c => (h c).2, sem_eq_zero_of_no_sems (by decide) r.2⟩) (Cert.Reference2Ideal.Value.run m g),
    fun m g _ => Cert.Kernel3.Gen.frame m g,
    fun m g _ => Cert.Kernel3Ideal.Gen.frame m g,
    fun m g _ => (θ_run _ _ _).mono (fun r h => ⟨fun c => (h c).2, sem_eq_zero_of_no_sems (by decide) r.2⟩) (Cert.Reference3Ideal.Value.run m g),
    fun m g _ => Cert.Kernel4.Gen.frame m g,
    fun m g _ => Cert.Kernel4Ideal.Gen.frame m g,
    fun m g _ => (θ_run _ _ _).mono (fun r h => ⟨fun c => (h c).2, sem_eq_zero_of_no_sems (by decide) r.2⟩) (Cert.Reference4Ideal.Value.run m g),
    ⟨IdealRules.named_const.statement _ _ _ _ _ rfl, IdealRules.named_const.statement _ _ _ _ _ rfl⟩,
    fun m g m' g' hP hA => ⟨fun c => KernelIdeal.refVal m c, KernelIdeal.value_run m g hP,
      (θ_run _ _ _).mono (fun r h c => ⟨(h c).1.trans (ref_same m m' c (hA c).1 (hA c).2.1 (hA c).2.2.1 (hA c).2.2.2.1 (hA c).2.2.2.2.1
        (hA c).2.2.2.2.2.1 (hA c).2.2.2.2.2.2), (h c).2⟩) (Cert.ReferenceIdeal.Value.run m' g')⟩,
    trivial,
    fun m g m' g' _ hA => ⟨fun c => Out.outVal m c, Out.value_run m g,
      (θ_run _ _ _).mono (fun r h c => ⟨(h c).1.trans (out_same m m' c (hA c).1 (hA c).2.1 (hA c).2.2.1 (hA c).2.2.2.1 (hA c).2.2.2.2.1
        (hA c).2.2.2.2.2.1 (hA c).2.2.2.2.2.2), (h c).2⟩) (Cert.Reference2Ideal.Value.run m' g')⟩,
    trivial,
    fun m g m' g' _ hA => ⟨fun c => Lay.outVal m c, Lay.value_run m g,
      (θ_run _ _ _).mono (fun r h c => ⟨(h c).1.trans (lay_same m m' c (hA c).1 (hA c).2.1 (hA c).2.2.1 (hA c).2.2.2.1 (hA c).2.2.2.2.1
        (hA c).2.2.2.2.2.1), (h c).2⟩) (LayRef.run_fin m' g')⟩,
    trivial,
    fun m g m' g' _ hA => ⟨fun c => Smp.outVal m c, Smp.value_run m g,
      (θ_run _ _ _).mono (fun r h c => ⟨(h c).1.trans (smp_same m m' c (hA c).1 (hA c).2.1 (hA c).2.2.1 (hA c).2.2.2.1 (hA c).2.2.2.2.1
        (hA c).2.2.2.2.2.1 (hA c).2.2.2.2.2.2), (h c).2⟩) (Cert.Reference4Ideal.Value.run m' g')⟩⟩

end Cert.Proof

end
